-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MoeUp (m : (ℓ : Loc Cert.MoeUp.nD Cert.MoeUp.τ Cert.MoeUp.sig) → Buf (Elt Bits) ℓ) : Prop :=
  True

def Pre_MoeUpIdeal (m : (ℓ : Loc Cert.MoeUpIdeal.nD Cert.MoeUpIdeal.τ Cert.MoeUpIdeal.sig) → Buf (Elt Ideal) ℓ) : Prop :=
  True

def Pre_MoeUpReferenceIdeal (m : (ℓ : Loc Cert.MoeUpReferenceIdeal.nD Cert.MoeUpReferenceIdeal.τ Cert.MoeUpReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_MoeDown (m : (ℓ : Loc Cert.MoeDown.nD Cert.MoeDown.τ Cert.MoeDown.sig) → Buf (Elt Bits) ℓ) : Prop :=
  True

def Pre_MoeDownIdeal (m : (ℓ : Loc Cert.MoeDownIdeal.nD Cert.MoeDownIdeal.τ Cert.MoeDownIdeal.sig) → Buf (Elt Ideal) ℓ) : Prop :=
  True

def Pre_MoeDownReferenceIdeal (m : (ℓ : Loc Cert.MoeDownReferenceIdeal.nD Cert.MoeDownReferenceIdeal.τ Cert.MoeDownReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptReferenceIdeal (m : (ℓ : Loc Cert.NormPromptReferenceIdeal.nD Cert.NormPromptReferenceIdeal.τ Cert.NormPromptReferenceIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleReferenceIdeal (m : (ℓ : Loc Cert.NormSampleReferenceIdeal.nD Cert.NormSampleReferenceIdeal.τ Cert.NormSampleReferenceIdeal.sig) → Buf (Elt Ideal) ℓ) : Prop :=
  True

def Pre_NormMixers (m : (ℓ : Loc Cert.NormMixers.nD Cert.NormMixers.τ Cert.NormMixers.sig) → Buf (Elt Bits) ℓ) : Prop :=
  True

def Pre_NormMixersIdeal (m : (ℓ : Loc Cert.NormMixersIdeal.nD Cert.NormMixersIdeal.τ Cert.NormMixersIdeal.sig) → Buf (Elt Ideal) ℓ) : Prop :=
  True

def Pre_NormMixersReferenceIdeal (m : (ℓ : Loc Cert.NormMixersReferenceIdeal.nD Cert.NormMixersReferenceIdeal.τ Cert.NormMixersReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_GlaGate (m : (ℓ : Loc Cert.GlaGate.nD Cert.GlaGate.τ Cert.GlaGate.sig) → Buf (Elt Bits) ℓ) : Prop :=
  True

def Pre_GlaGateIdeal (m : (ℓ : Loc Cert.GlaGateIdeal.nD Cert.GlaGateIdeal.τ Cert.GlaGateIdeal.sig) → Buf (Elt Ideal) ℓ) : Prop :=
  True

def Pre_GlaGateReferenceIdeal (m : (ℓ : Loc Cert.GlaGateReferenceIdeal.nD Cert.GlaGateReferenceIdeal.τ Cert.GlaGateReferenceIdeal.sig) → Buf (Elt Ideal) ℓ) : Prop :=
  True

def Pre_GlaPost (m : (ℓ : Loc Cert.GlaPost.nD Cert.GlaPost.τ Cert.GlaPost.sig) → Buf (Elt Bits) ℓ) : Prop :=
  True

def Pre_GlaPostIdeal (m : (ℓ : Loc Cert.GlaPostIdeal.nD Cert.GlaPostIdeal.τ Cert.GlaPostIdeal.sig) → Buf (Elt Ideal) ℓ) : Prop :=
  True

def Pre_GlaPostReferenceIdeal (m : (ℓ : Loc Cert.GlaPostReferenceIdeal.nD Cert.GlaPostReferenceIdeal.τ Cert.GlaPostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_MoeUp [hMoeUp : Cert.MoeUp.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3))
      ∧ r.2.sem = fun _ => 0)

def quiescent_MoeUpIdeal [hMoeUpIdeal : Cert.MoeUpIdeal.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3))
      ∧ r.2.sem = fun _ => 0)

def quiescent_MoeUpReferenceIdeal [hMoeUpReferenceIdeal : Cert.MoeUpReferenceIdeal.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_MoeDown [hMoeDown : Cert.MoeDown.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2))
      ∧ r.2.sem = fun _ => 0)

def quiescent_MoeDownIdeal [hMoeDownIdeal : Cert.MoeDownIdeal.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2))
      ∧ r.2.sem = fun _ => 0)

def quiescent_MoeDownReferenceIdeal [hMoeDownReferenceIdeal : Cert.MoeDownReferenceIdeal.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ r.2.sem = fun _ => 0)

def quiescent_NormPromptReferenceIdeal [hNormPromptReferenceIdeal : Cert.NormPromptReferenceIdeal.Facts] : Prop :=
  ∀ (m : (ℓ : Loc Cert.NormPromptReferenceIdeal.nD Cert.NormPromptReferenceIdeal.τ Cert.NormPromptReferenceIdeal.sig) → Buf (Elt Ideal) ℓ) (g : Dev Cert.NormPromptReferenceIdeal.nD → PrngReg), Pre_NormPromptReferenceIdeal m →
    θ_run (Cert.NormPromptReferenceIdeal.defs (F := Ideal)) (onTc (τ := Cert.NormPromptReferenceIdeal.τ) (Cert.NormPromptReferenceIdeal.main (F := Ideal))) ⟨m, fun _ => 0, g⟩ (fun r => (∀ c : Dev Cert.NormPromptReferenceIdeal.nD,
      r.2.mem ((c.tc : Thread Cert.NormPromptReferenceIdeal.nD Cert.NormPromptReferenceIdeal.τ).loc Cert.NormPromptReferenceIdeal.main_arg0) = m ((c.tc : Thread Cert.NormPromptReferenceIdeal.nD Cert.NormPromptReferenceIdeal.τ).loc Cert.NormPromptReferenceIdeal.main_arg0)
      ∧ r.2.mem ((c.tc : Thread Cert.NormPromptReferenceIdeal.nD Cert.NormPromptReferenceIdeal.τ).loc Cert.NormPromptReferenceIdeal.main_arg1) = m ((c.tc : Thread Cert.NormPromptReferenceIdeal.nD Cert.NormPromptReferenceIdeal.τ).loc Cert.NormPromptReferenceIdeal.main_arg1))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleReferenceIdeal [hNormSampleReferenceIdeal : Cert.NormSampleReferenceIdeal.Facts] : Prop :=
  ∀ (m : (ℓ : Loc Cert.NormSampleReferenceIdeal.nD Cert.NormSampleReferenceIdeal.τ Cert.NormSampleReferenceIdeal.sig) → Buf (Elt Ideal) ℓ) (g : Dev Cert.NormSampleReferenceIdeal.nD → PrngReg), Pre_NormSampleReferenceIdeal m →
    θ_run (Cert.NormSampleReferenceIdeal.defs (F := Ideal)) (onTc (τ := Cert.NormSampleReferenceIdeal.τ) (Cert.NormSampleReferenceIdeal.main (F := Ideal))) ⟨m, fun _ => 0, g⟩ (fun r => (∀ c : Dev Cert.NormSampleReferenceIdeal.nD,
      r.2.mem ((c.tc : Thread Cert.NormSampleReferenceIdeal.nD Cert.NormSampleReferenceIdeal.τ).loc Cert.NormSampleReferenceIdeal.main_arg0) = m ((c.tc : Thread Cert.NormSampleReferenceIdeal.nD Cert.NormSampleReferenceIdeal.τ).loc Cert.NormSampleReferenceIdeal.main_arg0)
      ∧ r.2.mem ((c.tc : Thread Cert.NormSampleReferenceIdeal.nD Cert.NormSampleReferenceIdeal.τ).loc Cert.NormSampleReferenceIdeal.main_arg1) = m ((c.tc : Thread Cert.NormSampleReferenceIdeal.nD Cert.NormSampleReferenceIdeal.τ).loc Cert.NormSampleReferenceIdeal.main_arg1))
      ∧ r.2.sem = fun _ => 0)

def quiescent_NormMixers [hNormMixers : Cert.NormMixers.Facts] : Prop :=
  ∀ (m : (ℓ : Loc Cert.NormMixers.nD Cert.NormMixers.τ Cert.NormMixers.sig) → Buf (Elt Bits) ℓ) (g : Dev Cert.NormMixers.nD → PrngReg), Pre_NormMixers m →
    θ_run (Cert.NormMixers.defs (F := Bits)) (onTc (τ := Cert.NormMixers.τ) (Cert.NormMixers.main (F := Bits))) ⟨m, fun _ => 0, g⟩ (fun r => (∀ c : Dev Cert.NormMixers.nD,
      r.2.mem ((c.tc : Thread Cert.NormMixers.nD Cert.NormMixers.τ).loc Cert.NormMixers.main_arg0) = m ((c.tc : Thread Cert.NormMixers.nD Cert.NormMixers.τ).loc Cert.NormMixers.main_arg0)
      ∧ r.2.mem ((c.tc : Thread Cert.NormMixers.nD Cert.NormMixers.τ).loc Cert.NormMixers.main_arg1) = m ((c.tc : Thread Cert.NormMixers.nD Cert.NormMixers.τ).loc Cert.NormMixers.main_arg1))
      ∧ r.2.sem = fun _ => 0)

def quiescent_NormMixersIdeal [hNormMixersIdeal : Cert.NormMixersIdeal.Facts] : Prop :=
  ∀ (m : (ℓ : Loc Cert.NormMixersIdeal.nD Cert.NormMixersIdeal.τ Cert.NormMixersIdeal.sig) → Buf (Elt Ideal) ℓ) (g : Dev Cert.NormMixersIdeal.nD → PrngReg), Pre_NormMixersIdeal m →
    θ_run (Cert.NormMixersIdeal.defs (F := Ideal)) (onTc (τ := Cert.NormMixersIdeal.τ) (Cert.NormMixersIdeal.main (F := Ideal))) ⟨m, fun _ => 0, g⟩ (fun r => (∀ c : Dev Cert.NormMixersIdeal.nD,
      r.2.mem ((c.tc : Thread Cert.NormMixersIdeal.nD Cert.NormMixersIdeal.τ).loc Cert.NormMixersIdeal.main_arg0) = m ((c.tc : Thread Cert.NormMixersIdeal.nD Cert.NormMixersIdeal.τ).loc Cert.NormMixersIdeal.main_arg0)
      ∧ r.2.mem ((c.tc : Thread Cert.NormMixersIdeal.nD Cert.NormMixersIdeal.τ).loc Cert.NormMixersIdeal.main_arg1) = m ((c.tc : Thread Cert.NormMixersIdeal.nD Cert.NormMixersIdeal.τ).loc Cert.NormMixersIdeal.main_arg1))
      ∧ r.2.sem = fun _ => 0)

def quiescent_NormMixersReferenceIdeal [hNormMixersReferenceIdeal : Cert.NormMixersReferenceIdeal.Facts] : Prop :=
  ∀ (m : (ℓ : Loc Cert.NormMixersReferenceIdeal.nD Cert.NormMixersReferenceIdeal.τ Cert.NormMixersReferenceIdeal.sig) → Buf (Elt Ideal) ℓ) (g : Dev Cert.NormMixersReferenceIdeal.nD → PrngReg), Pre_NormMixersReferenceIdeal m →
    θ_run (Cert.NormMixersReferenceIdeal.defs (F := Ideal)) (onTc (τ := Cert.NormMixersReferenceIdeal.τ) (Cert.NormMixersReferenceIdeal.main (F := Ideal))) ⟨m, fun _ => 0, g⟩ (fun r => (∀ c : Dev Cert.NormMixersReferenceIdeal.nD,
      r.2.mem ((c.tc : Thread Cert.NormMixersReferenceIdeal.nD Cert.NormMixersReferenceIdeal.τ).loc Cert.NormMixersReferenceIdeal.main_arg0) = m ((c.tc : Thread Cert.NormMixersReferenceIdeal.nD Cert.NormMixersReferenceIdeal.τ).loc Cert.NormMixersReferenceIdeal.main_arg0)
      ∧ r.2.mem ((c.tc : Thread Cert.NormMixersReferenceIdeal.nD Cert.NormMixersReferenceIdeal.τ).loc Cert.NormMixersReferenceIdeal.main_arg1) = m ((c.tc : Thread Cert.NormMixersReferenceIdeal.nD Cert.NormMixersReferenceIdeal.τ).loc Cert.NormMixersReferenceIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def quiescent_GlaGate [hGlaGate : Cert.GlaGate.Facts] : Prop :=
  ∀ (m : (ℓ : Loc Cert.GlaGate.nD Cert.GlaGate.τ Cert.GlaGate.sig) → Buf (Elt Bits) ℓ) (g : Dev Cert.GlaGate.nD → PrngReg), Pre_GlaGate m →
    θ_run (Cert.GlaGate.defs (F := Bits)) (onTc (τ := Cert.GlaGate.τ) (Cert.GlaGate.main (F := Bits))) ⟨m, fun _ => 0, g⟩ (fun r => (∀ c : Dev Cert.GlaGate.nD,
      r.2.mem ((c.tc : Thread Cert.GlaGate.nD Cert.GlaGate.τ).loc Cert.GlaGate.main_arg0) = m ((c.tc : Thread Cert.GlaGate.nD Cert.GlaGate.τ).loc Cert.GlaGate.main_arg0)
      ∧ r.2.mem ((c.tc : Thread Cert.GlaGate.nD Cert.GlaGate.τ).loc Cert.GlaGate.main_arg1) = m ((c.tc : Thread Cert.GlaGate.nD Cert.GlaGate.τ).loc Cert.GlaGate.main_arg1))
      ∧ r.2.sem = fun _ => 0)

def quiescent_GlaGateIdeal [hGlaGateIdeal : Cert.GlaGateIdeal.Facts] : Prop :=
  ∀ (m : (ℓ : Loc Cert.GlaGateIdeal.nD Cert.GlaGateIdeal.τ Cert.GlaGateIdeal.sig) → Buf (Elt Ideal) ℓ) (g : Dev Cert.GlaGateIdeal.nD → PrngReg), Pre_GlaGateIdeal m →
    θ_run (Cert.GlaGateIdeal.defs (F := Ideal)) (onTc (τ := Cert.GlaGateIdeal.τ) (Cert.GlaGateIdeal.main (F := Ideal))) ⟨m, fun _ => 0, g⟩ (fun r => (∀ c : Dev Cert.GlaGateIdeal.nD,
      r.2.mem ((c.tc : Thread Cert.GlaGateIdeal.nD Cert.GlaGateIdeal.τ).loc Cert.GlaGateIdeal.main_arg0) = m ((c.tc : Thread Cert.GlaGateIdeal.nD Cert.GlaGateIdeal.τ).loc Cert.GlaGateIdeal.main_arg0)
      ∧ r.2.mem ((c.tc : Thread Cert.GlaGateIdeal.nD Cert.GlaGateIdeal.τ).loc Cert.GlaGateIdeal.main_arg1) = m ((c.tc : Thread Cert.GlaGateIdeal.nD Cert.GlaGateIdeal.τ).loc Cert.GlaGateIdeal.main_arg1))
      ∧ r.2.sem = fun _ => 0)

def quiescent_GlaGateReferenceIdeal [hGlaGateReferenceIdeal : Cert.GlaGateReferenceIdeal.Facts] : Prop :=
  ∀ (m : (ℓ : Loc Cert.GlaGateReferenceIdeal.nD Cert.GlaGateReferenceIdeal.τ Cert.GlaGateReferenceIdeal.sig) → Buf (Elt Ideal) ℓ) (g : Dev Cert.GlaGateReferenceIdeal.nD → PrngReg), Pre_GlaGateReferenceIdeal m →
    θ_run (Cert.GlaGateReferenceIdeal.defs (F := Ideal)) (onTc (τ := Cert.GlaGateReferenceIdeal.τ) (Cert.GlaGateReferenceIdeal.main (F := Ideal))) ⟨m, fun _ => 0, g⟩ (fun r => (∀ c : Dev Cert.GlaGateReferenceIdeal.nD,
      r.2.mem ((c.tc : Thread Cert.GlaGateReferenceIdeal.nD Cert.GlaGateReferenceIdeal.τ).loc Cert.GlaGateReferenceIdeal.main_arg0) = m ((c.tc : Thread Cert.GlaGateReferenceIdeal.nD Cert.GlaGateReferenceIdeal.τ).loc Cert.GlaGateReferenceIdeal.main_arg0)
      ∧ r.2.mem ((c.tc : Thread Cert.GlaGateReferenceIdeal.nD Cert.GlaGateReferenceIdeal.τ).loc Cert.GlaGateReferenceIdeal.main_arg1) = m ((c.tc : Thread Cert.GlaGateReferenceIdeal.nD Cert.GlaGateReferenceIdeal.τ).loc Cert.GlaGateReferenceIdeal.main_arg1))
      ∧ r.2.sem = fun _ => 0)

def quiescent_GlaPost [hGlaPost : Cert.GlaPost.Facts] : Prop :=
  ∀ (m : (ℓ : Loc Cert.GlaPost.nD Cert.GlaPost.τ Cert.GlaPost.sig) → Buf (Elt Bits) ℓ) (g : Dev Cert.GlaPost.nD → PrngReg), Pre_GlaPost m →
    θ_run (Cert.GlaPost.defs (F := Bits)) (onTc (τ := Cert.GlaPost.τ) (Cert.GlaPost.main (F := Bits))) ⟨m, fun _ => 0, g⟩ (fun r => (∀ c : Dev Cert.GlaPost.nD,
      r.2.mem ((c.tc : Thread Cert.GlaPost.nD Cert.GlaPost.τ).loc Cert.GlaPost.main_arg0) = m ((c.tc : Thread Cert.GlaPost.nD Cert.GlaPost.τ).loc Cert.GlaPost.main_arg0)
      ∧ r.2.mem ((c.tc : Thread Cert.GlaPost.nD Cert.GlaPost.τ).loc Cert.GlaPost.main_arg1) = m ((c.tc : Thread Cert.GlaPost.nD Cert.GlaPost.τ).loc Cert.GlaPost.main_arg1)
      ∧ r.2.mem ((c.tc : Thread Cert.GlaPost.nD Cert.GlaPost.τ).loc Cert.GlaPost.main_arg2) = m ((c.tc : Thread Cert.GlaPost.nD Cert.GlaPost.τ).loc Cert.GlaPost.main_arg2)
      ∧ r.2.mem ((c.tc : Thread Cert.GlaPost.nD Cert.GlaPost.τ).loc Cert.GlaPost.main_arg3) = m ((c.tc : Thread Cert.GlaPost.nD Cert.GlaPost.τ).loc Cert.GlaPost.main_arg3))
      ∧ r.2.sem = fun _ => 0)

def quiescent_GlaPostIdeal [hGlaPostIdeal : Cert.GlaPostIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg), Pre_GlaPostIdeal m →
    θ_run (Cert.GlaPostIdeal.defs (F := Ideal)) (onTc (τ := Cert.GlaPostIdeal.τ) (Cert.GlaPostIdeal.main (F := Ideal))) ⟨m, fun _ => 0, g⟩ (fun r => (∀ c : Dev Cert.GlaPostIdeal.nD,
      r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
      ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
      ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2)
      ∧ r.2.mem ((c.tc : Thread Cert.GlaPostIdeal.nD Cert.GlaPostIdeal.τ).loc Cert.GlaPostIdeal.main_arg3) = m ((c.tc : Thread Cert.GlaPostIdeal.nD Cert.GlaPostIdeal.τ).loc Cert.GlaPostIdeal.main_arg3))
      ∧ r.2.sem = fun _ => 0)

def quiescent_GlaPostReferenceIdeal [hGlaPostReferenceIdeal : Cert.GlaPostReferenceIdeal.Facts] : Prop :=
  ∀ (m : (ℓ : Loc Cert.GlaPostReferenceIdeal.nD Cert.GlaPostReferenceIdeal.τ Cert.GlaPostReferenceIdeal.sig) → Buf (Elt Ideal) ℓ) (g : Dev Cert.GlaPostReferenceIdeal.nD → PrngReg), Pre_GlaPostReferenceIdeal m →
    θ_run (Cert.GlaPostReferenceIdeal.defs (F := Ideal)) (onTc (τ := Cert.GlaPostReferenceIdeal.τ) (Cert.GlaPostReferenceIdeal.main (F := Ideal))) ⟨m, fun _ => 0, g⟩ (fun r => (∀ c : Dev Cert.GlaPostReferenceIdeal.nD,
      r.2.mem ((c.tc : Thread Cert.GlaPostReferenceIdeal.nD Cert.GlaPostReferenceIdeal.τ).loc Cert.GlaPostReferenceIdeal.main_arg0) = m ((c.tc : Thread Cert.GlaPostReferenceIdeal.nD Cert.GlaPostReferenceIdeal.τ).loc Cert.GlaPostReferenceIdeal.main_arg0)
      ∧ r.2.mem ((c.tc : Thread Cert.GlaPostReferenceIdeal.nD Cert.GlaPostReferenceIdeal.τ).loc Cert.GlaPostReferenceIdeal.main_arg1) = m ((c.tc : Thread Cert.GlaPostReferenceIdeal.nD Cert.GlaPostReferenceIdeal.τ).loc Cert.GlaPostReferenceIdeal.main_arg1)
      ∧ r.2.mem ((c.tc : Thread Cert.GlaPostReferenceIdeal.nD Cert.GlaPostReferenceIdeal.τ).loc Cert.GlaPostReferenceIdeal.main_arg2) = m ((c.tc : Thread Cert.GlaPostReferenceIdeal.nD Cert.GlaPostReferenceIdeal.τ).loc Cert.GlaPostReferenceIdeal.main_arg2)
      ∧ r.2.mem ((c.tc : Thread Cert.GlaPostReferenceIdeal.nD Cert.GlaPostReferenceIdeal.τ).loc Cert.GlaPostReferenceIdeal.main_arg3) = m ((c.tc : Thread Cert.GlaPostReferenceIdeal.nD Cert.GlaPostReferenceIdeal.τ).loc Cert.GlaPostReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v90) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_MoeUp_MoeUpIdeal : Prop :=
  True

def algebraic_MoeUpIdeal_MoeUpReferenceIdeal [hMoeUpIdeal : Cert.MoeUpIdeal.Facts] [hMoeUpReferenceIdeal : Cert.MoeUpReferenceIdeal.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpReferenceIdeal.nD Cert.MoeUpReferenceIdeal.τ Cert.MoeUpReferenceIdeal.sig) → Buf (Elt Ideal) ℓ) (g' : Dev Cert.MoeUpReferenceIdeal.nD → PrngReg), Pre_MoeUpIdeal m →
    (∀ c : Dev Cert.MoeUpIdeal.nD,
      m' ((c.tc : Thread Cert.MoeUpReferenceIdeal.nD Cert.MoeUpReferenceIdeal.τ).loc Cert.MoeUpReferenceIdeal.main_arg0) = m ((c.tc : Thread Cert.MoeUpIdeal.nD Cert.MoeUpIdeal.τ).loc Cert.MoeUpIdeal.main_arg0)
      ∧ m' ((c.tc : Thread Cert.MoeUpReferenceIdeal.nD Cert.MoeUpReferenceIdeal.τ).loc Cert.MoeUpReferenceIdeal.main_arg1) = m ((c.tc : Thread Cert.MoeUpIdeal.nD Cert.MoeUpIdeal.τ).loc Cert.MoeUpIdeal.main_arg1)
      ∧ m' ((c.tc : Thread Cert.MoeUpReferenceIdeal.nD Cert.MoeUpReferenceIdeal.τ).loc Cert.MoeUpReferenceIdeal.main_arg2) = m ((c.tc : Thread Cert.MoeUpIdeal.nD Cert.MoeUpIdeal.τ).loc Cert.MoeUpIdeal.main_arg2)
      ∧ m' ((c.tc : Thread Cert.MoeUpReferenceIdeal.nD Cert.MoeUpReferenceIdeal.τ).loc Cert.MoeUpReferenceIdeal.main_arg3) = m ((c.tc : Thread Cert.MoeUpIdeal.nD Cert.MoeUpIdeal.τ).loc Cert.MoeUpIdeal.main_arg3)) →
    ∃ (v0 : (c : Dev Cert.MoeUpIdeal.nD) → Buf (Elt Ideal) ((c.tc : Thread Cert.MoeUpIdeal.nD Cert.MoeUpIdeal.τ).loc Cert.MoeUpIdeal.main_v2)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v2) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3))
      ∧ θ_run (Cert.MoeUpReferenceIdeal.defs (F := Ideal)) (onTc (τ := Cert.MoeUpReferenceIdeal.τ) (Cert.MoeUpReferenceIdeal.main (F := Ideal))) ⟨m', fun _ => 0, g'⟩ (fun r => ∀ c : Dev Cert.MoeUpReferenceIdeal.nD,
          r.2.mem ((c.tc : Thread Cert.MoeUpReferenceIdeal.nD Cert.MoeUpReferenceIdeal.τ).loc Cert.MoeUpReferenceIdeal.main_v90) = v0 c
          ∧ r.2.mem ((c.tc : Thread Cert.MoeUpReferenceIdeal.nD Cert.MoeUpReferenceIdeal.τ).loc Cert.MoeUpReferenceIdeal.main_arg0) = m' ((c.tc : Thread Cert.MoeUpReferenceIdeal.nD Cert.MoeUpReferenceIdeal.τ).loc Cert.MoeUpReferenceIdeal.main_arg0)
          ∧ r.2.mem ((c.tc : Thread Cert.MoeUpReferenceIdeal.nD Cert.MoeUpReferenceIdeal.τ).loc Cert.MoeUpReferenceIdeal.main_arg1) = m' ((c.tc : Thread Cert.MoeUpReferenceIdeal.nD Cert.MoeUpReferenceIdeal.τ).loc Cert.MoeUpReferenceIdeal.main_arg1)
          ∧ r.2.mem ((c.tc : Thread Cert.MoeUpReferenceIdeal.nD Cert.MoeUpReferenceIdeal.τ).loc Cert.MoeUpReferenceIdeal.main_arg2) = m' ((c.tc : Thread Cert.MoeUpReferenceIdeal.nD Cert.MoeUpReferenceIdeal.τ).loc Cert.MoeUpReferenceIdeal.main_arg2)
          ∧ r.2.mem ((c.tc : Thread Cert.MoeUpReferenceIdeal.nD Cert.MoeUpReferenceIdeal.τ).loc Cert.MoeUpReferenceIdeal.main_arg3) = m' ((c.tc : Thread Cert.MoeUpReferenceIdeal.nD Cert.MoeUpReferenceIdeal.τ).loc Cert.MoeUpReferenceIdeal.main_arg3))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v8) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v5) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_MoeDown_MoeDownIdeal : Prop :=
  True

def algebraic_MoeDownIdeal_MoeDownReferenceIdeal [hMoeDownIdeal : Cert.MoeDownIdeal.Facts] [hMoeDownReferenceIdeal : Cert.MoeDownReferenceIdeal.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownReferenceIdeal.nD Cert.MoeDownReferenceIdeal.τ Cert.MoeDownReferenceIdeal.sig) → Buf (Elt Ideal) ℓ) (g' : Dev Cert.MoeDownReferenceIdeal.nD → PrngReg), Pre_MoeDownIdeal m →
    (∀ c : Dev Cert.MoeDownIdeal.nD,
      m' ((c.tc : Thread Cert.MoeDownReferenceIdeal.nD Cert.MoeDownReferenceIdeal.τ).loc Cert.MoeDownReferenceIdeal.main_arg0) = m ((c.tc : Thread Cert.MoeDownIdeal.nD Cert.MoeDownIdeal.τ).loc Cert.MoeDownIdeal.main_arg0)
      ∧ m' ((c.tc : Thread Cert.MoeDownReferenceIdeal.nD Cert.MoeDownReferenceIdeal.τ).loc Cert.MoeDownReferenceIdeal.main_arg1) = m ((c.tc : Thread Cert.MoeDownIdeal.nD Cert.MoeDownIdeal.τ).loc Cert.MoeDownIdeal.main_arg1)
      ∧ m' ((c.tc : Thread Cert.MoeDownReferenceIdeal.nD Cert.MoeDownReferenceIdeal.τ).loc Cert.MoeDownReferenceIdeal.main_arg2) = m ((c.tc : Thread Cert.MoeDownIdeal.nD Cert.MoeDownIdeal.τ).loc Cert.MoeDownIdeal.main_arg2)) →
    ∃ (v0 : (c : Dev Cert.MoeDownIdeal.nD) → Buf (Elt Ideal) ((c.tc : Thread Cert.MoeDownIdeal.nD Cert.MoeDownIdeal.τ).loc Cert.MoeDownIdeal.main_v2)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v2) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2))
      ∧ θ_run (Cert.MoeDownReferenceIdeal.defs (F := Ideal)) (onTc (τ := Cert.MoeDownReferenceIdeal.τ) (Cert.MoeDownReferenceIdeal.main (F := Ideal))) ⟨m', fun _ => 0, g'⟩ (fun r => ∀ c : Dev Cert.MoeDownReferenceIdeal.nD,
          r.2.mem ((c.tc : Thread Cert.MoeDownReferenceIdeal.nD Cert.MoeDownReferenceIdeal.τ).loc Cert.MoeDownReferenceIdeal.main_v49) = v0 c
          ∧ r.2.mem ((c.tc : Thread Cert.MoeDownReferenceIdeal.nD Cert.MoeDownReferenceIdeal.τ).loc Cert.MoeDownReferenceIdeal.main_arg0) = m' ((c.tc : Thread Cert.MoeDownReferenceIdeal.nD Cert.MoeDownReferenceIdeal.τ).loc Cert.MoeDownReferenceIdeal.main_arg0)
          ∧ r.2.mem ((c.tc : Thread Cert.MoeDownReferenceIdeal.nD Cert.MoeDownReferenceIdeal.τ).loc Cert.MoeDownReferenceIdeal.main_arg1) = m' ((c.tc : Thread Cert.MoeDownReferenceIdeal.nD Cert.MoeDownReferenceIdeal.τ).loc Cert.MoeDownReferenceIdeal.main_arg1)
          ∧ r.2.mem ((c.tc : Thread Cert.MoeDownReferenceIdeal.nD Cert.MoeDownReferenceIdeal.τ).loc Cert.MoeDownReferenceIdeal.main_arg2) = m' ((c.tc : Thread Cert.MoeDownReferenceIdeal.nD Cert.MoeDownReferenceIdeal.τ).loc Cert.MoeDownReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v4) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_NormPrompt_NormPromptIdeal : Prop :=
  True

def algebraic_NormPromptIdeal_NormPromptReferenceIdeal [hNormPromptIdeal : Cert.NormPromptIdeal.Facts] [hNormPromptReferenceIdeal : Cert.NormPromptReferenceIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptReferenceIdeal.nD Cert.NormPromptReferenceIdeal.τ Cert.NormPromptReferenceIdeal.sig) → Buf (Elt Ideal) ℓ) (g' : Dev Cert.NormPromptReferenceIdeal.nD → PrngReg), Pre_NormPromptIdeal m →
    (∀ c : Dev Cert.NormPromptIdeal.nD,
      m' ((c.tc : Thread Cert.NormPromptReferenceIdeal.nD Cert.NormPromptReferenceIdeal.τ).loc Cert.NormPromptReferenceIdeal.main_arg0) = m ((c.tc : Thread Cert.NormPromptIdeal.nD Cert.NormPromptIdeal.τ).loc Cert.NormPromptIdeal.main_arg0)
      ∧ m' ((c.tc : Thread Cert.NormPromptReferenceIdeal.nD Cert.NormPromptReferenceIdeal.τ).loc Cert.NormPromptReferenceIdeal.main_arg1) = m ((c.tc : Thread Cert.NormPromptIdeal.nD Cert.NormPromptIdeal.τ).loc Cert.NormPromptIdeal.main_arg1)) →
    ∃ (v0 : (c : Dev Cert.NormPromptIdeal.nD) → Buf (Elt Ideal) ((c.tc : Thread Cert.NormPromptIdeal.nD Cert.NormPromptIdeal.τ).loc Cert.NormPromptIdeal.main_v1)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v1) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ θ_run (Cert.NormPromptReferenceIdeal.defs (F := Ideal)) (onTc (τ := Cert.NormPromptReferenceIdeal.τ) (Cert.NormPromptReferenceIdeal.main (F := Ideal))) ⟨m', fun _ => 0, g'⟩ (fun r => ∀ c : Dev Cert.NormPromptReferenceIdeal.nD,
          r.2.mem ((c.tc : Thread Cert.NormPromptReferenceIdeal.nD Cert.NormPromptReferenceIdeal.τ).loc Cert.NormPromptReferenceIdeal.main_v13) = v0 c
          ∧ r.2.mem ((c.tc : Thread Cert.NormPromptReferenceIdeal.nD Cert.NormPromptReferenceIdeal.τ).loc Cert.NormPromptReferenceIdeal.main_arg0) = m' ((c.tc : Thread Cert.NormPromptReferenceIdeal.nD Cert.NormPromptReferenceIdeal.τ).loc Cert.NormPromptReferenceIdeal.main_arg0)
          ∧ r.2.mem ((c.tc : Thread Cert.NormPromptReferenceIdeal.nD Cert.NormPromptReferenceIdeal.τ).loc Cert.NormPromptReferenceIdeal.main_arg1) = m' ((c.tc : Thread Cert.NormPromptReferenceIdeal.nD Cert.NormPromptReferenceIdeal.τ).loc Cert.NormPromptReferenceIdeal.main_arg1))

def preserves_NormSample_NormSampleIdeal : Prop :=
  True

def algebraic_NormSampleIdeal_NormSampleReferenceIdeal [hNormSampleIdeal : Cert.NormSampleIdeal.Facts] [hNormSampleReferenceIdeal : Cert.NormSampleReferenceIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleReferenceIdeal.nD Cert.NormSampleReferenceIdeal.τ Cert.NormSampleReferenceIdeal.sig) → Buf (Elt Ideal) ℓ) (g' : Dev Cert.NormSampleReferenceIdeal.nD → PrngReg), Pre_NormSampleIdeal m →
    (∀ c : Dev Cert.NormSampleIdeal.nD,
      m' ((c.tc : Thread Cert.NormSampleReferenceIdeal.nD Cert.NormSampleReferenceIdeal.τ).loc Cert.NormSampleReferenceIdeal.main_arg0) = m ((c.tc : Thread Cert.NormSampleIdeal.nD Cert.NormSampleIdeal.τ).loc Cert.NormSampleIdeal.main_arg0)
      ∧ m' ((c.tc : Thread Cert.NormSampleReferenceIdeal.nD Cert.NormSampleReferenceIdeal.τ).loc Cert.NormSampleReferenceIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v1) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleReferenceIdeal.defs (F := Ideal)) (onTc (τ := Cert.NormSampleReferenceIdeal.τ) (Cert.NormSampleReferenceIdeal.main (F := Ideal))) ⟨m', fun _ => 0, g'⟩ (fun r => ∀ c : Dev Cert.NormSampleReferenceIdeal.nD,
          r.2.mem ((c.tc : Thread Cert.NormSampleReferenceIdeal.nD Cert.NormSampleReferenceIdeal.τ).loc Cert.NormSampleReferenceIdeal.main_v13) = v0 c
          ∧ r.2.mem ((c.tc : Thread Cert.NormSampleReferenceIdeal.nD Cert.NormSampleReferenceIdeal.τ).loc Cert.NormSampleReferenceIdeal.main_arg0) = m' ((c.tc : Thread Cert.NormSampleReferenceIdeal.nD Cert.NormSampleReferenceIdeal.τ).loc Cert.NormSampleReferenceIdeal.main_arg0)
          ∧ r.2.mem ((c.tc : Thread Cert.NormSampleReferenceIdeal.nD Cert.NormSampleReferenceIdeal.τ).loc Cert.NormSampleReferenceIdeal.main_arg1) = m' ((c.tc : Thread Cert.NormSampleReferenceIdeal.nD Cert.NormSampleReferenceIdeal.τ).loc Cert.NormSampleReferenceIdeal.main_arg1))

def preserves_NormMixers_NormMixersIdeal : Prop :=
  True

def algebraic_NormMixersIdeal_NormMixersReferenceIdeal [hNormMixersIdeal : Cert.NormMixersIdeal.Facts] [hNormMixersReferenceIdeal : Cert.NormMixersReferenceIdeal.Facts] : Prop :=
  ∀ (m : (ℓ : Loc Cert.NormMixersIdeal.nD Cert.NormMixersIdeal.τ Cert.NormMixersIdeal.sig) → Buf (Elt Ideal) ℓ) (g : Dev Cert.NormMixersIdeal.nD → PrngReg)
    (m' : (ℓ : Loc Cert.NormMixersReferenceIdeal.nD Cert.NormMixersReferenceIdeal.τ Cert.NormMixersReferenceIdeal.sig) → Buf (Elt Ideal) ℓ) (g' : Dev Cert.NormMixersReferenceIdeal.nD → PrngReg), Pre_NormMixersIdeal m →
    (∀ c : Dev Cert.NormMixersIdeal.nD,
      m' ((c.tc : Thread Cert.NormMixersReferenceIdeal.nD Cert.NormMixersReferenceIdeal.τ).loc Cert.NormMixersReferenceIdeal.main_arg0) = m ((c.tc : Thread Cert.NormMixersIdeal.nD Cert.NormMixersIdeal.τ).loc Cert.NormMixersIdeal.main_arg0)
      ∧ m' ((c.tc : Thread Cert.NormMixersReferenceIdeal.nD Cert.NormMixersReferenceIdeal.τ).loc Cert.NormMixersReferenceIdeal.main_arg1) = m ((c.tc : Thread Cert.NormMixersIdeal.nD Cert.NormMixersIdeal.τ).loc Cert.NormMixersIdeal.main_arg1)) →
    ∃ (v0 : (c : Dev Cert.NormMixersIdeal.nD) → Buf (Elt Ideal) ((c.tc : Thread Cert.NormMixersIdeal.nD Cert.NormMixersIdeal.τ).loc Cert.NormMixersIdeal.main_v3)),
      θ_run (Cert.NormMixersIdeal.defs (F := Ideal)) (onTc (τ := Cert.NormMixersIdeal.τ) (Cert.NormMixersIdeal.main (F := Ideal))) ⟨m, fun _ => 0, g⟩ (fun r => ∀ c : Dev Cert.NormMixersIdeal.nD,
          r.2.mem ((c.tc : Thread Cert.NormMixersIdeal.nD Cert.NormMixersIdeal.τ).loc Cert.NormMixersIdeal.main_v3) = v0 c
          ∧ r.2.mem ((c.tc : Thread Cert.NormMixersIdeal.nD Cert.NormMixersIdeal.τ).loc Cert.NormMixersIdeal.main_arg0) = m ((c.tc : Thread Cert.NormMixersIdeal.nD Cert.NormMixersIdeal.τ).loc Cert.NormMixersIdeal.main_arg0)
          ∧ r.2.mem ((c.tc : Thread Cert.NormMixersIdeal.nD Cert.NormMixersIdeal.τ).loc Cert.NormMixersIdeal.main_arg1) = m ((c.tc : Thread Cert.NormMixersIdeal.nD Cert.NormMixersIdeal.τ).loc Cert.NormMixersIdeal.main_arg1))
      ∧ θ_run (Cert.NormMixersReferenceIdeal.defs (F := Ideal)) (onTc (τ := Cert.NormMixersReferenceIdeal.τ) (Cert.NormMixersReferenceIdeal.main (F := Ideal))) ⟨m', fun _ => 0, g'⟩ (fun r => ∀ c : Dev Cert.NormMixersReferenceIdeal.nD,
          r.2.mem ((c.tc : Thread Cert.NormMixersReferenceIdeal.nD Cert.NormMixersReferenceIdeal.τ).loc Cert.NormMixersReferenceIdeal.main_v15) = v0 c
          ∧ r.2.mem ((c.tc : Thread Cert.NormMixersReferenceIdeal.nD Cert.NormMixersReferenceIdeal.τ).loc Cert.NormMixersReferenceIdeal.main_arg0) = m' ((c.tc : Thread Cert.NormMixersReferenceIdeal.nD Cert.NormMixersReferenceIdeal.τ).loc Cert.NormMixersReferenceIdeal.main_arg0)
          ∧ r.2.mem ((c.tc : Thread Cert.NormMixersReferenceIdeal.nD Cert.NormMixersReferenceIdeal.τ).loc Cert.NormMixersReferenceIdeal.main_arg1) = m' ((c.tc : Thread Cert.NormMixersReferenceIdeal.nD Cert.NormMixersReferenceIdeal.τ).loc Cert.NormMixersReferenceIdeal.main_arg1))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v11)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v11) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v262) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v27)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v27) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v80) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def preserves_GlaGate_GlaGateIdeal : Prop :=
  True

def algebraic_GlaGateIdeal_GlaGateReferenceIdeal [hGlaGateIdeal : Cert.GlaGateIdeal.Facts] [hGlaGateReferenceIdeal : Cert.GlaGateReferenceIdeal.Facts] : Prop :=
  ∀ (m : (ℓ : Loc Cert.GlaGateIdeal.nD Cert.GlaGateIdeal.τ Cert.GlaGateIdeal.sig) → Buf (Elt Ideal) ℓ) (g : Dev Cert.GlaGateIdeal.nD → PrngReg)
    (m' : (ℓ : Loc Cert.GlaGateReferenceIdeal.nD Cert.GlaGateReferenceIdeal.τ Cert.GlaGateReferenceIdeal.sig) → Buf (Elt Ideal) ℓ) (g' : Dev Cert.GlaGateReferenceIdeal.nD → PrngReg), Pre_GlaGateIdeal m →
    (∀ c : Dev Cert.GlaGateIdeal.nD,
      m' ((c.tc : Thread Cert.GlaGateReferenceIdeal.nD Cert.GlaGateReferenceIdeal.τ).loc Cert.GlaGateReferenceIdeal.main_arg0) = m ((c.tc : Thread Cert.GlaGateIdeal.nD Cert.GlaGateIdeal.τ).loc Cert.GlaGateIdeal.main_arg0)
      ∧ m' ((c.tc : Thread Cert.GlaGateReferenceIdeal.nD Cert.GlaGateReferenceIdeal.τ).loc Cert.GlaGateReferenceIdeal.main_arg1) = m ((c.tc : Thread Cert.GlaGateIdeal.nD Cert.GlaGateIdeal.τ).loc Cert.GlaGateIdeal.main_arg1)) →
    ∃ (v0 : (c : Dev Cert.GlaGateIdeal.nD) → Buf (Elt Ideal) ((c.tc : Thread Cert.GlaGateIdeal.nD Cert.GlaGateIdeal.τ).loc Cert.GlaGateIdeal.main_v3)),
      θ_run (Cert.GlaGateIdeal.defs (F := Ideal)) (onTc (τ := Cert.GlaGateIdeal.τ) (Cert.GlaGateIdeal.main (F := Ideal))) ⟨m, fun _ => 0, g⟩ (fun r => ∀ c : Dev Cert.GlaGateIdeal.nD,
          r.2.mem ((c.tc : Thread Cert.GlaGateIdeal.nD Cert.GlaGateIdeal.τ).loc Cert.GlaGateIdeal.main_v3) = v0 c
          ∧ r.2.mem ((c.tc : Thread Cert.GlaGateIdeal.nD Cert.GlaGateIdeal.τ).loc Cert.GlaGateIdeal.main_arg0) = m ((c.tc : Thread Cert.GlaGateIdeal.nD Cert.GlaGateIdeal.τ).loc Cert.GlaGateIdeal.main_arg0)
          ∧ r.2.mem ((c.tc : Thread Cert.GlaGateIdeal.nD Cert.GlaGateIdeal.τ).loc Cert.GlaGateIdeal.main_arg1) = m ((c.tc : Thread Cert.GlaGateIdeal.nD Cert.GlaGateIdeal.τ).loc Cert.GlaGateIdeal.main_arg1))
      ∧ θ_run (Cert.GlaGateReferenceIdeal.defs (F := Ideal)) (onTc (τ := Cert.GlaGateReferenceIdeal.τ) (Cert.GlaGateReferenceIdeal.main (F := Ideal))) ⟨m', fun _ => 0, g'⟩ (fun r => ∀ c : Dev Cert.GlaGateReferenceIdeal.nD,
          r.2.mem ((c.tc : Thread Cert.GlaGateReferenceIdeal.nD Cert.GlaGateReferenceIdeal.τ).loc Cert.GlaGateReferenceIdeal.main_v6) = v0 c
          ∧ r.2.mem ((c.tc : Thread Cert.GlaGateReferenceIdeal.nD Cert.GlaGateReferenceIdeal.τ).loc Cert.GlaGateReferenceIdeal.main_arg0) = m' ((c.tc : Thread Cert.GlaGateReferenceIdeal.nD Cert.GlaGateReferenceIdeal.τ).loc Cert.GlaGateReferenceIdeal.main_arg0)
          ∧ r.2.mem ((c.tc : Thread Cert.GlaGateReferenceIdeal.nD Cert.GlaGateReferenceIdeal.τ).loc Cert.GlaGateReferenceIdeal.main_arg1) = m' ((c.tc : Thread Cert.GlaGateReferenceIdeal.nD Cert.GlaGateReferenceIdeal.τ).loc Cert.GlaGateReferenceIdeal.main_arg1))

def preserves_GlaPost_GlaPostIdeal : Prop :=
  True

def algebraic_GlaPostIdeal_GlaPostReferenceIdeal [hGlaPostIdeal : Cert.GlaPostIdeal.Facts] [hGlaPostReferenceIdeal : Cert.GlaPostReferenceIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg)
    (m' : (ℓ : Loc Cert.GlaPostReferenceIdeal.nD Cert.GlaPostReferenceIdeal.τ Cert.GlaPostReferenceIdeal.sig) → Buf (Elt Ideal) ℓ) (g' : Dev Cert.GlaPostReferenceIdeal.nD → PrngReg), Pre_GlaPostIdeal m →
    (∀ c : Dev Cert.GlaPostIdeal.nD,
      m' ((c.tc : Thread Cert.GlaPostReferenceIdeal.nD Cert.GlaPostReferenceIdeal.τ).loc Cert.GlaPostReferenceIdeal.main_arg0) = m ((c.tc : Thread Cert.GlaPostIdeal.nD Cert.GlaPostIdeal.τ).loc Cert.GlaPostIdeal.main_arg0)
      ∧ m' ((c.tc : Thread Cert.GlaPostReferenceIdeal.nD Cert.GlaPostReferenceIdeal.τ).loc Cert.GlaPostReferenceIdeal.main_arg1) = m ((c.tc : Thread Cert.GlaPostIdeal.nD Cert.GlaPostIdeal.τ).loc Cert.GlaPostIdeal.main_arg1)
      ∧ m' ((c.tc : Thread Cert.GlaPostReferenceIdeal.nD Cert.GlaPostReferenceIdeal.τ).loc Cert.GlaPostReferenceIdeal.main_arg2) = m ((c.tc : Thread Cert.GlaPostIdeal.nD Cert.GlaPostIdeal.τ).loc Cert.GlaPostIdeal.main_arg2)
      ∧ m' ((c.tc : Thread Cert.GlaPostReferenceIdeal.nD Cert.GlaPostReferenceIdeal.τ).loc Cert.GlaPostReferenceIdeal.main_arg3) = m ((c.tc : Thread Cert.GlaPostIdeal.nD Cert.GlaPostIdeal.τ).loc Cert.GlaPostIdeal.main_arg3)) →
    ∃ (v0 : (c : Dev Cert.GlaPostIdeal.nD) → Buf (Elt Ideal) ((c.tc : Thread Cert.GlaPostIdeal.nD Cert.GlaPostIdeal.τ).loc Cert.GlaPostIdeal.main_v3)),
      θ_run (Cert.GlaPostIdeal.defs (F := Ideal)) (onTc (τ := Cert.GlaPostIdeal.τ) (Cert.GlaPostIdeal.main (F := Ideal))) ⟨m, fun _ => 0, g⟩ (fun r => ∀ c : Dev Cert.GlaPostIdeal.nD,
          r.2.mem ((c.tc : Thread Cert.GlaPostIdeal.nD Cert.GlaPostIdeal.τ).loc Cert.GlaPostIdeal.main_v3) = v0 c
          ∧ r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
          ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
          ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2)
          ∧ r.2.mem ((c.tc : Thread Cert.GlaPostIdeal.nD Cert.GlaPostIdeal.τ).loc Cert.GlaPostIdeal.main_arg3) = m ((c.tc : Thread Cert.GlaPostIdeal.nD Cert.GlaPostIdeal.τ).loc Cert.GlaPostIdeal.main_arg3))
      ∧ θ_run (Cert.GlaPostReferenceIdeal.defs (F := Ideal)) (onTc (τ := Cert.GlaPostReferenceIdeal.τ) (Cert.GlaPostReferenceIdeal.main (F := Ideal))) ⟨m', fun _ => 0, g'⟩ (fun r => ∀ c : Dev Cert.GlaPostReferenceIdeal.nD,
          r.2.mem ((c.tc : Thread Cert.GlaPostReferenceIdeal.nD Cert.GlaPostReferenceIdeal.τ).loc Cert.GlaPostReferenceIdeal.main_v23) = v0 c
          ∧ r.2.mem ((c.tc : Thread Cert.GlaPostReferenceIdeal.nD Cert.GlaPostReferenceIdeal.τ).loc Cert.GlaPostReferenceIdeal.main_arg0) = m' ((c.tc : Thread Cert.GlaPostReferenceIdeal.nD Cert.GlaPostReferenceIdeal.τ).loc Cert.GlaPostReferenceIdeal.main_arg0)
          ∧ r.2.mem ((c.tc : Thread Cert.GlaPostReferenceIdeal.nD Cert.GlaPostReferenceIdeal.τ).loc Cert.GlaPostReferenceIdeal.main_arg1) = m' ((c.tc : Thread Cert.GlaPostReferenceIdeal.nD Cert.GlaPostReferenceIdeal.τ).loc Cert.GlaPostReferenceIdeal.main_arg1)
          ∧ r.2.mem ((c.tc : Thread Cert.GlaPostReferenceIdeal.nD Cert.GlaPostReferenceIdeal.τ).loc Cert.GlaPostReferenceIdeal.main_arg2) = m' ((c.tc : Thread Cert.GlaPostReferenceIdeal.nD Cert.GlaPostReferenceIdeal.τ).loc Cert.GlaPostReferenceIdeal.main_arg2)
          ∧ r.2.mem ((c.tc : Thread Cert.GlaPostReferenceIdeal.nD Cert.GlaPostReferenceIdeal.τ).loc Cert.GlaPostReferenceIdeal.main_arg3) = m' ((c.tc : Thread Cert.GlaPostReferenceIdeal.nD Cert.GlaPostReferenceIdeal.τ).loc Cert.GlaPostReferenceIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hMoeUp : Cert.MoeUp.Facts) (hMoeUpIdeal : Cert.MoeUpIdeal.Facts) (hMoeUpReferenceIdeal : Cert.MoeUpReferenceIdeal.Facts) (hFfnUp : Cert.FfnUp.Facts) (hFfnUpIdeal : Cert.FfnUpIdeal.Facts) (hFfnUpReferenceIdeal : Cert.FfnUpReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hMoeDown : Cert.MoeDown.Facts) (hMoeDownIdeal : Cert.MoeDownIdeal.Facts) (hMoeDownReferenceIdeal : Cert.MoeDownReferenceIdeal.Facts) (hFfnDown : Cert.FfnDown.Facts) (hFfnDownIdeal : Cert.FfnDownIdeal.Facts) (hFfnDownReferenceIdeal : Cert.FfnDownReferenceIdeal.Facts) (hNormPrompt : Cert.NormPrompt.Facts) (hNormPromptIdeal : Cert.NormPromptIdeal.Facts) (hNormPromptReferenceIdeal : Cert.NormPromptReferenceIdeal.Facts) (hNormSample : Cert.NormSample.Facts) (hNormSampleIdeal : Cert.NormSampleIdeal.Facts) (hNormSampleReferenceIdeal : Cert.NormSampleReferenceIdeal.Facts) (hNormMixers : Cert.NormMixers.Facts) (hNormMixersIdeal : Cert.NormMixersIdeal.Facts) (hNormMixersReferenceIdeal : Cert.NormMixersReferenceIdeal.Facts) (hConv : Cert.Conv.Facts) (hConvIdeal : Cert.ConvIdeal.Facts) (hConvReferenceIdeal : Cert.ConvReferenceIdeal.Facts) (hRope : Cert.Rope.Facts) (hRopeIdeal : Cert.RopeIdeal.Facts) (hRopeReferenceIdeal : Cert.RopeReferenceIdeal.Facts) (hGlaGate : Cert.GlaGate.Facts) (hGlaGateIdeal : Cert.GlaGateIdeal.Facts) (hGlaGateReferenceIdeal : Cert.GlaGateReferenceIdeal.Facts) (hGlaPost : Cert.GlaPost.Facts) (hGlaPostIdeal : Cert.GlaPostIdeal.Facts) (hGlaPostReferenceIdeal : Cert.GlaPostReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_MoeUp (hMoeUp := hMoeUp)
    ∧ quiescent_MoeUpIdeal (hMoeUpIdeal := hMoeUpIdeal)
    ∧ quiescent_MoeUpReferenceIdeal (hMoeUpReferenceIdeal := hMoeUpReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_MoeDown (hMoeDown := hMoeDown)
    ∧ quiescent_MoeDownIdeal (hMoeDownIdeal := hMoeDownIdeal)
    ∧ quiescent_MoeDownReferenceIdeal (hMoeDownReferenceIdeal := hMoeDownReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_NormPrompt (hNormPrompt := hNormPrompt)
    ∧ quiescent_NormPromptIdeal (hNormPromptIdeal := hNormPromptIdeal)
    ∧ quiescent_NormPromptReferenceIdeal (hNormPromptReferenceIdeal := hNormPromptReferenceIdeal)
    ∧ quiescent_NormSample (hNormSample := hNormSample)
    ∧ quiescent_NormSampleIdeal (hNormSampleIdeal := hNormSampleIdeal)
    ∧ quiescent_NormSampleReferenceIdeal (hNormSampleReferenceIdeal := hNormSampleReferenceIdeal)
    ∧ quiescent_NormMixers (hNormMixers := hNormMixers)
    ∧ quiescent_NormMixersIdeal (hNormMixersIdeal := hNormMixersIdeal)
    ∧ quiescent_NormMixersReferenceIdeal (hNormMixersReferenceIdeal := hNormMixersReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_GlaGate (hGlaGate := hGlaGate)
    ∧ quiescent_GlaGateIdeal (hGlaGateIdeal := hGlaGateIdeal)
    ∧ quiescent_GlaGateReferenceIdeal (hGlaGateReferenceIdeal := hGlaGateReferenceIdeal)
    ∧ quiescent_GlaPost (hGlaPost := hGlaPost)
    ∧ quiescent_GlaPostIdeal (hGlaPostIdeal := hGlaPostIdeal)
    ∧ quiescent_GlaPostReferenceIdeal (hGlaPostReferenceIdeal := hGlaPostReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_MoeUp_MoeUpIdeal
    ∧ algebraic_MoeUpIdeal_MoeUpReferenceIdeal (hMoeUpIdeal := hMoeUpIdeal) (hMoeUpReferenceIdeal := hMoeUpReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_MoeDown_MoeDownIdeal
    ∧ algebraic_MoeDownIdeal_MoeDownReferenceIdeal (hMoeDownIdeal := hMoeDownIdeal) (hMoeDownReferenceIdeal := hMoeDownReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_NormPrompt_NormPromptIdeal
    ∧ algebraic_NormPromptIdeal_NormPromptReferenceIdeal (hNormPromptIdeal := hNormPromptIdeal) (hNormPromptReferenceIdeal := hNormPromptReferenceIdeal)
    ∧ preserves_NormSample_NormSampleIdeal
    ∧ algebraic_NormSampleIdeal_NormSampleReferenceIdeal (hNormSampleIdeal := hNormSampleIdeal) (hNormSampleReferenceIdeal := hNormSampleReferenceIdeal)
    ∧ preserves_NormMixers_NormMixersIdeal
    ∧ algebraic_NormMixersIdeal_NormMixersReferenceIdeal (hNormMixersIdeal := hNormMixersIdeal) (hNormMixersReferenceIdeal := hNormMixersReferenceIdeal)
    ∧ preserves_Conv_ConvIdeal
    ∧ algebraic_ConvIdeal_ConvReferenceIdeal (hConvIdeal := hConvIdeal) (hConvReferenceIdeal := hConvReferenceIdeal)
    ∧ preserves_Rope_RopeIdeal
    ∧ algebraic_RopeIdeal_RopeReferenceIdeal (hRopeIdeal := hRopeIdeal) (hRopeReferenceIdeal := hRopeReferenceIdeal)
    ∧ preserves_GlaGate_GlaGateIdeal
    ∧ algebraic_GlaGateIdeal_GlaGateReferenceIdeal (hGlaGateIdeal := hGlaGateIdeal) (hGlaGateReferenceIdeal := hGlaGateReferenceIdeal)
    ∧ preserves_GlaPost_GlaPostIdeal
    ∧ algebraic_GlaPostIdeal_GlaPostReferenceIdeal (hGlaPostIdeal := hGlaPostIdeal) (hGlaPostReferenceIdeal := hGlaPostReferenceIdeal)
-- ==== Pre_finite.lean ====
abbrev S2x4x64 : Shape := ⟨3, ![2, 4, 64]⟩
abbrev S2x128 : Shape := ⟨2, ![2, 128]⟩
abbrev S16384x2048 : Shape := ⟨2, ![16384, 2048]⟩
abbrev S24576x9216 : Shape := ⟨2, ![24576, 9216]⟩
abbrev S16384x1024 : Shape := ⟨2, ![16384, 1024]⟩
abbrev S1x4x64 : Shape := ⟨3, ![1, 4, 64]⟩
abbrev S4x64 : Shape := ⟨2, ![4, 64]⟩
abbrev S_ : Shape := ⟨0, ![]⟩

class Facts : Prop where
  slices_S24576x9216_S16384x1024_0_2048 : S24576x9216.Slices ![0, 2048] S16384x1024
  slices_S2x4x64_S1x4x64_0_0_0 : S2x4x64.Slices ![0, 0, 0] S1x4x64
  shapeCasts_S1x4x64_S4x64 : S1x4x64.ShapeCasts S4x64
  bcast_S_S4x64 : S_.BroadcastsInDim S4x64 (![] : Fin 0 → Fin S4x64.rank)
  reducesTo_S4x64_S_d0_1 : S4x64.ReducesTo [0, 1] S_
  h_S_ : 0 < S_.numel
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S2x4x64 .f32) (main_arg1 : FVec F S2x128 .f32) (main_arg2 : FVec F S16384x2048 .bf16) (main_arg3 : FVec F S24576x9216 .bf16) : IVec S_ 1 :=
  let main_v0 : FVec F S16384x1024 .bf16 := (extractStridedSlice S16384x1024 ![0, 2048] · slices_S24576x9216_S16384x1024_0_2048) main_arg3
  let main_v1 : FVec F S1x4x64 .f32 := (extractStridedSlice S1x4x64 ![0, 0, 0] · slices_S2x4x64_S1x4x64_0_0_0) main_arg0
  let main_v2 : FVec F S4x64 .f32 := shapeCast S4x64 main_v1 shapeCasts_S1x4x64_S4x64
  let main_v3 : FVec F S4x64 .f32 := Host.absf main_v2
  let main_cst : FVec F S_ .f32 := constant S_ .f32 0x7F800000#32
  let main_v4 : FVec F S4x64 .f32 := broadcastInDim S4x64 ![] bcast_S_S4x64 main_cst
  let main_v5 : IVec S4x64 1 := cmpf .olt main_v3 main_v4
  let main_c : IVec S_ 1 := constantI S_ 1 1#1
  let main_v6 : IVec S_ 1 := (fun x v => Host.reduce IntOp.andi x v reducesTo_S4x64_S_d0_1 h_S_) main_v5 main_c
  let main_v7 : FVec F S16384x1024 .f32 := (extf .f32 · bitsLt_bf16_f32) main_v0
  let main_v8 : FVec F S16384x1024 .f32 := Host.absf main_v7
  let main_cst_0 : FVec F S_ .f32 := constant S_ .f32 0x7F800000#32
  let main_v9 : FVec F S16384x1024 .f32 := broadcastInDim S16384x1024 ![] bcast_S_S16384x1024 main_cst_0
  let main_v10 : IVec S16384x1024 1 := cmpf .olt main_v8 main_v9
  let main_c_1 : IVec S_ 1 := constantI S_ 1 1#1
  let main_v11 : IVec S_ 1 := (fun x v => Host.reduce IntOp.andi x v reducesTo_S16384x1024_S_d0_1 h_S_) main_v10 main_c_1
  let main_v12 : IVec S_ 1 := andi main_v6 main_v11
  main_v12
-- ==== Kernel.lean ====
abbrev S2x4x64 : Shape := ⟨3, ![2, 4, 64]⟩
abbrev S2x128 : Shape := ⟨2, ![2, 128]⟩
abbrev S16384x2048 : Shape := ⟨2, ![16384, 2048]⟩
abbrev S24576x9216 : Shape := ⟨2, ![24576, 9216]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S1x128 : Shape := ⟨2, ![1, 128]⟩
abbrev S128 : Shape := ⟨1, ![128]⟩
abbrev S16384x1024 : Shape := ⟨2, ![16384, 1024]⟩
abbrev S1024x128 : Shape := ⟨2, ![1024, 128]⟩
abbrev S16384x128 : Shape := ⟨2, ![16384, 128]⟩
abbrev S2x2x1024x1024 : Shape := ⟨4, ![2, 2, 1024, 1024]⟩
abbrev S2x2x1024x128 : Shape := ⟨4, ![2, 2, 1024, 128]⟩
abbrev S2x1024x128 : Shape := ⟨3, ![2, 1024, 128]⟩
abbrev S1024x1024 : Shape := ⟨2, ![1024, 1024]⟩
abbrev S1x1x1024x1024 : Shape := ⟨4, ![1, 1, 1024, 1024]⟩
abbrev S1024 : Shape := ⟨1, ![1024]⟩
abbrev S1024x1 : Shape := ⟨2, ![1024, 1]⟩
abbrev S1x1x1024x128 : Shape := ⟨4, ![1, 1, 1024, 128]⟩
abbrev S1x1024x128 : Shape := ⟨3, ![1, 1024, 128]⟩

abbrev nBuf : Space → Nat
  | .hbm => 30
  | .vmem => 15
  | .smem => 0
  | _ => 0

abbrev bufTy : (tb : Table) → Fin (tcTables nBuf tb) → BufTy
  | .hbm, ⟨0, _⟩ => ⟨S2x4x64, .f32⟩
  | .hbm, ⟨1, _⟩ => ⟨S2x128, .f32⟩
  | .hbm, ⟨2, _⟩ => ⟨S16384x2048, .bf16⟩
  | .hbm, ⟨3, _⟩ => ⟨S24576x9216, .bf16⟩
  | .hbm, ⟨4, _⟩ => ⟨S1x4x64, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S1x128, .f32⟩
  | .hbm, ⟨29, _⟩ => ⟨S16384x1024, .bf16⟩
  | .local _ .vmem, ⟨0, _⟩ => ⟨S1x128, .f32⟩
  | .local _ .vmem, ⟨1, _⟩ => ⟨S1x128, .f32⟩
  | .local _ .vmem, ⟨2, _⟩ => ⟨S1024x128, .bf16⟩
  | .local _ .vmem, ⟨3, _⟩ => ⟨S1024x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S1024x128, .bf16⟩
  | .local _ .vmem, ⟨9, _⟩ => ⟨S1024x128, .bf16⟩
  | .local _ .vmem, ⟨10, _⟩ => ⟨S2x2x1024x1024, .f32⟩
  | .local _ .vmem, ⟨11, _⟩ => ⟨S2x2x1024x128, .f32⟩
  | .local _ .vmem, ⟨12, _⟩ => ⟨S2x1024x128, .f32⟩
  | .local _ .vmem, ⟨13, _⟩ => ⟨S2x1024x128, .f32⟩
  | .local _ .vmem, ⟨14, _⟩ => ⟨S2x1024x128, .f32⟩
  | _, _ => ⟨S2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 8, 16], ![false, false, false]⟩

def k0_mult1 : BitVec 32 :=
  let c0_i32 : BitVec 32 := 0#32
  c0_i32
@[reducible] def k0_t1_loop : Scf.Loop 32 :=
  let c0_i32_34 : BitVec 32 := 0#32
  let c8_i32 : BitVec 32 := 8#32
  let v76 : BitVec 32 := Scalar.addi c0_i32_34 c8_i32
  let c1_i32 : BitVec 32 := 1#32
  ⟨c0_i32_34, v76, c1_i32⟩
def k0_mult2 (k0_t1 : Fin k0_t1_loop.trips) : BitVec 32 :=
  let c2_i32 : BitVec 32 := 2#32
  let c0_i32_34 : BitVec 32 := 0#32
  let c1_i32 : BitVec 32 := 1#32
  let arg14 : BitVec 32 := Scf.iv c0_i32_34 c1_i32 k0_t1
  let v116 : BitVec 32 := Scalar.muli c2_i32 arg14
  let c1_i32_60 : BitVec 32 := 1#32
  let v117 : BitVec 32 := Scalar.addi v116 c1_i32_60
  let c1024_i32 : BitVec 32 := 1024#32
  let v118 : BitVec 32 := Scalar.muli v117 c1024_i32
  v118
def k0_off1 (k0_t1 : Fin k0_t1_loop.trips) : Fin 2 → Nat :=
  let c2_i32 : BitVec 32 := 2#32
  let c0_i32_34 : BitVec 32 := 0#32
  let c1_i32 : BitVec 32 := 1#32
  let arg14 : BitVec 32 := Scf.iv c0_i32_34 c1_i32 k0_t1
  let v116 : BitVec 32 := Scalar.muli c2_i32 arg14
  let c1_i32_60 : BitVec 32 := 1#32
  let v117 : BitVec 32 := Scalar.addi v116 c1_i32_60
  let c1024_i32 : BitVec 32 := 1024#32
  let v118 : BitVec 32 := Scalar.muli v117 c1024_i32
  let v119 : BitVec 32 := v118
  let v120 : Index := Scalar.indexCast v119
  let c0_61 : Index := 0#32
  ![v120.toNat, 0]
def k0_mult3 (k0_t1 : Fin k0_t1_loop.trips) : BitVec 32 :=
  let c2_i32 : BitVec 32 := 2#32
  let c0_i32_34 : BitVec 32 := 0#32
  let c1_i32 : BitVec 32 := 1#32
  let arg14 : BitVec 32 := Scf.iv c0_i32_34 c1_i32 k0_t1
  let v116 : BitVec 32 := Scalar.muli c2_i32 arg14
  let c1024_i32_82 : BitVec 32 := 1024#32
  let v174 : BitVec 32 := Scalar.muli v116 c1024_i32_82
  v174
def k0_off2 (k0_t1 : Fin k0_t1_loop.trips) : Fin 2 → Nat :=
  let c2_i32 : BitVec 32 := 2#32
  let c0_i32_34 : BitVec 32 := 0#32
  let c1_i32 : BitVec 32 := 1#32
  let arg14 : BitVec 32 := Scf.iv c0_i32_34 c1_i32 k0_t1
  let v116 : BitVec 32 := Scalar.muli c2_i32 arg14
  let c1024_i32_82 : BitVec 32 := 1024#32
  let v174 : BitVec 32 := Scalar.muli v116 c1024_i32_82
  let v175 : BitVec 32 := v174
  let v176 : Index := Scalar.indexCast v175
  let c0_83 : Index := 0#32
  ![v176.toNat, 0]
def k0_mult4 (k0_t1 : Fin k0_t1_loop.trips) : BitVec 32 :=
  let c2_i32 : BitVec 32 := 2#32
  let c0_i32_34 : BitVec 32 := 0#32
  let c1_i32 : BitVec 32 := 1#32
  let arg14 : BitVec 32 := Scf.iv c0_i32_34 c1_i32 k0_t1
  let v116 : BitVec 32 := Scalar.muli c2_i32 arg14
  let c2_i32_187 : BitVec 32 := 2#32
  let v310 : BitVec 32 := Scalar.addi v116 c2_i32_187
  let c16_i32 : BitVec 32 := 16#32
  let v311 : BitVec 1 := Scalar.cmpi .slt v310 c16_i32
  let c2_i32_188 : BitVec 32 := 2#32
  let v312 : BitVec 32 := Scalar.addi v116 c2_i32_188
  let c0_i32_189 : BitVec 32 := 0#32
  let v313 : BitVec 32 := Scalar.select v311 v312 c0_i32_189
  let c1024_i32_190 : BitVec 32 := 1024#32
  let v314 : BitVec 32 := Scalar.muli v313 c1024_i32_190
  v314
def k0_off3 (k0_t1 : Fin k0_t1_loop.trips) : Fin 2 → Nat :=
  let c2_i32 : BitVec 32 := 2#32
  let c0_i32_34 : BitVec 32 := 0#32
  let c1_i32 : BitVec 32 := 1#32
  let arg14 : BitVec 32 := Scf.iv c0_i32_34 c1_i32 k0_t1
  let v116 : BitVec 32 := Scalar.muli c2_i32 arg14
  let c2_i32_187 : BitVec 32 := 2#32
  let v310 : BitVec 32 := Scalar.addi v116 c2_i32_187
  let c16_i32 : BitVec 32 := 16#32
  let v311 : BitVec 1 := Scalar.cmpi .slt v310 c16_i32
  let c2_i32_188 : BitVec 32 := 2#32
  let v312 : BitVec 32 := Scalar.addi v116 c2_i32_188
  let c0_i32_189 : BitVec 32 := 0#32
  let v313 : BitVec 32 := Scalar.select v311 v312 c0_i32_189
  let c1024_i32_190 : BitVec 32 := 1024#32
  let v314 : BitVec 32 := Scalar.muli v313 c1024_i32_190
  let v315 : BitVec 32 := v314
  let v316 : Index := Scalar.indexCast v315
  let c0_191 : Index := 0#32
  ![v316.toNat, 0]
def k0_mult5 (k0_t1 : Fin k0_t1_loop.trips) : BitVec 32 :=
  let c2_i32 : BitVec 32 := 2#32
  let c0_i32_34 : BitVec 32 := 0#32
  let c1_i32 : BitVec 32 := 1#32
  let arg14 : BitVec 32 := Scf.iv c0_i32_34 c1_i32 k0_t1
  let v116 : BitVec 32 := Scalar.muli c2_i32 arg14
  let c1_i32_212 : BitVec 32 := 1#32
  let v370 : BitVec 32 := Scalar.addi v116 c1_i32_212
  let c1024_i32_213 : BitVec 32 := 1024#32
  let v371 : BitVec 32 := Scalar.muli v370 c1024_i32_213
  v371
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x4x64 : Shape := ⟨3, ![2, 4, 64]⟩
abbrev S2x128 : Shape := ⟨2, ![2, 128]⟩
abbrev S16384x2048 : Shape := ⟨2, ![16384, 2048]⟩
abbrev S24576x9216 : Shape := ⟨2, ![24576, 9216]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S16384x1024 : Shape := ⟨2, ![16384, 1024]⟩
abbrev S1x16384x8x2x64 : Shape := ⟨5, ![1, 16384, 8, 2, 64]⟩
abbrev S1x16384x8x128 : Shape := ⟨4, ![1, 16384, 8, 128]⟩
abbrev S1x8x2x16384x16384 : Shape := ⟨5, ![1, 8, 2, 16384, 16384]⟩
abbrev S1x8x2x16384 : Shape := ⟨4, ![1, 8, 2, 16384]⟩
abbrev S1x8x2x16384x1 : Shape := ⟨5, ![1, 8, 2, 16384, 1]⟩
abbrev S1x8x1x16384x16384 : Shape := ⟨5, ![1, 8, 1, 16384, 16384]⟩
abbrev S1x8x16384x16384 : Shape := ⟨4, ![1, 8, 16384, 16384]⟩
abbrev S1x8x128x16384 : Shape := ⟨4, ![1, 8, 128, 16384]⟩
abbrev S1x128 : Shape := ⟨2, ![1, 128]⟩
abbrev S128 : Shape := ⟨1, ![128]⟩
abbrev S1x16384x8 : Shape := ⟨3, ![1, 16384, 8]⟩
abbrev S1x16384x8x1 : Shape := ⟨4, ![1, 16384, 8, 1]⟩
abbrev S1x1x1x128 : Shape := ⟨4, ![1, 1, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S2x4x64, .f32⟩
  | .hbm, ⟨1, _⟩ => ⟨S2x128, .f32⟩
  | .hbm, ⟨2, _⟩ => ⟨S16384x2048, .bf16⟩
  | .hbm, ⟨3, _⟩ => ⟨S24576x9216, .bf16⟩
  | .hbm, ⟨4, _⟩ => ⟨S1x4x64, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16384x1024, .bf16⟩
  | .hbm, ⟨26, _⟩ => ⟨S16384x1024, .f32⟩
  | .hbm, ⟨27, _⟩ => ⟨S1x16384x8x2x64, .f32⟩
  | .hbm, ⟨28, _⟩ => ⟨S16384x1024, .bf16⟩
  | .hbm, ⟨29, _⟩ => ⟨S16384x1024, .f32⟩
  | .hbm, ⟨30, _⟩ => ⟨S1x16384x8x2x64, .f32⟩
  | .hbm, ⟨31, _⟩ => ⟨S16384x1024, .bf16⟩
  | .hbm, ⟨32, _⟩ => ⟨S16384x1024, .f32⟩
  | .hbm, ⟨33, _⟩ => ⟨S1x16384x8x128, .f32⟩
  | .hbm, ⟨34, _⟩ => ⟨S1x8x2x16384x16384, .f32⟩
  | .hbm, ⟨35, _⟩ => ⟨S_, .f32⟩
  | .hbm, ⟨36, _⟩ => ⟨S1x8x2x16384, .f32⟩
  | .hbm, ⟨37, _⟩ => ⟨S_, .f32⟩
  | .hbm, ⟨38, _⟩ => ⟨S1x8x2x16384, .f32⟩
  | .hbm, ⟨39, _⟩ => ⟨S1x8x2x16384, .f32⟩
  | .hbm, ⟨40, _⟩ => ⟨S1x8x2x16384x1, .f32⟩
  | .hbm, ⟨41, _⟩ => ⟨S1x8x2x16384x16384, .f32⟩
  | .hbm, ⟨42, _⟩ => ⟨S1x8x2x16384x16384, .f32⟩
  | .hbm, ⟨43, _⟩ => ⟨S1x8x2x16384x16384, .f32⟩
  | .hbm, ⟨44, _⟩ => ⟨S_, .f32⟩
  | .hbm, ⟨45, _⟩ => ⟨S1x8x2x16384, .f32⟩
  | .hbm, ⟨46, _⟩ => ⟨S1x8x2x16384x1, .f32⟩
  | .hbm, ⟨47, _⟩ => ⟨S1x8x2x16384x16384, .f32⟩
  | .hbm, ⟨48, _⟩ => ⟨S1x8x2x16384x16384, .f32⟩
  | .hbm, ⟨49, _⟩ => ⟨S1x8x1x16384x16384, .f32⟩
  | .hbm, ⟨50, _⟩ => ⟨S1x8x16384x16384, .f32⟩
  | .hbm, ⟨51, _⟩ => ⟨S1x8x1x16384x16384, .f32⟩
  | .hbm, ⟨52, _⟩ => ⟨S1x8x16384x16384, .f32⟩
  | .hbm, ⟨53, _⟩ => ⟨S1x8x16384x16384, .f32⟩
  | .hbm, ⟨54, _⟩ => ⟨S1x8x16384x16384, .f32⟩
  | .hbm, ⟨55, _⟩ => ⟨S1x8x16384x16384, .f32⟩
  | .hbm, ⟨56, _⟩ => ⟨S1x8x128x16384, .f32⟩
  | .hbm, ⟨57, _⟩ => ⟨S1x16384x8x128, .f32⟩
  | .hbm, ⟨58, _⟩ => ⟨S1x128, .f32⟩
  | .hbm, ⟨59, _⟩ => ⟨S128, .f32⟩
  | .hbm, ⟨60, _⟩ => ⟨S1x16384x8x128, .f32⟩
  | .hbm, ⟨61, _⟩ => ⟨S_, .f32⟩
  | .hbm, ⟨62, _⟩ => ⟨S1x16384x8, .f32⟩
  | .hbm, ⟨63, _⟩ => ⟨S1x16384x8x1, .f32⟩
  | .hbm, ⟨64, _⟩ => ⟨S_, .f32⟩
  | .hbm, ⟨65, _⟩ => ⟨S1x16384x8x1, .f32⟩
  | .hbm, ⟨66, _⟩ => ⟨S1x16384x8x1, .f32⟩
  | .hbm, ⟨67, _⟩ => ⟨S_, .f32⟩
  | .hbm, ⟨68, _⟩ => ⟨S1x16384x8x1, .f32⟩
  | .hbm, ⟨69, _⟩ => ⟨S1x16384x8x1, .f32⟩
  | .hbm, ⟨70, _⟩ => ⟨S1x16384x8x1, .f32⟩
  | .hbm, ⟨71, _⟩ => ⟨S1x16384x8x128, .f32⟩
  | .hbm, ⟨72, _⟩ => ⟨S1x16384x8x128, .f32⟩
  | .hbm, ⟨73, _⟩ => ⟨S1x1x1x128, .f32⟩
  | .hbm, ⟨74, _⟩ => ⟨S1x16384x8x128, .f32⟩
  | .hbm, ⟨75, _⟩ => ⟨S1x16384x8x128, .f32⟩
  | .hbm, ⟨76, _⟩ => ⟨S_, .f32⟩
  | .hbm, ⟨77, _⟩ => ⟨S1x16384x8x128, .f32⟩
  | .hbm, ⟨78, _⟩ => ⟨S1x16384x8x128, .f32⟩
  | .hbm, ⟨79, _⟩ => ⟨S16384x1024, .f32⟩
  | .hbm, ⟨80, _⟩ => ⟨S16384x1024, .bf16⟩
  | _, _ => ⟨S2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== Merge.lean ====
abbrev S24576x4096 : Shape := ⟨2, ![24576, 4096]⟩
abbrev S4x24576x1024 : Shape := ⟨3, ![4, 24576, 1024]⟩
abbrev S2x4x4096x4096 : Shape := ⟨4, ![2, 4, 4096, 4096]⟩
abbrev S2x4x4096 : Shape := ⟨3, ![2, 4, 4096]⟩
abbrev S2x4x1024x4096 : Shape := ⟨4, ![2, 4, 1024, 4096]⟩
abbrev S2x4x1x4096 : Shape := ⟨4, ![2, 4, 1, 4096]⟩
abbrev S1024x4096 : Shape := ⟨2, ![1024, 4096]⟩
abbrev S1x1x4096x512 : Shape := ⟨4, ![1, 1, 4096, 512]⟩
abbrev S1x1x1x512 : Shape := ⟨4, ![1, 1, 1, 512]⟩
abbrev S1x1024x1024 : Shape := ⟨3, ![1, 1024, 1024]⟩
abbrev S1x1x1024x512 : Shape := ⟨4, ![1, 1, 1024, 512]⟩
abbrev S1024x512 : Shape := ⟨2, ![1024, 512]⟩
abbrev S4096x512 : Shape := ⟨2, ![4096, 512]⟩
abbrev S1x512 : Shape := ⟨2, ![1, 512]⟩
abbrev S1024x1024 : Shape := ⟨2, ![1024, 1024]⟩

abbrev nBuf : Space → Nat
  | .hbm => 9
  | .vmem => 13
  | .smem => 0
  | _ => 0

abbrev bufTy : (tb : Table) → Fin (tcTables nBuf tb) → BufTy
  | .hbm, ⟨0, _⟩ => ⟨S24576x4096, .bf16⟩
  | .hbm, ⟨1, _⟩ => ⟨S4x24576x1024, .bf16⟩
  | .hbm, ⟨2, _⟩ => ⟨S2x4x4096x4096, .f32⟩
  | .hbm, ⟨3, _⟩ => ⟨S2x4x4096, .f32⟩
  | .hbm, ⟨4, _⟩ => ⟨S2x4x1024x4096, .f32⟩
  | .hbm, ⟨5, _⟩ => ⟨S2x4x4096x4096, .bf16⟩
  | .hbm, ⟨6, _⟩ => ⟨S2x4x1024x4096, .bf16⟩
  | .hbm, ⟨7, _⟩ => ⟨S2x4x1x4096, .f32⟩
  | .hbm, ⟨8, _⟩ => ⟨S24576x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1x4096x512, .bf16⟩
  | .local _ .vmem, ⟨3, _⟩ => ⟨S1x1x4096x512, .bf16⟩
  | .local _ .vmem, ⟨4, _⟩ => ⟨S1x1x1x512, .f32⟩
  | .local _ .vmem, ⟨5, _⟩ => ⟨S1x1x1x512, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![24, 8, 4], ![false, false, false]⟩

def k0_cond3 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_20 : BitVec 32 := 0#32
  let v23 : BitVec 1 := Scalar.cmpi .ne v22 c0_i32_20
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MergeReferenceIdeal.lean ====
abbrev S24576x4096 : Shape := ⟨2, ![24576, 4096]⟩
abbrev S4x24576x1024 : Shape := ⟨3, ![4, 24576, 1024]⟩
abbrev S2x4x4096x4096 : Shape := ⟨4, ![2, 4, 4096, 4096]⟩
abbrev S2x4x4096 : Shape := ⟨3, ![2, 4, 4096]⟩
abbrev S2x4x1024x4096 : Shape := ⟨4, ![2, 4, 1024, 4096]⟩
abbrev S_ : Shape := ⟨0, ![]⟩
abbrev S1x1x4096x4096 : Shape := ⟨4, ![1, 1, 4096, 4096]⟩
abbrev S4096x4096 : Shape := ⟨2, ![4096, 4096]⟩
abbrev S1x1x4096 : Shape := ⟨3, ![1, 1, 4096]⟩
abbrev S4096 : Shape := ⟨1, ![4096]⟩
abbrev S1x4096 : Shape := ⟨2, ![1, 4096]⟩
abbrev S1x24576x1024 : Shape := ⟨3, ![1, 24576, 1024]⟩
abbrev S24576x1024 : Shape := ⟨2, ![24576, 1024]⟩
abbrev S1x1x1024x4096 : Shape := ⟨4, ![1, 1, 1024, 4096]⟩
abbrev S1024x4096 : Shape := ⟨2, ![1024, 4096]⟩

abbrev nBuf : Space → Nat
  | .hbm => 105
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4x24576x1024, .bf16⟩
  | .hbm, ⟨2, _⟩ => ⟨S2x4x4096x4096, .f32⟩
  | .hbm, ⟨3, _⟩ => ⟨S2x4x4096, .f32⟩
  | .hbm, ⟨4, _⟩ => ⟨S2x4x1024x4096, .f32⟩
  | .hbm, ⟨5, _⟩ => ⟨S24576x4096, .f32⟩
  | .hbm, ⟨6, _⟩ => ⟨S_, .f32⟩
  | .hbm, ⟨7, _⟩ => ⟨S24576x4096, .f32⟩
  | .hbm, ⟨8, _⟩ => ⟨S1x1x4096x4096, .f32⟩
  | .hbm, ⟨9, _⟩ => ⟨S4096x4096, .f32⟩
  | .hbm, ⟨10, _⟩ => ⟨S24576x4096, .f32⟩
  | .hbm, ⟨11, _⟩ => ⟨S1x1x4096, .f32⟩
  | .hbm, ⟨12, _⟩ => ⟨S4096, .f32⟩
  | .hbm, ⟨13, _⟩ => ⟨S1x4096, .f32⟩
  | .hbm, ⟨14, _⟩ => ⟨S24576x4096, .f32⟩
  | .hbm, ⟨15, _⟩ => ⟨S24576x4096, .f32⟩
  | .hbm, ⟨16, _⟩ => ⟨S24576x4096, .f32⟩
  | .hbm, ⟨17, _⟩ => ⟨S24576x4096, .f32⟩
  | .hbm, ⟨18, _⟩ => ⟨S_, .f32⟩
  | .hbm, ⟨19, _⟩ => ⟨S24576x4096, .f32⟩
  | .hbm, ⟨20, _⟩ => ⟨S24576x4096, .f32⟩
  | .hbm, ⟨21, _⟩ => ⟨S_, .f32⟩
  | .hbm, ⟨22, _⟩ => ⟨S24576x4096, .f32⟩
  | .hbm, ⟨23, _⟩ => ⟨S24576x4096, .f32⟩
  | .hbm, ⟨24, _⟩ => ⟨S1x24576x1024, .bf16⟩
  | .hbm, ⟨25, _⟩ => ⟨S24576x1024, .bf16⟩
  | .hbm, ⟨26, _⟩ => ⟨S24576x1024, .f32⟩
  | .hbm, ⟨27, _⟩ => ⟨S1x1x1024x4096, .f32⟩
  | .hbm, ⟨28, _⟩ => ⟨S1024x4096, .f32⟩
  | .hbm, ⟨29, _⟩ => ⟨S24576x4096, .f32⟩
  | .hbm, ⟨30, _⟩ => ⟨S24576x4096, .f32⟩
  | .hbm, ⟨31, _⟩ => ⟨S24576x4096, .f32⟩
  | .hbm, ⟨32, _⟩ => ⟨S1x1x4096x4096, .f32⟩
  | .hbm, ⟨33, _⟩ => ⟨S4096x4096, .f32⟩
  | .hbm, ⟨34, _⟩ => ⟨S24576x4096, .f32⟩
  | .hbm, ⟨35, _⟩ => ⟨S1x1x4096, .f32⟩
  | .hbm, ⟨36, _⟩ => ⟨S4096, .f32⟩
  | .hbm, ⟨37, _⟩ => ⟨S1x4096, .f32⟩
  | .hbm, ⟨38, _⟩ => ⟨S24576x4096, .f32⟩
  | .hbm, ⟨39, _⟩ => ⟨S24576x4096, .f32⟩
  | .hbm, ⟨40, _⟩ => ⟨S24576x4096, .f32⟩
  | .hbm, ⟨41, _⟩ => ⟨S24576x4096, .f32⟩
  | .hbm, ⟨42, _⟩ => ⟨S_, .f32⟩
  | .hbm, ⟨43, _⟩ => ⟨S24576x4096, .f32⟩
  | .hbm, ⟨44, _⟩ => ⟨S24576x4096, .f32⟩
  | .hbm, ⟨45, _⟩ => ⟨S_, .f32⟩
  | .hbm, ⟨46, _⟩ => ⟨S24576x4096, .f32⟩
  | .hbm, ⟨47, _⟩ => ⟨S24576x4096, .f32⟩
  | .hbm, ⟨48, _⟩ => ⟨S1x24576x1024, .bf16⟩
  | .hbm, ⟨49, _⟩ => ⟨S24576x1024, .bf16⟩
  | .hbm, ⟨50, _⟩ => ⟨S24576x1024, .f32⟩
  | .hbm, ⟨51, _⟩ => ⟨S1x1x1024x4096, .f32⟩
  | .hbm, ⟨52, _⟩ => ⟨S1024x4096, .f32⟩
  | .hbm, ⟨53, _⟩ => ⟨S24576x4096, .f32⟩
  | .hbm, ⟨54, _⟩ => ⟨S24576x4096, .f32⟩
  | .hbm, ⟨55, _⟩ => ⟨S24576x4096, .f32⟩
  | .hbm, ⟨56, _⟩ => ⟨S1x1x4096x4096, .f32⟩
  | .hbm, ⟨57, _⟩ => ⟨S4096x4096, .f32⟩
  | .hbm, ⟨58, _⟩ => ⟨S24576x4096, .f32⟩
  | .hbm, ⟨59, _⟩ => ⟨S1x1x4096, .f32⟩
  | .hbm, ⟨60, _⟩ => ⟨S4096, .f32⟩
  | .hbm, ⟨61, _⟩ => ⟨S1x4096, .f32⟩
  | .hbm, ⟨62, _⟩ => ⟨S24576x4096, .f32⟩
  | .hbm, ⟨63, _⟩ => ⟨S24576x4096, .f32⟩
  | .hbm, ⟨64, _⟩ => ⟨S24576x4096, .f32⟩
  | .hbm, ⟨65, _⟩ => ⟨S24576x4096, .f32⟩
  | .hbm, ⟨66, _⟩ => ⟨S_, .f32⟩
  | .hbm, ⟨67, _⟩ => ⟨S24576x4096, .f32⟩
  | .hbm, ⟨68, _⟩ => ⟨S24576x4096, .f32⟩
  | .hbm, ⟨69, _⟩ => ⟨S_, .f32⟩
  | .hbm, ⟨70, _⟩ => ⟨S24576x4096, .f32⟩
  | .hbm, ⟨71, _⟩ => ⟨S24576x4096, .f32⟩
  | .hbm, ⟨72, _⟩ => ⟨S1x24576x1024, .bf16⟩
  | .hbm, ⟨73, _⟩ => ⟨S24576x1024, .bf16⟩
  | .hbm, ⟨74, _⟩ => ⟨S24576x1024, .f32⟩
  | .hbm, ⟨75, _⟩ => ⟨S1x1x1024x4096, .f32⟩
  | .hbm, ⟨76, _⟩ => ⟨S1024x4096, .f32⟩
  | .hbm, ⟨77, _⟩ => ⟨S24576x4096, .f32⟩
  | .hbm, ⟨78, _⟩ => ⟨S24576x4096, .f32⟩
  | .hbm, ⟨79, _⟩ => ⟨S24576x4096, .f32⟩
  | .hbm, ⟨80, _⟩ => ⟨S1x1x4096x4096, .f32⟩
  | .hbm, ⟨81, _⟩ => ⟨S4096x4096, .f32⟩
  | .hbm, ⟨82, _⟩ => ⟨S24576x4096, .f32⟩
  | .hbm, ⟨83, _⟩ => ⟨S1x1x4096, .f32⟩
  | .hbm, ⟨84, _⟩ => ⟨S4096, .f32⟩
  | .hbm, ⟨85, _⟩ => ⟨S1x4096, .f32⟩
  | .hbm, ⟨86, _⟩ => ⟨S24576x4096, .f32⟩
  | .hbm, ⟨87, _⟩ => ⟨S24576x4096, .f32⟩
  | .hbm, ⟨88, _⟩ => ⟨S24576x4096, .f32⟩
  | .hbm, ⟨89, _⟩ => ⟨S24576x4096, .f32⟩
  | .hbm, ⟨90, _⟩ => ⟨S_, .f32⟩
  | .hbm, ⟨91, _⟩ => ⟨S24576x4096, .f32⟩
  | .hbm, ⟨92, _⟩ => ⟨S24576x4096, .f32⟩
  | .hbm, ⟨93, _⟩ => ⟨S_, .f32⟩
  | .hbm, ⟨94, _⟩ => ⟨S24576x4096, .f32⟩
  | .hbm, ⟨95, _⟩ => ⟨S24576x4096, .f32⟩
  | .hbm, ⟨96, _⟩ => ⟨S1x24576x1024, .bf16⟩
  | .hbm, ⟨97, _⟩ => ⟨S24576x1024, .bf16⟩
  | .hbm, ⟨98, _⟩ => ⟨S24576x1024, .f32⟩
  | .hbm, ⟨99, _⟩ => ⟨S1x1x1024x4096, .f32⟩
  | .hbm, ⟨100, _⟩ => ⟨S1024x4096, .f32⟩
  | .hbm, ⟨101, _⟩ => ⟨S24576x4096, .f32⟩
  | .hbm, ⟨102, _⟩ => ⟨S24576x4096, .f32⟩
  | .hbm, ⟨103, _⟩ => ⟨S24576x4096, .f32⟩
  | .hbm, ⟨104, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_4 : Ref sig .tc := ⟨.hbm, 66, rfl⟩
abbrev main_v56 : Ref sig .tc := ⟨.hbm, 67, rfl⟩
abbrev main_v57 : Ref sig .tc := ⟨.hbm, 68, rfl⟩
abbrev main_cst_5 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_6 : Ref sig .tc := ⟨.hbm, 90, rfl⟩
abbrev main_v78 : Ref sig .tc := ⟨.hbm, 91, rfl⟩
abbrev main_v79 : Ref sig .tc := ⟨.hbm, 92, rfl⟩
abbrev main_cst_7 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩

abbrev nD : Nat := 1
abbrev τ : Topo := Topo.v7x

variable {F : FTy → Type} [FloatOps F]
-- ==== MoeUp.lean ====
abbrev S24576x4096 : Shape := ⟨2, ![24576, 4096]⟩
abbrev S1x8x4096x1792 : Shape := ⟨4, ![1, 8, 4096, 1792]⟩
abbrev S24576x128 : Shape := ⟨2, ![24576, 128]⟩
abbrev S24576x14336 : Shape := ⟨2, ![24576, 14336]⟩
abbrev S1024x4096 : Shape := ⟨2, ![1024, 4096]⟩
abbrev S1x1x4096x256 : Shape := ⟨4, ![1, 1, 4096, 256]⟩
abbrev S1024x128 : Shape := ⟨2, ![1024, 128]⟩
abbrev S1024x256 : Shape := ⟨2, ![1024, 256]⟩
abbrev S4096x256 : Shape := ⟨2, ![4096, 256]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S24576x4096, .bf16⟩
  | .hbm, ⟨1, _⟩ => ⟨S1x8x4096x1792, .f32⟩
  | .hbm, ⟨2, _⟩ => ⟨S1x8x4096x1792, .f32⟩
  | .hbm, ⟨3, _⟩ => ⟨S24576x128, .f32⟩
  | .hbm, ⟨4, _⟩ => ⟨S1x8x4096x1792, .bf16⟩
  | .hbm, ⟨5, _⟩ => ⟨S1x8x4096x1792, .bf16⟩
  | .hbm, ⟨6, _⟩ => ⟨S24576x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1024x128, .f32⟩
  | .local _ .vmem, ⟨7, _⟩ => ⟨S1024x128, .f32⟩
  | .local _ .vmem, ⟨8, _⟩ => ⟨S1024x256, .bf16⟩
  | .local _ .vmem, ⟨9, _⟩ => ⟨S1024x256, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MoeUpReferenceIdeal.lean ====
abbrev S24576x4096 : Shape := ⟨2, ![24576, 4096]⟩
abbrev S1x8x4096x1792 : Shape := ⟨4, ![1, 8, 4096, 1792]⟩
abbrev S24576x128 : Shape := ⟨2, ![24576, 128]⟩
abbrev S1x1x4096x1792 : Shape := ⟨4, ![1, 1, 4096, 1792]⟩
abbrev S4096x1792 : Shape := ⟨2, ![4096, 1792]⟩
abbrev S24576x1792 : Shape := ⟨2, ![24576, 1792]⟩
abbrev S_ : Shape := ⟨0, ![]⟩
abbrev S24576x1 : Shape := ⟨2, ![24576, 1]⟩
abbrev S24576x14336 : Shape := ⟨2, ![24576, 14336]⟩

abbrev nBuf : Space → Nat
  | .hbm => 159
  | .vmem => 0
  | .smem => 0
  | _ => 0

abbrev hbmTy0_0 (i : Nat) : BufTy := match i % 128 with
  | 0 => ⟨S24576x4096, .bf16⟩
  | 1 => ⟨S1x8x4096x1792, .f32⟩
  | 2 => ⟨S1x8x4096x1792, .f32⟩
  | 3 => ⟨S24576x128, .f32⟩
  | 4 => ⟨S24576x4096, .f32⟩
  | 5 => ⟨S1x1x4096x1792, .f32⟩
  | 6 => ⟨S4096x1792, .f32⟩
  | 7 => ⟨S1x1x4096x1792, .f32⟩
  | 8 => ⟨S4096x1792, .f32⟩
  | 9 => ⟨S24576x1792, .f32⟩
  | 10 => ⟨S24576x1792, .f32⟩
  | 11 => ⟨S24576x1792, .f32⟩
  | 12 => ⟨S_, .f32⟩
  | 13 => ⟨S24576x1792, .f32⟩
  | 14 => ⟨S24576x1792, .f32⟩
  | 15 => ⟨S_, .f32⟩
  | 16 => ⟨S24576x1792, .f32⟩
  | 17 => ⟨S24576x1792, .f32⟩
  | 18 => ⟨S24576x1792, .f32⟩
  | 19 => ⟨S24576x1792, .f32⟩
  | 20 => ⟨S24576x1792, .f32⟩
  | 21 => ⟨S24576x1, .f32⟩
  | 22 => ⟨S24576x1792, .f32⟩
  | 23 => ⟨S24576x1792, .f32⟩
  | 24 => ⟨S1x1x4096x1792, .f32⟩
  | 25 => ⟨S4096x1792, .f32⟩
  | 26 => ⟨S1x1x4096x1792, .f32⟩
  | 27 => ⟨S4096x1792, .f32⟩
  | 28 => ⟨S24576x1792, .f32⟩
  | 29 => ⟨S24576x1792, .f32⟩
  | 30 => ⟨S24576x1792, .f32⟩
  | 31 => ⟨S_, .f32⟩
  | 32 => ⟨S24576x1792, .f32⟩
  | 33 => ⟨S24576x1792, .f32⟩
  | 34 => ⟨S_, .f32⟩
  | 35 => ⟨S24576x1792, .f32⟩
  | 36 => ⟨S24576x1792, .f32⟩
  | 37 => ⟨S24576x1792, .f32⟩
  | 38 => ⟨S24576x1792, .f32⟩
  | 39 => ⟨S24576x1792, .f32⟩
  | 40 => ⟨S24576x1, .f32⟩
  | 41 => ⟨S24576x1792, .f32⟩
  | 42 => ⟨S24576x1792, .f32⟩
  | 43 => ⟨S1x1x4096x1792, .f32⟩
  | 44 => ⟨S4096x1792, .f32⟩
  | 45 => ⟨S1x1x4096x1792, .f32⟩
  | 46 => ⟨S4096x1792, .f32⟩
  | 47 => ⟨S24576x1792, .f32⟩
  | 48 => ⟨S24576x1792, .f32⟩
  | 49 => ⟨S24576x1792, .f32⟩
  | 50 => ⟨S_, .f32⟩
  | 51 => ⟨S24576x1792, .f32⟩
  | 52 => ⟨S24576x1792, .f32⟩
  | 53 => ⟨S_, .f32⟩
  | 54 => ⟨S24576x1792, .f32⟩
  | 55 => ⟨S24576x1792, .f32⟩
  | 56 => ⟨S24576x1792, .f32⟩
  | 57 => ⟨S24576x1792, .f32⟩
  | 58 => ⟨S24576x1792, .f32⟩
  | 59 => ⟨S24576x1, .f32⟩
  | 60 => ⟨S24576x1792, .f32⟩
  | 61 => ⟨S24576x1792, .f32⟩
  | 62 => ⟨S1x1x4096x1792, .f32⟩
  | 63 => ⟨S4096x1792, .f32⟩
  | 64 => ⟨S1x1x4096x1792, .f32⟩
  | 65 => ⟨S4096x1792, .f32⟩
  | 66 => ⟨S24576x1792, .f32⟩
  | 67 => ⟨S24576x1792, .f32⟩
  | 68 => ⟨S24576x1792, .f32⟩
  | 69 => ⟨S_, .f32⟩
  | 70 => ⟨S24576x1792, .f32⟩
  | 71 => ⟨S24576x1792, .f32⟩
  | 72 => ⟨S_, .f32⟩
  | 73 => ⟨S24576x1792, .f32⟩
  | 74 => ⟨S24576x1792, .f32⟩
  | 75 => ⟨S24576x1792, .f32⟩
  | 76 => ⟨S24576x1792, .f32⟩
  | 77 => ⟨S24576x1792, .f32⟩
  | 78 => ⟨S24576x1, .f32⟩
  | 79 => ⟨S24576x1792, .f32⟩
  | 80 => ⟨S24576x1792, .f32⟩
  | 81 => ⟨S1x1x4096x1792, .f32⟩
  | 82 => ⟨S4096x1792, .f32⟩
  | 83 => ⟨S1x1x4096x1792, .f32⟩
  | 84 => ⟨S4096x1792, .f32⟩
  | 85 => ⟨S24576x1792, .f32⟩
  | 86 => ⟨S24576x1792, .f32⟩
  | 87 => ⟨S24576x1792, .f32⟩
  | 88 => ⟨S_, .f32⟩
  | 89 => ⟨S24576x1792, .f32⟩
  | 90 => ⟨S24576x1792, .f32⟩
  | 91 => ⟨S_, .f32⟩
  | 92 => ⟨S24576x1792, .f32⟩
  | 93 => ⟨S24576x1792, .f32⟩
  | 94 => ⟨S24576x1792, .f32⟩
  | 95 => ⟨S24576x1792, .f32⟩
  | 96 => ⟨S24576x1792, .f32⟩
  | 97 => ⟨S24576x1, .f32⟩
  | 98 => ⟨S24576x1792, .f32⟩
  | 99 => ⟨S24576x1792, .f32⟩
  | 100 => ⟨S1x1x4096x1792, .f32⟩
  | 101 => ⟨S4096x1792, .f32⟩
  | 102 => ⟨S1x1x4096x1792, .f32⟩
  | 103 => ⟨S4096x1792, .f32⟩
  | 104 => ⟨S24576x1792, .f32⟩
  | 105 => ⟨S24576x1792, .f32⟩
  | 106 => ⟨S24576x1792, .f32⟩
  | 107 => ⟨S_, .f32⟩
  | 108 => ⟨S24576x1792, .f32⟩
  | 109 => ⟨S24576x1792, .f32⟩
  | 110 => ⟨S_, .f32⟩
  | 111 => ⟨S24576x1792, .f32⟩
  | 112 => ⟨S24576x1792, .f32⟩
  | 113 => ⟨S24576x1792, .f32⟩
  | 114 => ⟨S24576x1792, .f32⟩
  | 115 => ⟨S24576x1792, .f32⟩
  | 116 => ⟨S24576x1, .f32⟩
  | 117 => ⟨S24576x1792, .f32⟩
  | 118 => ⟨S24576x1792, .f32⟩
  | 119 => ⟨S1x1x4096x1792, .f32⟩
  | 120 => ⟨S4096x1792, .f32⟩
  | 121 => ⟨S1x1x4096x1792, .f32⟩
  | 122 => ⟨S4096x1792, .f32⟩
  | 123 => ⟨S24576x1792, .f32⟩
  | 124 => ⟨S24576x1792, .f32⟩
  | 125 => ⟨S24576x1792, .f32⟩
  | 126 => ⟨S_, .f32⟩
  | 127 => ⟨S24576x1792, .f32⟩
  | _ => ⟨S24576x4096, .bf16⟩

abbrev hbmTy0_1 (i : Nat) : BufTy := match i % 128 with
  | 0 => ⟨S24576x1792, .f32⟩
  | 1 => ⟨S_, .f32⟩
  | 2 => ⟨S24576x1792, .f32⟩
  | 3 => ⟨S24576x1792, .f32⟩
  | 4 => ⟨S24576x1792, .f32⟩
  | 5 => ⟨S24576x1792, .f32⟩
  | 6 => ⟨S24576x1792, .f32⟩
  | 7 => ⟨S24576x1, .f32⟩
  | 8 => ⟨S24576x1792, .f32⟩
  | 9 => ⟨S24576x1792, .f32⟩
  | 10 => ⟨S1x1x4096x1792, .f32⟩
  | 11 => ⟨S4096x1792, .f32⟩
  | 12 => ⟨S1x1x4096x1792, .f32⟩
  | 13 => ⟨S4096x1792, .f32⟩
  | 14 => ⟨S24576x1792, .f32⟩
  | 15 => ⟨S24576x1792, .f32⟩
  | 16 => ⟨S24576x1792, .f32⟩
  | 17 => ⟨S_, .f32⟩
  | 18 => ⟨S24576x1792, .f32⟩
  | 19 => ⟨S24576x1792, .f32⟩
  | 20 => ⟨S_, .f32⟩
  | 21 => ⟨S24576x1792, .f32⟩
  | 22 => ⟨S24576x1792, .f32⟩
  | 23 => ⟨S24576x1792, .f32⟩
  | 24 => ⟨S24576x1792, .f32⟩
  | 25 => ⟨S24576x1792, .f32⟩
  | 26 => ⟨S24576x1, .f32⟩
  | 27 => ⟨S24576x1792, .f32⟩
  | 28 => ⟨S24576x1792, .f32⟩
  | 29 => ⟨S24576x14336, .f32⟩
  | 30 => ⟨S24576x14336, .bf16⟩
  | _ => ⟨S24576x4096, .bf16⟩

abbrev hbmTy (i : Nat) : BufTy := match i / 128 with
  | 0 => hbmTy0_0 i
  | 1 => hbmTy0_1 i
  | _ => ⟨S24576x4096, .bf16⟩

abbrev bufTy : (tb : Table) → Fin (tcTables nBuf tb) → BufTy
  | .hbm, ⟨i, _⟩ => hbmTy i
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call3_v0 : Ref sig .tc := ⟨.hbm, 67, rfl⟩
abbrev main_call3_v1 : Ref sig .tc := ⟨.hbm, 68, rfl⟩
abbrev main_call3_cst : Ref sig .tc := ⟨.hbm, 69, rfl⟩
abbrev main_call3_v2 : Ref sig .tc := ⟨.hbm, 70, rfl⟩
abbrev main_call3_v3 : Ref sig .tc := ⟨.hbm, 71, rfl⟩
abbrev main_call3_cst_0 : Ref sig .tc := ⟨.hbm, 72, rfl⟩
abbrev main_call3_v4 : Ref sig .tc := ⟨.hbm, 73, rfl⟩
abbrev main_call3_v5 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_call4_v0 : Ref sig .tc := ⟨.hbm, 86, rfl⟩
abbrev main_call4_v1 : Ref sig .tc := ⟨.hbm, 87, rfl⟩
abbrev main_call4_cst : Ref sig .tc := ⟨.hbm, 88, rfl⟩
abbrev main_call4_v2 : Ref sig .tc := ⟨.hbm, 89, rfl⟩
abbrev main_call4_v3 : Ref sig .tc := ⟨.hbm, 90, rfl⟩
abbrev main_call4_cst_0 : Ref sig .tc := ⟨.hbm, 91, rfl⟩
abbrev main_call4_v4 : Ref sig .tc := ⟨.hbm, 92, rfl⟩
abbrev main_call4_v5 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_call5_v0 : Ref sig .tc := ⟨.hbm, 105, rfl⟩
abbrev main_call5_v1 : Ref sig .tc := ⟨.hbm, 106, rfl⟩
abbrev main_call5_cst : Ref sig .tc := ⟨.hbm, 107, rfl⟩
abbrev main_call5_v2 : Ref sig .tc := ⟨.hbm, 108, rfl⟩
abbrev main_call5_v3 : Ref sig .tc := ⟨.hbm, 109, rfl⟩
abbrev main_call5_cst_0 : Ref sig .tc := ⟨.hbm, 110, rfl⟩
abbrev main_call5_v4 : Ref sig .tc := ⟨.hbm, 111, rfl⟩
abbrev main_call5_v5 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_call6_v0 : Ref sig .tc := ⟨.hbm, 124, rfl⟩
abbrev main_call6_v1 : Ref sig .tc := ⟨.hbm, 125, rfl⟩
abbrev main_call6_cst : Ref sig .tc := ⟨.hbm, 126, rfl⟩
abbrev main_call6_v2 : Ref sig .tc := ⟨.hbm, 127, rfl⟩
abbrev main_call6_v3 : Ref sig .tc := ⟨.hbm, 128, rfl⟩
abbrev main_call6_cst_0 : Ref sig .tc := ⟨.hbm, 129, rfl⟩
abbrev main_call6_v4 : Ref sig .tc := ⟨.hbm, 130, rfl⟩
abbrev main_call6_v5 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_call7_v0 : Ref sig .tc := ⟨.hbm, 143, rfl⟩
abbrev main_call7_v1 : Ref sig .tc := ⟨.hbm, 144, rfl⟩
abbrev main_call7_cst : Ref sig .tc := ⟨.hbm, 145, rfl⟩
abbrev main_call7_v2 : Ref sig .tc := ⟨.hbm, 146, rfl⟩
abbrev main_call7_v3 : Ref sig .tc := ⟨.hbm, 147, rfl⟩
abbrev main_call7_cst_0 : Ref sig .tc := ⟨.hbm, 148, rfl⟩
abbrev main_call7_v4 : Ref sig .tc := ⟨.hbm, 149, rfl⟩
abbrev main_call7_v5 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩

abbrev nD : Nat := 1
abbrev τ : Topo := Topo.v7x

variable {F : FTy → Type} [FloatOps F]
-- ==== FfnUp.lean ====
abbrev S24576x4096 : Shape := ⟨2, ![24576, 4096]⟩
abbrev S1x4096x11008 : Shape := ⟨3, ![1, 4096, 11008]⟩
abbrev S_ : Shape := ⟨0, ![]⟩
abbrev S1x4096x11264 : Shape := ⟨3, ![1, 4096, 11264]⟩
abbrev S24576x11264 : Shape := ⟨2, ![24576, 11264]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 12
  | .vmem => 8
  | .smem => 0
  | _ => 0

abbrev bufTy : (tb : Table) → Fin (tcTables nBuf tb) → BufTy
  | .hbm, ⟨0, _⟩ => ⟨S24576x4096, .bf16⟩
  | .hbm, ⟨1, _⟩ => ⟨S1x4096x11008, .f32⟩
  | .hbm, ⟨2, _⟩ => ⟨S1x4096x11008, .f32⟩
  | .hbm, ⟨3, _⟩ => ⟨S_, .i32⟩
  | .hbm, ⟨4, _⟩ => ⟨S_, .f32⟩
  | .hbm, ⟨5, _⟩ => ⟨S1x4096x11264, .f32⟩
  | .hbm, ⟨6, _⟩ => ⟨S1x4096x11264, .bf16⟩
  | .hbm, ⟨7, _⟩ => ⟨S_, .i32⟩
  | .hbm, ⟨8, _⟩ => ⟨S_, .f32⟩
  | .hbm, ⟨9, _⟩ => ⟨S1x4096x11264, .f32⟩
  | .hbm, ⟨10, _⟩ => ⟨S1x4096x11264, .bf16⟩
  | .hbm, ⟨11, _⟩ => ⟨S24576x11264, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .bf16⟩
  | .local _ .vmem, ⟨7, _⟩ => ⟨S1024x512, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpReferenceIdeal.lean ====
abbrev S24576x4096 : Shape := ⟨2, ![24576, 4096]⟩
abbrev S1x4096x11008 : Shape := ⟨3, ![1, 4096, 11008]⟩
abbrev S4096x11008 : Shape := ⟨2, ![4096, 11008]⟩
abbrev S24576x11008 : Shape := ⟨2, ![24576, 11008]⟩
abbrev S_ : Shape := ⟨0, ![]⟩
abbrev S24576x11264 : Shape := ⟨2, ![24576, 11264]⟩

abbrev nBuf : Space → Nat
  | .hbm => 22
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S1x4096x11008, .f32⟩
  | .hbm, ⟨2, _⟩ => ⟨S1x4096x11008, .f32⟩
  | .hbm, ⟨3, _⟩ => ⟨S24576x4096, .f32⟩
  | .hbm, ⟨4, _⟩ => ⟨S4096x11008, .f32⟩
  | .hbm, ⟨5, _⟩ => ⟨S24576x11008, .f32⟩
  | .hbm, ⟨6, _⟩ => ⟨S24576x11008, .f32⟩
  | .hbm, ⟨7, _⟩ => ⟨S24576x11008, .f32⟩
  | .hbm, ⟨8, _⟩ => ⟨S_, .f32⟩
  | .hbm, ⟨9, _⟩ => ⟨S24576x11008, .f32⟩
  | .hbm, ⟨10, _⟩ => ⟨S24576x11008, .f32⟩
  | .hbm, ⟨11, _⟩ => ⟨S_, .f32⟩
  | .hbm, ⟨12, _⟩ => ⟨S24576x11008, .f32⟩
  | .hbm, ⟨13, _⟩ => ⟨S24576x11008, .f32⟩
  | .hbm, ⟨14, _⟩ => ⟨S24576x11008, .f32⟩
  | .hbm, ⟨15, _⟩ => ⟨S4096x11008, .f32⟩
  | .hbm, ⟨16, _⟩ => ⟨S24576x11008, .f32⟩
  | .hbm, ⟨17, _⟩ => ⟨S24576x11008, .f32⟩
  | .hbm, ⟨18, _⟩ => ⟨S_, .i32⟩
  | .hbm, ⟨19, _⟩ => ⟨S_, .f32⟩
  | .hbm, ⟨20, _⟩ => ⟨S24576x11264, .f32⟩
  | .hbm, ⟨21, _⟩ => ⟨S24576x11264, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== InProj.lean ====
abbrev S24576x4096 : Shape := ⟨2, ![24576, 4096]⟩
abbrev S2x4096x9248 : Shape := ⟨3, ![2, 4096, 9248]⟩
abbrev S24576x9216 : Shape := ⟨2, ![24576, 9216]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S2x4096x9248, .f32⟩
  | .hbm, ⟨2, _⟩ => ⟨S2x4096x9248, .bf16⟩
  | .hbm, ⟨3, _⟩ => ⟨S24576x9216, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![24, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S24576x4096 : Shape := ⟨2, ![24576, 4096]⟩
abbrev S2x4096x9248 : Shape := ⟨3, ![2, 4096, 9248]⟩
abbrev S1x4096x9248 : Shape := ⟨3, ![1, 4096, 9248]⟩
abbrev S4096x9248 : Shape := ⟨2, ![4096, 9248]⟩
abbrev S24576x9248 : Shape := ⟨2, ![24576, 9248]⟩
abbrev S24576x9216 : Shape := ⟨2, ![24576, 9216]⟩

abbrev nBuf : Space → Nat
  | .hbm => 8
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x9248, .f32⟩
  | .hbm, ⟨2, _⟩ => ⟨S24576x4096, .f32⟩
  | .hbm, ⟨3, _⟩ => ⟨S1x4096x9248, .f32⟩
  | .hbm, ⟨4, _⟩ => ⟨S4096x9248, .f32⟩
  | .hbm, ⟨5, _⟩ => ⟨S24576x9248, .f32⟩
  | .hbm, ⟨6, _⟩ => ⟨S24576x9216, .f32⟩
  | .hbm, ⟨7, _⟩ => ⟨S24576x9216, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S24576x4096 : Shape := ⟨2, ![24576, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .f32⟩
  | .hbm, ⟨2, _⟩ => ⟨S24576x4096, .f32⟩
  | .hbm, ⟨3, _⟩ => ⟨S2x4096x4096, .bf16⟩
  | .hbm, ⟨4, _⟩ => ⟨S24576x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![24, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjReferenceIdeal.lean ====
abbrev S24576x4096 : Shape := ⟨2, ![24576, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .f32⟩
  | .hbm, ⟨2, _⟩ => ⟨S24576x4096, .f32⟩
  | .hbm, ⟨3, _⟩ => ⟨S24576x4096, .f32⟩
  | .hbm, ⟨4, _⟩ => ⟨S1x4096x4096, .f32⟩
  | .hbm, ⟨5, _⟩ => ⟨S4096x4096, .f32⟩
  | .hbm, ⟨6, _⟩ => ⟨S24576x4096, .f32⟩
  | .hbm, ⟨7, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MoeDown.lean ====
abbrev S24576x14336 : Shape := ⟨2, ![24576, 14336]⟩
abbrev S1x8x1792x4096 : Shape := ⟨4, ![1, 8, 1792, 4096]⟩
abbrev S24576x4096 : Shape := ⟨2, ![24576, 4096]⟩
abbrev S1x14336x4096 : Shape := ⟨3, ![1, 14336, 4096]⟩
abbrev S1024x3584 : Shape := ⟨2, ![1024, 3584]⟩
abbrev S1x3584x1024 : Shape := ⟨3, ![1, 3584, 1024]⟩
abbrev S1024x1024 : Shape := ⟨2, ![1024, 1024]⟩
abbrev S3584x1024 : Shape := ⟨2, ![3584, 1024]⟩

abbrev nBuf : Space → Nat
  | .hbm => 6
  | .vmem => 8
  | .smem => 0
  | _ => 0

abbrev bufTy : (tb : Table) → Fin (tcTables nBuf tb) → BufTy
  | .hbm, ⟨0, _⟩ => ⟨S24576x14336, .bf16⟩
  | .hbm, ⟨1, _⟩ => ⟨S1x8x1792x4096, .f32⟩
  | .hbm, ⟨2, _⟩ => ⟨S24576x4096, .f32⟩
  | .hbm, ⟨3, _⟩ => ⟨S1x8x1792x4096, .bf16⟩
  | .hbm, ⟨4, _⟩ => ⟨S1x14336x4096, .bf16⟩
  | .hbm, ⟨5, _⟩ => ⟨S24576x4096, .f32⟩
  | .local _ .vmem, ⟨0, _⟩ => ⟨S1024x3584, .bf16⟩
  | .local _ .vmem, ⟨1, _⟩ => ⟨S1024x3584, .bf16⟩
  | .local _ .vmem, ⟨2, _⟩ => ⟨S1x3584x1024, .bf16⟩
  | .local _ .vmem, ⟨3, _⟩ => ⟨S1x3584x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S24576x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![24, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MoeDownReferenceIdeal.lean ====
abbrev S24576x14336 : Shape := ⟨2, ![24576, 14336]⟩
abbrev S1x8x1792x4096 : Shape := ⟨4, ![1, 8, 1792, 4096]⟩
abbrev S24576x4096 : Shape := ⟨2, ![24576, 4096]⟩
abbrev S_ : Shape := ⟨0, ![]⟩
abbrev S24576x1792 : Shape := ⟨2, ![24576, 1792]⟩
abbrev S1x1x1792x4096 : Shape := ⟨4, ![1, 1, 1792, 4096]⟩
abbrev S1792x4096 : Shape := ⟨2, ![1792, 4096]⟩

abbrev nBuf : Space → Nat
  | .hbm => 54
  | .vmem => 0
  | .smem => 0
  | _ => 0

abbrev bufTy : (tb : Table) → Fin (tcTables nBuf tb) → BufTy
  | .hbm, ⟨0, _⟩ => ⟨S24576x14336, .bf16⟩
  | .hbm, ⟨1, _⟩ => ⟨S1x8x1792x4096, .f32⟩
  | .hbm, ⟨2, _⟩ => ⟨S24576x4096, .f32⟩
  | .hbm, ⟨3, _⟩ => ⟨S_, .f32⟩
  | .hbm, ⟨4, _⟩ => ⟨S24576x4096, .f32⟩
  | .hbm, ⟨5, _⟩ => ⟨S24576x1792, .bf16⟩
  | .hbm, ⟨6, _⟩ => ⟨S24576x1792, .f32⟩
  | .hbm, ⟨7, _⟩ => ⟨S1x1x1792x4096, .f32⟩
  | .hbm, ⟨8, _⟩ => ⟨S1792x4096, .f32⟩
  | .hbm, ⟨9, _⟩ => ⟨S24576x4096, .f32⟩
  | .hbm, ⟨10, _⟩ => ⟨S24576x4096, .f32⟩
  | .hbm, ⟨11, _⟩ => ⟨S24576x1792, .bf16⟩
  | .hbm, ⟨12, _⟩ => ⟨S24576x1792, .f32⟩
  | .hbm, ⟨13, _⟩ => ⟨S1x1x1792x4096, .f32⟩
  | .hbm, ⟨14, _⟩ => ⟨S1792x4096, .f32⟩
  | .hbm, ⟨15, _⟩ => ⟨S24576x4096, .f32⟩
  | .hbm, ⟨16, _⟩ => ⟨S24576x4096, .f32⟩
  | .hbm, ⟨17, _⟩ => ⟨S24576x1792, .bf16⟩
  | .hbm, ⟨18, _⟩ => ⟨S24576x1792, .f32⟩
  | .hbm, ⟨19, _⟩ => ⟨S1x1x1792x4096, .f32⟩
  | .hbm, ⟨20, _⟩ => ⟨S1792x4096, .f32⟩
  | .hbm, ⟨21, _⟩ => ⟨S24576x4096, .f32⟩
  | .hbm, ⟨22, _⟩ => ⟨S24576x4096, .f32⟩
  | .hbm, ⟨23, _⟩ => ⟨S24576x1792, .bf16⟩
  | .hbm, ⟨24, _⟩ => ⟨S24576x1792, .f32⟩
  | .hbm, ⟨25, _⟩ => ⟨S1x1x1792x4096, .f32⟩
  | .hbm, ⟨26, _⟩ => ⟨S1792x4096, .f32⟩
  | .hbm, ⟨27, _⟩ => ⟨S24576x4096, .f32⟩
  | .hbm, ⟨28, _⟩ => ⟨S24576x4096, .f32⟩
  | .hbm, ⟨29, _⟩ => ⟨S24576x1792, .bf16⟩
  | .hbm, ⟨30, _⟩ => ⟨S24576x1792, .f32⟩
  | .hbm, ⟨31, _⟩ => ⟨S1x1x1792x4096, .f32⟩
  | .hbm, ⟨32, _⟩ => ⟨S1792x4096, .f32⟩
  | .hbm, ⟨33, _⟩ => ⟨S24576x4096, .f32⟩
  | .hbm, ⟨34, _⟩ => ⟨S24576x4096, .f32⟩
  | .hbm, ⟨35, _⟩ => ⟨S24576x1792, .bf16⟩
  | .hbm, ⟨36, _⟩ => ⟨S24576x1792, .f32⟩
  | .hbm, ⟨37, _⟩ => ⟨S1x1x1792x4096, .f32⟩
  | .hbm, ⟨38, _⟩ => ⟨S1792x4096, .f32⟩
  | .hbm, ⟨39, _⟩ => ⟨S24576x4096, .f32⟩
  | .hbm, ⟨40, _⟩ => ⟨S24576x4096, .f32⟩
  | .hbm, ⟨41, _⟩ => ⟨S24576x1792, .bf16⟩
  | .hbm, ⟨42, _⟩ => ⟨S24576x1792, .f32⟩
  | .hbm, ⟨43, _⟩ => ⟨S1x1x1792x4096, .f32⟩
  | .hbm, ⟨44, _⟩ => ⟨S1792x4096, .f32⟩
  | .hbm, ⟨45, _⟩ => ⟨S24576x4096, .f32⟩
  | .hbm, ⟨46, _⟩ => ⟨S24576x4096, .f32⟩
  | .hbm, ⟨47, _⟩ => ⟨S24576x1792, .bf16⟩
  | .hbm, ⟨48, _⟩ => ⟨S24576x1792, .f32⟩
  | .hbm, ⟨49, _⟩ => ⟨S1x1x1792x4096, .f32⟩
  | .hbm, ⟨50, _⟩ => ⟨S1792x4096, .f32⟩
  | .hbm, ⟨51, _⟩ => ⟨S24576x4096, .f32⟩
  | .hbm, ⟨52, _⟩ => ⟨S24576x4096, .f32⟩
  | .hbm, ⟨53, _⟩ => ⟨S24576x4096, .f32⟩
  | _, _ => ⟨S24576x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩

abbrev nD : Nat := 1
abbrev τ : Topo := Topo.v7x

variable {F : FTy → Type} [FloatOps F]
-- ==== FfnDown.lean ====
abbrev S24576x11264 : Shape := ⟨2, ![24576, 11264]⟩
abbrev S1x11008x4096 : Shape := ⟨3, ![1, 11008, 4096]⟩
abbrev S24576x4096 : Shape := ⟨2, ![24576, 4096]⟩
abbrev S_ : Shape := ⟨0, ![]⟩
abbrev S1x11264x4096 : Shape := ⟨3, ![1, 11264, 4096]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 8
  | .vmem => 8
  | .smem => 0
  | _ => 0

abbrev bufTy : (tb : Table) → Fin (tcTables nBuf tb) → BufTy
  | .hbm, ⟨0, _⟩ => ⟨S24576x11264, .bf16⟩
  | .hbm, ⟨1, _⟩ => ⟨S1x11008x4096, .f32⟩
  | .hbm, ⟨2, _⟩ => ⟨S24576x4096, .f32⟩
  | .hbm, ⟨3, _⟩ => ⟨S_, .i32⟩
  | .hbm, ⟨4, _⟩ => ⟨S_, .f32⟩
  | .hbm, ⟨5, _⟩ => ⟨S1x11264x4096, .f32⟩
  | .hbm, ⟨6, _⟩ => ⟨S1x11264x4096, .bf16⟩
  | .hbm, ⟨7, _⟩ => ⟨S24576x4096, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S24576x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![24, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownReferenceIdeal.lean ====
abbrev S24576x11264 : Shape := ⟨2, ![24576, 11264]⟩
abbrev S1x11008x4096 : Shape := ⟨3, ![1, 11008, 4096]⟩
abbrev S24576x4096 : Shape := ⟨2, ![24576, 4096]⟩
abbrev S24576x11008 : Shape := ⟨2, ![24576, 11008]⟩
abbrev S11008x4096 : Shape := ⟨2, ![11008, 4096]⟩

abbrev nBuf : Space → Nat
  | .hbm => 8
  | .vmem => 0
  | .smem => 0
  | _ => 0

abbrev bufTy : (tb : Table) → Fin (tcTables nBuf tb) → BufTy
  | .hbm, ⟨0, _⟩ => ⟨S24576x11264, .bf16⟩
  | .hbm, ⟨1, _⟩ => ⟨S1x11008x4096, .f32⟩
  | .hbm, ⟨2, _⟩ => ⟨S24576x4096, .f32⟩
  | .hbm, ⟨3, _⟩ => ⟨S24576x11008, .bf16⟩
  | .hbm, ⟨4, _⟩ => ⟨S24576x11008, .f32⟩
  | .hbm, ⟨5, _⟩ => ⟨S11008x4096, .f32⟩
  | .hbm, ⟨6, _⟩ => ⟨S24576x4096, .f32⟩
  | .hbm, ⟨7, _⟩ => ⟨S24576x4096, .f32⟩
  | _, _ => ⟨S24576x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormPrompt.lean ====
abbrev S24576x4096 : Shape := ⟨2, ![24576, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPromptReferenceIdeal.lean ====
abbrev S24576x4096 : Shape := ⟨2, ![24576, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormSample.lean ====
abbrev S24576x4096 : Shape := ⟨2, ![24576, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSampleReferenceIdeal.lean ====
abbrev S24576x4096 : Shape := ⟨2, ![24576, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormMixers.lean ====
abbrev S24576x4096 : Shape := ⟨2, ![24576, 4096]⟩
abbrev S2x4096 : Shape := ⟨2, ![2, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S24576x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixersReferenceIdeal.lean ====
abbrev S24576x4096 : Shape := ⟨2, ![24576, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S24576 : Shape := ⟨1, ![24576]⟩
abbrev S24576x1 : Shape := ⟨2, ![24576, 1]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S24576x4096, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x4096, .f32⟩
  | .hbm, ⟨16, _⟩ => ⟨S24576x4096, .f32⟩
  | .hbm, ⟨17, _⟩ => ⟨S1x4096, .f32⟩
  | .hbm, ⟨18, _⟩ => ⟨S24576x4096, .f32⟩
  | .hbm, ⟨19, _⟩ => ⟨S24576x4096, .f32⟩
  | .hbm, ⟨20, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Conv.lean ====
abbrev S24576x9216 : Shape := ⟨2, ![24576, 9216]⟩
abbrev S2x31x1024 : Shape := ⟨3, ![2, 31, 1024]⟩
abbrev S2x1024 : Shape := ⟨2, ![2, 1024]⟩
abbrev S1x31x1024 : Shape := ⟨3, ![1, 31, 1024]⟩
abbrev S31x1024 : Shape := ⟨2, ![31, 1024]⟩
abbrev S1x1024 : Shape := ⟨2, ![1, 1024]⟩
abbrev S1024 : Shape := ⟨1, ![1024]⟩
abbrev S16384x1024 : Shape := ⟨2, ![16384, 1024]⟩
abbrev S16x1024 : Shape := ⟨2, ![16, 1024]⟩
abbrev S256x1024 : Shape := ⟨2, ![256, 1024]⟩
abbrev S288x1024 : Shape := ⟨2, ![288, 1024]⟩
abbrev S8x280x1024 : Shape := ⟨3, ![8, 280, 1024]⟩
abbrev S280x1024 : Shape := ⟨2, ![280, 1024]⟩
abbrev S1x280x1024 : Shape := ⟨3, ![1, 280, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 17
  | .vmem => 20
  | .smem => 0
  | _ => 0

abbrev bufTy : (tb : Table) → Fin (tcTables nBuf tb) → BufTy
  | .hbm, ⟨0, _⟩ => ⟨S24576x9216, .bf16⟩
  | .hbm, ⟨1, _⟩ => ⟨S2x31x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1x31x1024, .f32⟩
  | .hbm, ⟨6, _⟩ => ⟨S31x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16384x1024, .bf16⟩
  | .local _ .vmem, ⟨0, _⟩ => ⟨S16x1024, .bf16⟩
  | .local _ .vmem, ⟨1, _⟩ => ⟨S16x1024, .bf16⟩
  | .local _ .vmem, ⟨2, _⟩ => ⟨S256x1024, .bf16⟩
  | .local _ .vmem, ⟨3, _⟩ => ⟨S256x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S256x1024, .bf16⟩
  | .local _ .vmem, ⟨9, _⟩ => ⟨S256x1024, .bf16⟩
  | .local _ .vmem, ⟨10, _⟩ => ⟨S16x1024, .bf16⟩
  | .local _ .vmem, ⟨11, _⟩ => ⟨S16x1024, .bf16⟩
  | .local _ .vmem, ⟨12, _⟩ => ⟨S31x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S288x1024, .f32⟩
  | .local _ .vmem, ⟨19, _⟩ => ⟨S8x280x1024, .f32⟩
  | _, _ => ⟨S24576x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c16_i32 : BitVec 32 := 16#32
  let v3 : BitVec 32 := Scalar.muli v2 c16_i32
  let c1_i32 : BitVec 32 := 1#32
  let v4 : BitVec 32 := Scalar.subi v3 c1_i32
  let c0_i32_0 : BitVec 32 := 0#32
  let v5 : BitVec 32 := Scalar.maxsi v4 c0_i32_0
  let c4_i32 : BitVec 32 := 4#32
  let c0_i32_1 : BitVec 32 := 0#32
  ![v5.toNat, c4_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c1_i32 : BitVec 32 := 1#32
  let v3 : BitVec 32 := Scalar.addi v2 c1_i32
  let c16_i32 : BitVec 32 := 16#32
  let v4 : BitVec 32 := Scalar.muli v3 c16_i32
  let c1535_i32 : BitVec 32 := 1535#32
  let v5 : BitVec 32 := Scalar.minsi v4 c1535_i32
  let c4_i32 : BitVec 32 := 4#32
  let c0_i32_0 : BitVec 32 := 0#32
  ![v5.toNat, c4_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c16_i32 : BitVec 32 := 16#32
  let v3 : BitVec 32 := Scalar.muli v2 c16_i32
  let c1_i32 : BitVec 32 := 1#32
  let v4 : BitVec 32 := Scalar.subi v3 c1_i32
  let c0_i32_0 : BitVec 32 := 0#32
  let v5 : BitVec 32 := Scalar.maxsi v4 c0_i32_0
  let c5_i32 : BitVec 32 := 5#32
  let c0_i32_1 : BitVec 32 := 0#32
  ![v5.toNat, c5_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c1_i32 : BitVec 32 := 1#32
  let v3 : BitVec 32 := Scalar.addi v2 c1_i32
  let c16_i32 : BitVec 32 := 16#32
  let v4 : BitVec 32 := Scalar.muli v3 c16_i32
  let c1535_i32 : BitVec 32 := 1535#32
  let v5 : BitVec 32 := Scalar.minsi v4 c1535_i32
  let c5_i32 : BitVec 32 := 5#32
  let c0_i32_0 : BitVec 32 := 0#32
  ![v5.toNat, c5_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvReferenceIdeal.lean ====
abbrev S24576x9216 : Shape := ⟨2, ![24576, 9216]⟩
abbrev S2x31x1024 : Shape := ⟨3, ![2, 31, 1024]⟩
abbrev S2x1024 : Shape := ⟨2, ![2, 1024]⟩
abbrev S16384x1024 : Shape := ⟨2, ![16384, 1024]⟩
abbrev S_ : Shape := ⟨0, ![]⟩
abbrev S16414x1024 : Shape := ⟨2, ![16414, 1024]⟩
abbrev S1x1x1024 : Shape := ⟨3, ![1, 1, 1024]⟩
abbrev S1024 : Shape := ⟨1, ![1024]⟩
abbrev S1x1024 : Shape := ⟨2, ![1, 1024]⟩
abbrev S16384 : Shape := ⟨1, ![16384]⟩
abbrev S16384x1 : Shape := ⟨2, ![16384, 1]⟩

abbrev nBuf : Space → Nat
  | .hbm => 286
  | .vmem => 0
  | .smem => 0
  | _ => 0

abbrev hbmTy0_0 (i : Nat) : BufTy := match i % 128 with
  | 0 => ⟨S24576x9216, .bf16⟩
  | 1 => ⟨S2x31x1024, .f32⟩
  | 2 => ⟨S2x1024, .f32⟩
  | 3 => ⟨S2x1024, .f32⟩
  | 4 => ⟨S2x1024, .f32⟩
  | 5 => ⟨S16384x1024, .bf16⟩
  | 6 => ⟨S16384x1024, .f32⟩
  | 7 => ⟨S16384x1024, .bf16⟩
  | 8 => ⟨S16384x1024, .f32⟩
  | 9 => ⟨S16384x1024, .f32⟩
  | 10 => ⟨S16384x1024, .f32⟩
  | 11 => ⟨S_, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S16384x1024, .f32⟩
  | 18 => ⟨S_, .i32⟩
  | 19 => ⟨S_, .f32⟩
  | 20 => ⟨S16414x1024, .f32⟩
  | 21 => ⟨S_, .f32⟩
  | 22 => ⟨S16384x1024, .f32⟩
  | 23 => ⟨S16384x1024, .f32⟩
  | 24 => ⟨S1x1x1024, .f32⟩
  | 25 => ⟨S1024, .f32⟩
  | 26 => ⟨S1x1024, .f32⟩
  | 27 => ⟨S16384x1024, .f32⟩
  | 28 => ⟨S16384x1024, .f32⟩
  | 29 => ⟨S16384x1024, .f32⟩
  | 30 => ⟨S16384x1024, .f32⟩
  | 31 => ⟨S1x1x1024, .f32⟩
  | 32 => ⟨S1024, .f32⟩
  | 33 => ⟨S1x1024, .f32⟩
  | 34 => ⟨S16384x1024, .f32⟩
  | 35 => ⟨S16384x1024, .f32⟩
  | 36 => ⟨S16384x1024, .f32⟩
  | 37 => ⟨S16384x1024, .f32⟩
  | 38 => ⟨S1x1x1024, .f32⟩
  | 39 => ⟨S1024, .f32⟩
  | 40 => ⟨S1x1024, .f32⟩
  | 41 => ⟨S16384x1024, .f32⟩
  | 42 => ⟨S16384x1024, .f32⟩
  | 43 => ⟨S16384x1024, .f32⟩
  | 44 => ⟨S16384x1024, .f32⟩
  | 45 => ⟨S1x1x1024, .f32⟩
  | 46 => ⟨S1024, .f32⟩
  | 47 => ⟨S1x1024, .f32⟩
  | 48 => ⟨S16384x1024, .f32⟩
  | 49 => ⟨S16384x1024, .f32⟩
  | 50 => ⟨S16384x1024, .f32⟩
  | 51 => ⟨S16384x1024, .f32⟩
  | 52 => ⟨S1x1x1024, .f32⟩
  | 53 => ⟨S1024, .f32⟩
  | 54 => ⟨S1x1024, .f32⟩
  | 55 => ⟨S16384x1024, .f32⟩
  | 56 => ⟨S16384x1024, .f32⟩
  | 57 => ⟨S16384x1024, .f32⟩
  | 58 => ⟨S16384x1024, .f32⟩
  | 59 => ⟨S1x1x1024, .f32⟩
  | 60 => ⟨S1024, .f32⟩
  | 61 => ⟨S1x1024, .f32⟩
  | 62 => ⟨S16384x1024, .f32⟩
  | 63 => ⟨S16384x1024, .f32⟩
  | 64 => ⟨S16384x1024, .f32⟩
  | 65 => ⟨S16384x1024, .f32⟩
  | 66 => ⟨S1x1x1024, .f32⟩
  | 67 => ⟨S1024, .f32⟩
  | 68 => ⟨S1x1024, .f32⟩
  | 69 => ⟨S16384x1024, .f32⟩
  | 70 => ⟨S16384x1024, .f32⟩
  | 71 => ⟨S16384x1024, .f32⟩
  | 72 => ⟨S16384x1024, .f32⟩
  | 73 => ⟨S1x1x1024, .f32⟩
  | 74 => ⟨S1024, .f32⟩
  | 75 => ⟨S1x1024, .f32⟩
  | 76 => ⟨S16384x1024, .f32⟩
  | 77 => ⟨S16384x1024, .f32⟩
  | 78 => ⟨S16384x1024, .f32⟩
  | 79 => ⟨S16384x1024, .f32⟩
  | 80 => ⟨S1x1x1024, .f32⟩
  | 81 => ⟨S1024, .f32⟩
  | 82 => ⟨S1x1024, .f32⟩
  | 83 => ⟨S16384x1024, .f32⟩
  | 84 => ⟨S16384x1024, .f32⟩
  | 85 => ⟨S16384x1024, .f32⟩
  | 86 => ⟨S16384x1024, .f32⟩
  | 87 => ⟨S1x1x1024, .f32⟩
  | 88 => ⟨S1024, .f32⟩
  | 89 => ⟨S1x1024, .f32⟩
  | 90 => ⟨S16384x1024, .f32⟩
  | 91 => ⟨S16384x1024, .f32⟩
  | 92 => ⟨S16384x1024, .f32⟩
  | 93 => ⟨S16384x1024, .f32⟩
  | 94 => ⟨S1x1x1024, .f32⟩
  | 95 => ⟨S1024, .f32⟩
  | 96 => ⟨S1x1024, .f32⟩
  | 97 => ⟨S16384x1024, .f32⟩
  | 98 => ⟨S16384x1024, .f32⟩
  | 99 => ⟨S16384x1024, .f32⟩
  | 100 => ⟨S16384x1024, .f32⟩
  | 101 => ⟨S1x1x1024, .f32⟩
  | 102 => ⟨S1024, .f32⟩
  | 103 => ⟨S1x1024, .f32⟩
  | 104 => ⟨S16384x1024, .f32⟩
  | 105 => ⟨S16384x1024, .f32⟩
  | 106 => ⟨S16384x1024, .f32⟩
  | 107 => ⟨S16384x1024, .f32⟩
  | 108 => ⟨S1x1x1024, .f32⟩
  | 109 => ⟨S1024, .f32⟩
  | 110 => ⟨S1x1024, .f32⟩
  | 111 => ⟨S16384x1024, .f32⟩
  | 112 => ⟨S16384x1024, .f32⟩
  | 113 => ⟨S16384x1024, .f32⟩
  | 114 => ⟨S16384x1024, .f32⟩
  | 115 => ⟨S1x1x1024, .f32⟩
  | 116 => ⟨S1024, .f32⟩
  | 117 => ⟨S1x1024, .f32⟩
  | 118 => ⟨S16384x1024, .f32⟩
  | 119 => ⟨S16384x1024, .f32⟩
  | 120 => ⟨S16384x1024, .f32⟩
  | 121 => ⟨S16384x1024, .f32⟩
  | 122 => ⟨S1x1x1024, .f32⟩
  | 123 => ⟨S1024, .f32⟩
  | 124 => ⟨S1x1024, .f32⟩
  | 125 => ⟨S16384x1024, .f32⟩
  | 126 => ⟨S16384x1024, .f32⟩
  | 127 => ⟨S16384x1024, .f32⟩
  | _ => ⟨S24576x9216, .bf16⟩

abbrev hbmTy0_1 (i : Nat) : BufTy := match i % 128 with
  | 0 => ⟨S16384x1024, .f32⟩
  | 1 => ⟨S1x1x1024, .f32⟩
  | 2 => ⟨S1024, .f32⟩
  | 3 => ⟨S1x1024, .f32⟩
  | 4 => ⟨S16384x1024, .f32⟩
  | 5 => ⟨S16384x1024, .f32⟩
  | 6 => ⟨S16384x1024, .f32⟩
  | 7 => ⟨S16384x1024, .f32⟩
  | 8 => ⟨S1x1x1024, .f32⟩
  | 9 => ⟨S1024, .f32⟩
  | 10 => ⟨S1x1024, .f32⟩
  | 11 => ⟨S16384x1024, .f32⟩
  | 12 => ⟨S16384x1024, .f32⟩
  | 13 => ⟨S16384x1024, .f32⟩
  | 14 => ⟨S16384x1024, .f32⟩
  | 15 => ⟨S1x1x1024, .f32⟩
  | 16 => ⟨S1024, .f32⟩
  | 17 => ⟨S1x1024, .f32⟩
  | 18 => ⟨S16384x1024, .f32⟩
  | 19 => ⟨S16384x1024, .f32⟩
  | 20 => ⟨S16384x1024, .f32⟩
  | 21 => ⟨S16384x1024, .f32⟩
  | 22 => ⟨S1x1x1024, .f32⟩
  | 23 => ⟨S1024, .f32⟩
  | 24 => ⟨S1x1024, .f32⟩
  | 25 => ⟨S16384x1024, .f32⟩
  | 26 => ⟨S16384x1024, .f32⟩
  | 27 => ⟨S16384x1024, .f32⟩
  | 28 => ⟨S16384x1024, .f32⟩
  | 29 => ⟨S1x1x1024, .f32⟩
  | 30 => ⟨S1024, .f32⟩
  | 31 => ⟨S1x1024, .f32⟩
  | 32 => ⟨S16384x1024, .f32⟩
  | 33 => ⟨S16384x1024, .f32⟩
  | 34 => ⟨S16384x1024, .f32⟩
  | 35 => ⟨S16384x1024, .f32⟩
  | 36 => ⟨S1x1x1024, .f32⟩
  | 37 => ⟨S1024, .f32⟩
  | 38 => ⟨S1x1024, .f32⟩
  | 39 => ⟨S16384x1024, .f32⟩
  | 40 => ⟨S16384x1024, .f32⟩
  | 41 => ⟨S16384x1024, .f32⟩
  | 42 => ⟨S16384x1024, .f32⟩
  | 43 => ⟨S1x1x1024, .f32⟩
  | 44 => ⟨S1024, .f32⟩
  | 45 => ⟨S1x1024, .f32⟩
  | 46 => ⟨S16384x1024, .f32⟩
  | 47 => ⟨S16384x1024, .f32⟩
  | 48 => ⟨S16384x1024, .f32⟩
  | 49 => ⟨S16384x1024, .f32⟩
  | 50 => ⟨S1x1x1024, .f32⟩
  | 51 => ⟨S1024, .f32⟩
  | 52 => ⟨S1x1024, .f32⟩
  | 53 => ⟨S16384x1024, .f32⟩
  | 54 => ⟨S16384x1024, .f32⟩
  | 55 => ⟨S16384x1024, .f32⟩
  | 56 => ⟨S16384x1024, .f32⟩
  | 57 => ⟨S1x1x1024, .f32⟩
  | 58 => ⟨S1024, .f32⟩
  | 59 => ⟨S1x1024, .f32⟩
  | 60 => ⟨S16384x1024, .f32⟩
  | 61 => ⟨S16384x1024, .f32⟩
  | 62 => ⟨S16384x1024, .f32⟩
  | 63 => ⟨S16384x1024, .f32⟩
  | 64 => ⟨S1x1x1024, .f32⟩
  | 65 => ⟨S1024, .f32⟩
  | 66 => ⟨S1x1024, .f32⟩
  | 67 => ⟨S16384x1024, .f32⟩
  | 68 => ⟨S16384x1024, .f32⟩
  | 69 => ⟨S16384x1024, .f32⟩
  | 70 => ⟨S16384x1024, .f32⟩
  | 71 => ⟨S1x1x1024, .f32⟩
  | 72 => ⟨S1024, .f32⟩
  | 73 => ⟨S1x1024, .f32⟩
  | 74 => ⟨S16384x1024, .f32⟩
  | 75 => ⟨S16384x1024, .f32⟩
  | 76 => ⟨S16384x1024, .f32⟩
  | 77 => ⟨S16384x1024, .f32⟩
  | 78 => ⟨S1x1x1024, .f32⟩
  | 79 => ⟨S1024, .f32⟩
  | 80 => ⟨S1x1024, .f32⟩
  | 81 => ⟨S16384x1024, .f32⟩
  | 82 => ⟨S16384x1024, .f32⟩
  | 83 => ⟨S16384x1024, .f32⟩
  | 84 => ⟨S16384x1024, .f32⟩
  | 85 => ⟨S1x1x1024, .f32⟩
  | 86 => ⟨S1024, .f32⟩
  | 87 => ⟨S1x1024, .f32⟩
  | 88 => ⟨S16384x1024, .f32⟩
  | 89 => ⟨S16384x1024, .f32⟩
  | 90 => ⟨S16384x1024, .f32⟩
  | 91 => ⟨S16384x1024, .f32⟩
  | 92 => ⟨S1x1x1024, .f32⟩
  | 93 => ⟨S1024, .f32⟩
  | 94 => ⟨S1x1024, .f32⟩
  | 95 => ⟨S16384x1024, .f32⟩
  | 96 => ⟨S16384x1024, .f32⟩
  | 97 => ⟨S16384x1024, .f32⟩
  | 98 => ⟨S16384x1024, .f32⟩
  | 99 => ⟨S1x1x1024, .f32⟩
  | 100 => ⟨S1024, .f32⟩
  | 101 => ⟨S1x1024, .f32⟩
  | 102 => ⟨S16384x1024, .f32⟩
  | 103 => ⟨S16384x1024, .f32⟩
  | 104 => ⟨S16384x1024, .f32⟩
  | 105 => ⟨S16384x1024, .f32⟩
  | 106 => ⟨S1x1x1024, .f32⟩
  | 107 => ⟨S1024, .f32⟩
  | 108 => ⟨S1x1024, .f32⟩
  | 109 => ⟨S16384x1024, .f32⟩
  | 110 => ⟨S16384x1024, .f32⟩
  | 111 => ⟨S16384x1024, .f32⟩
  | 112 => ⟨S1x1024, .f32⟩
  | 113 => ⟨S1024, .f32⟩
  | 114 => ⟨S1x1024, .f32⟩
  | 115 => ⟨S16384x1024, .f32⟩
  | 116 => ⟨S16384x1024, .f32⟩
  | 117 => ⟨S1x1024, .f32⟩
  | 118 => ⟨S1024, .f32⟩
  | 119 => ⟨S1x1024, .f32⟩
  | 120 => ⟨S1024, .f32⟩
  | 121 => ⟨S_, .f32⟩
  | 122 => ⟨S16384, .f32⟩
  | 123 => ⟨S16384x1, .f32⟩
  | 124 => ⟨S_, .f32⟩
  | 125 => ⟨S16384x1, .f32⟩
  | 126 => ⟨S16384x1, .f32⟩
  | 127 => ⟨S16384x1024, .f32⟩
  | _ => ⟨S24576x9216, .bf16⟩

abbrev hbmTy0_2 (i : Nat) : BufTy := match i % 128 with
  | 0 => ⟨S16384x1024, .f32⟩
  | 1 => ⟨S16384x1024, .f32⟩
  | 2 => ⟨S_, .f32⟩
  | 3 => ⟨S16384, .f32⟩
  | 4 => ⟨S16384x1, .f32⟩
  | 5 => ⟨S_, .f32⟩
  | 6 => ⟨S16384x1, .f32⟩
  | 7 => ⟨S16384x1, .f32⟩
  | 8 => ⟨S_, .f32⟩
  | 9 => ⟨S16384x1, .f32⟩
  | 10 => ⟨S16384x1, .f32⟩
  | 11 => ⟨S16384x1, .f32⟩
  | 12 => ⟨S16384x1024, .f32⟩
  | 13 => ⟨S16384x1024, .f32⟩
  | 14 => ⟨S1x1024, .f32⟩
  | 15 => ⟨S16384x1024, .f32⟩
  | 16 => ⟨S16384x1024, .f32⟩
  | 17 => ⟨S1x1024, .f32⟩
  | 18 => ⟨S16384x1024, .f32⟩
  | 19 => ⟨S16384x1024, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S16384x1024, .f32⟩
  | 29 => ⟨S16384x1024, .bf16⟩
  | _ => ⟨S24576x9216, .bf16⟩

abbrev hbmTy (i : Nat) : BufTy := match i / 128 with
  | 0 => hbmTy0_0 i
  | 1 => hbmTy0_1 i
  | 2 => hbmTy0_2 i
  | _ => ⟨S24576x9216, .bf16⟩

abbrev bufTy : (tb : Table) → Fin (tcTables nBuf tb) → BufTy
  | .hbm, ⟨i, _⟩ => hbmTy i
  | _, _ => ⟨S24576x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_cst_2 : Ref sig .tc := ⟨.hbm, 249, rfl⟩
abbrev main_v239 : Ref sig .tc := ⟨.hbm, 250, rfl⟩
abbrev main_v240 : Ref sig .tc := ⟨.hbm, 251, rfl⟩
abbrev main_cst_3 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_cst_4 : Ref sig .tc := ⟨.hbm, 258, rfl⟩
abbrev main_v246 : Ref sig .tc := ⟨.hbm, 259, rfl⟩
abbrev main_v247 : Ref sig .tc := ⟨.hbm, 260, rfl⟩
abbrev main_cst_5 : Ref sig .tc := ⟨.hbm, 261, rfl⟩
abbrev main_v248 : Ref sig .tc := ⟨.hbm, 262, rfl⟩
abbrev main_v249 : Ref sig .tc := ⟨.hbm, 263, rfl⟩
abbrev main_cst_6 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_call1_v0 : Ref sig .tc := ⟨.hbm, 276, rfl⟩
abbrev main_call1_v1 : Ref sig .tc := ⟨.hbm, 277, rfl⟩
abbrev main_call1_cst : Ref sig .tc := ⟨.hbm, 278, rfl⟩
abbrev main_call1_v2 : Ref sig .tc := ⟨.hbm, 279, rfl⟩
abbrev main_call1_v3 : Ref sig .tc := ⟨.hbm, 280, rfl⟩
abbrev main_call1_cst_0 : Ref sig .tc := ⟨.hbm, 281, rfl⟩
abbrev main_call1_v4 : Ref sig .tc := ⟨.hbm, 282, rfl⟩
abbrev main_call1_v5 : Ref sig .tc := ⟨.hbm, 283, rfl⟩
abbrev main_v261 : Ref sig .tc := ⟨.hbm, 284, rfl⟩
abbrev main_v262 : Ref sig .tc := ⟨.hbm, 285, rfl⟩

abbrev nD : Nat := 1
abbrev τ : Topo := Topo.v7x

variable {F : FTy → Type} [FloatOps F]
-- ==== Rope.lean ====
abbrev S24576x9216 : Shape := ⟨2, ![24576, 9216]⟩
abbrev S8 : Shape := ⟨1, ![8]⟩
abbrev S_ : Shape := ⟨0, ![]⟩
abbrev S16384 : Shape := ⟨1, ![16384]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S16384x128 : Shape := ⟨2, ![16384, 128]⟩
abbrev S16384x2048 : Shape := ⟨2, ![16384, 2048]⟩
abbrev S512x2048 : Shape := ⟨2, ![512, 2048]⟩
abbrev S512x128 : Shape := ⟨2, ![512, 128]⟩

abbrev nBuf : Space → Nat
  | .hbm => 36
  | .vmem => 10
  | .smem => 0
  | _ => 0

abbrev bufTy : (tb : Table) → Fin (tcTables nBuf tb) → BufTy
  | .hbm, ⟨0, _⟩ => ⟨S24576x9216, .bf16⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S16384, .f32⟩
  | .hbm, ⟨15, _⟩ => ⟨S16384x1, .f32⟩
  | .hbm, ⟨16, _⟩ => ⟨S1x8, .f32⟩
  | .hbm, ⟨17, _⟩ => ⟨S16384x8, .f32⟩
  | .hbm, ⟨18, _⟩ => ⟨S16384x8, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S_, .f32⟩
  | .hbm, ⟨23, _⟩ => ⟨S16384x48, .f32⟩
  | .hbm, ⟨24, _⟩ => ⟨S_, .f32⟩
  | .hbm, ⟨25, _⟩ => ⟨S16384x48, .f32⟩
  | .hbm, ⟨26, _⟩ => ⟨S_, .f32⟩
  | .hbm, ⟨27, _⟩ => ⟨S16384x8, .f32⟩
  | .hbm, ⟨28, _⟩ => ⟨S16384x64, .f32⟩
  | .hbm, ⟨29, _⟩ => ⟨S16384x64, .f32⟩
  | .hbm, ⟨30, _⟩ => ⟨S16384x8, .f32⟩
  | .hbm, ⟨31, _⟩ => ⟨S16384x64, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | _, _ => ⟨S24576x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeReferenceIdeal.lean ====
abbrev S24576x9216 : Shape := ⟨2, ![24576, 9216]⟩
abbrev S16384 : Shape := ⟨1, ![16384]⟩
abbrev S16384x1024 : Shape := ⟨2, ![16384, 1024]⟩
abbrev S1x16384x8x2x64 : Shape := ⟨5, ![1, 16384, 8, 2, 64]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S1x16384x1x1x8 : Shape := ⟨5, ![1, 16384, 1, 1, 8]⟩
abbrev S1x16384x8x2x16 : Shape := ⟨5, ![1, 16384, 8, 2, 16]⟩
abbrev S1x16384x8x2x8 : Shape := ⟨5, ![1, 16384, 8, 2, 8]⟩
abbrev S1x16384x8x2x48 : Shape := ⟨5, ![1, 16384, 8, 2, 48]⟩
abbrev S16384x2048 : Shape := ⟨2, ![16384, 2048]⟩

abbrev nBuf : Space → Nat
  | .hbm => 91
  | .vmem => 0
  | .smem => 0
  | _ => 0

abbrev bufTy : (tb : Table) → Fin (tcTables nBuf tb) → BufTy
  | .hbm, ⟨0, _⟩ => ⟨S24576x9216, .bf16⟩
  | .hbm, ⟨1, _⟩ => ⟨S16384, .f32⟩
  | .hbm, ⟨2, _⟩ => ⟨S16384x1024, .bf16⟩
  | .hbm, ⟨3, _⟩ => ⟨S16384x1024, .f32⟩
  | .hbm, ⟨4, _⟩ => ⟨S1x16384x8x2x64, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S16384x1, .f32⟩
  | .hbm, ⟨19, _⟩ => ⟨S1x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S1x16384x1x1x8, .f32⟩
  | .hbm, ⟨25, _⟩ => ⟨S16384x8, .f32⟩
  | .hbm, ⟨26, _⟩ => ⟨S1x16384x1x1x8, .f32⟩
  | .hbm, ⟨27, _⟩ => ⟨S1x16384x8x2x16, .f32⟩
  | .hbm, ⟨28, _⟩ => ⟨S1x16384x8x2x8, .f32⟩
  | .hbm, ⟨29, _⟩ => ⟨S1x16384x8x2x8, .f32⟩
  | .hbm, ⟨30, _⟩ => ⟨S1x16384x8x2x8, .f32⟩
  | .hbm, ⟨31, _⟩ => ⟨S1x16384x8x2x8, .f32⟩
  | .hbm, ⟨32, _⟩ => ⟨S1x16384x8x2x8, .f32⟩
  | .hbm, ⟨33, _⟩ => ⟨S1x16384x8x2x8, .f32⟩
  | .hbm, ⟨34, _⟩ => ⟨S1x16384x8x2x8, .f32⟩
  | .hbm, ⟨35, _⟩ => ⟨S1x16384x8x2x8, .f32⟩
  | .hbm, ⟨36, _⟩ => ⟨S1x16384x8x2x8, .f32⟩
  | .hbm, ⟨37, _⟩ => ⟨S1x16384x8x2x8, .f32⟩
  | .hbm, ⟨38, _⟩ => ⟨S1x16384x8x2x8, .f32⟩
  | .hbm, ⟨39, _⟩ => ⟨S1x16384x8x2x8, .f32⟩
  | .hbm, ⟨40, _⟩ => ⟨S1x16384x8x2x16, .f32⟩
  | .hbm, ⟨41, _⟩ => ⟨S1x16384x8x2x48, .f32⟩
  | .hbm, ⟨42, _⟩ => ⟨S1x16384x8x2x64, .f32⟩
  | .hbm, ⟨43, _⟩ => ⟨S_, .f32⟩
  | .hbm, ⟨44, _⟩ => ⟨S1x16384x8x2x64, .f32⟩
  | .hbm, ⟨45, _⟩ => ⟨S1x16384x8x2x64, .f32⟩
  | .hbm, ⟨46, _⟩ => ⟨S16384x1024, .bf16⟩
  | .hbm, ⟨47, _⟩ => ⟨S16384x1024, .f32⟩
  | .hbm, ⟨48, _⟩ => ⟨S1x16384x8x2x64, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S16384x1, .f32⟩
  | .hbm, ⟨63, _⟩ => ⟨S1x8, .f32⟩
  | .hbm, ⟨64, _⟩ => ⟨S16384x8, .f32⟩
  | .hbm, ⟨65, _⟩ => ⟨S16384x8, .f32⟩
  | .hbm, ⟨66, _⟩ => ⟨S16384x8, .f32⟩
  | .hbm, ⟨67, _⟩ => ⟨S16384x8, .f32⟩
  | .hbm, ⟨68, _⟩ => ⟨S1x16384x1x1x8, .f32⟩
  | .hbm, ⟨69, _⟩ => ⟨S16384x8, .f32⟩
  | .hbm, ⟨70, _⟩ => ⟨S1x16384x1x1x8, .f32⟩
  | .hbm, ⟨71, _⟩ => ⟨S1x16384x8x2x16, .f32⟩
  | .hbm, ⟨72, _⟩ => ⟨S1x16384x8x2x8, .f32⟩
  | .hbm, ⟨73, _⟩ => ⟨S1x16384x8x2x8, .f32⟩
  | .hbm, ⟨74, _⟩ => ⟨S1x16384x8x2x8, .f32⟩
  | .hbm, ⟨75, _⟩ => ⟨S1x16384x8x2x8, .f32⟩
  | .hbm, ⟨76, _⟩ => ⟨S1x16384x8x2x8, .f32⟩
  | .hbm, ⟨77, _⟩ => ⟨S1x16384x8x2x8, .f32⟩
  | .hbm, ⟨78, _⟩ => ⟨S1x16384x8x2x8, .f32⟩
  | .hbm, ⟨79, _⟩ => ⟨S1x16384x8x2x8, .f32⟩
  | .hbm, ⟨80, _⟩ => ⟨S1x16384x8x2x8, .f32⟩
  | .hbm, ⟨81, _⟩ => ⟨S1x16384x8x2x8, .f32⟩
  | .hbm, ⟨82, _⟩ => ⟨S1x16384x8x2x8, .f32⟩
  | .hbm, ⟨83, _⟩ => ⟨S1x16384x8x2x8, .f32⟩
  | .hbm, ⟨84, _⟩ => ⟨S1x16384x8x2x16, .f32⟩
  | .hbm, ⟨85, _⟩ => ⟨S1x16384x8x2x48, .f32⟩
  | .hbm, ⟨86, _⟩ => ⟨S1x16384x8x2x64, .f32⟩
  | .hbm, ⟨87, _⟩ => ⟨S16384x1024, .f32⟩
  | .hbm, ⟨88, _⟩ => ⟨S16384x1024, .f32⟩
  | .hbm, ⟨89, _⟩ => ⟨S16384x2048, .f32⟩
  | .hbm, ⟨90, _⟩ => ⟨S16384x2048, .bf16⟩
  | _, _ => ⟨S24576x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_3 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_4 : Ref sig .tc := ⟨.hbm, 50, rfl⟩
abbrev main_v44 : Ref sig .tc := ⟨.hbm, 51, rfl⟩
abbrev main_v45 : Ref sig .tc := ⟨.hbm, 52, rfl⟩
abbrev main_cst_5 : Ref sig .tc := ⟨.hbm, 53, rfl⟩
abbrev main_v46 : Ref sig .tc := ⟨.hbm, 54, rfl⟩
abbrev main_v47 : Ref sig .tc := ⟨.hbm, 55, rfl⟩
abbrev main_cst_6 : Ref sig .tc := ⟨.hbm, 56, rfl⟩
abbrev main_v48 : Ref sig .tc := ⟨.hbm, 57, rfl⟩
abbrev main_v49 : Ref sig .tc := ⟨.hbm, 58, rfl⟩
abbrev main_cst_7 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩

abbrev nD : Nat := 1
abbrev τ : Topo := Topo.v7x

variable {F : FTy → Type} [FloatOps F]
-- ==== GlaGate.lean ====
abbrev S24576x4096 : Shape := ⟨2, ![24576, 4096]⟩
abbrev S2x4096x9248 : Shape := ⟨3, ![2, 4096, 9248]⟩
abbrev S2x4096x32 : Shape := ⟨3, ![2, 4096, 32]⟩
abbrev S_ : Shape := ⟨0, ![]⟩
abbrev S2x4096x128 : Shape := ⟨3, ![2, 4096, 128]⟩
abbrev S24576x128 : Shape := ⟨2, ![24576, 128]⟩
abbrev S1024x4096 : Shape := ⟨2, ![1024, 4096]⟩
abbrev S1x4096x128 : Shape := ⟨3, ![1, 4096, 128]⟩
abbrev S1024x128 : Shape := ⟨2, ![1024, 128]⟩
abbrev S4096x128 : Shape := ⟨2, ![4096, 128]⟩

abbrev nBuf : Space → Nat
  | .hbm => 8
  | .vmem => 5
  | .smem => 0
  | _ => 0

abbrev bufTy : (tb : Table) → Fin (tcTables nBuf tb) → BufTy
  | .hbm, ⟨0, _⟩ => ⟨S24576x4096, .bf16⟩
  | .hbm, ⟨1, _⟩ => ⟨S2x4096x9248, .f32⟩
  | .hbm, ⟨2, _⟩ => ⟨S2x4096x32, .f32⟩
  | .hbm, ⟨3, _⟩ => ⟨S_, .i32⟩
  | .hbm, ⟨4, _⟩ => ⟨S_, .f32⟩
  | .hbm, ⟨5, _⟩ => ⟨S2x4096x128, .f32⟩
  | .hbm, ⟨6, _⟩ => ⟨S2x4096x128, .bf16⟩
  | .hbm, ⟨7, _⟩ => ⟨S24576x128, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x128, .bf16⟩
  | .local _ .vmem, ⟨3, _⟩ => ⟨S1024x128, .bf16⟩
  | .local _ .vmem, ⟨4, _⟩ => ⟨S1024x128, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![24, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaGateReferenceIdeal.lean ====
abbrev S24576x4096 : Shape := ⟨2, ![24576, 4096]⟩
abbrev S2x4096x9248 : Shape := ⟨3, ![2, 4096, 9248]⟩
abbrev S1x4096x9248 : Shape := ⟨3, ![1, 4096, 9248]⟩
abbrev S4096x9248 : Shape := ⟨2, ![4096, 9248]⟩
abbrev S24576x9248 : Shape := ⟨2, ![24576, 9248]⟩
abbrev S24576x32 : Shape := ⟨2, ![24576, 32]⟩
abbrev S_ : Shape := ⟨0, ![]⟩
abbrev S24576x128 : Shape := ⟨2, ![24576, 128]⟩

abbrev nBuf : Space → Nat
  | .hbm => 11
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x9248, .f32⟩
  | .hbm, ⟨2, _⟩ => ⟨S24576x4096, .f32⟩
  | .hbm, ⟨3, _⟩ => ⟨S1x4096x9248, .f32⟩
  | .hbm, ⟨4, _⟩ => ⟨S4096x9248, .f32⟩
  | .hbm, ⟨5, _⟩ => ⟨S24576x9248, .f32⟩
  | .hbm, ⟨6, _⟩ => ⟨S24576x32, .f32⟩
  | .hbm, ⟨7, _⟩ => ⟨S_, .i32⟩
  | .hbm, ⟨8, _⟩ => ⟨S_, .f32⟩
  | .hbm, ⟨9, _⟩ => ⟨S24576x128, .f32⟩
  | .hbm, ⟨10, _⟩ => ⟨S24576x128, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GlaPost.lean ====
abbrev S16384x1024 : Shape := ⟨2, ![16384, 1024]⟩
abbrev S24576x9216 : Shape := ⟨2, ![24576, 9216]⟩
abbrev S2x256 : Shape := ⟨2, ![2, 256]⟩
abbrev S1x256 : Shape := ⟨2, ![1, 256]⟩
abbrev S256 : Shape := ⟨1, ![256]⟩
abbrev S256x1024 : Shape := ⟨2, ![256, 1024]⟩
abbrev S256x256 : Shape := ⟨2, ![256, 256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S24576x9216, .bf16⟩
  | .hbm, ⟨3, _⟩ => ⟨S2x256, .f32⟩
  | .hbm, ⟨4, _⟩ => ⟨S1x256, .f32⟩
  | .hbm, ⟨5, _⟩ => ⟨S256, .f32⟩
  | .hbm, ⟨6, _⟩ => ⟨S1x256, .f32⟩
  | .hbm, ⟨7, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1x256, .f32⟩
  | .local _ .vmem, ⟨7, _⟩ => ⟨S256x1024, .bf16⟩
  | .local _ .vmem, ⟨8, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c8_i32 : BitVec 32 := 8#32
  let c0_i32_0 : BitVec 32 := 0#32
  ![v0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GlaPostReferenceIdeal.lean ====
abbrev S16384x1024 : Shape := ⟨2, ![16384, 1024]⟩
abbrev S24576x9216 : Shape := ⟨2, ![24576, 9216]⟩
abbrev S2x256 : Shape := ⟨2, ![2, 256]⟩
abbrev S16384x4x256 : Shape := ⟨3, ![16384, 4, 256]⟩
abbrev S1x256 : Shape := ⟨2, ![1, 256]⟩
abbrev S256 : Shape := ⟨1, ![256]⟩
abbrev S_ : Shape := ⟨0, ![]⟩
abbrev S16384x4 : Shape := ⟨2, ![16384, 4]⟩
abbrev S16384x4x1 : Shape := ⟨3, ![16384, 4, 1]⟩
abbrev S1x1x256 : Shape := ⟨3, ![1, 1, 256]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S24576x9216, .bf16⟩
  | .hbm, ⟨3, _⟩ => ⟨S2x256, .f32⟩
  | .hbm, ⟨4, _⟩ => ⟨S16384x1024, .f32⟩
  | .hbm, ⟨5, _⟩ => ⟨S16384x4x256, .f32⟩
  | .hbm, ⟨6, _⟩ => ⟨S1x256, .f32⟩
  | .hbm, ⟨7, _⟩ => ⟨S256, .f32⟩
  | .hbm, ⟨8, _⟩ => ⟨S16384x4x256, .f32⟩
  | .hbm, ⟨9, _⟩ => ⟨S_, .f32⟩
  | .hbm, ⟨10, _⟩ => ⟨S16384x4, .f32⟩
  | .hbm, ⟨11, _⟩ => ⟨S16384x4x1, .f32⟩
  | .hbm, ⟨12, _⟩ => ⟨S_, .f32⟩
  | .hbm, ⟨13, _⟩ => ⟨S16384x4x1, .f32⟩
  | .hbm, ⟨14, _⟩ => ⟨S16384x4x1, .f32⟩
  | .hbm, ⟨15, _⟩ => ⟨S_, .f32⟩
  | .hbm, ⟨16, _⟩ => ⟨S16384x4x1, .f32⟩
  | .hbm, ⟨17, _⟩ => ⟨S16384x4x1, .f32⟩
  | .hbm, ⟨18, _⟩ => ⟨S16384x4x1, .f32⟩
  | .hbm, ⟨19, _⟩ => ⟨S16384x4x256, .f32⟩
  | .hbm, ⟨20, _⟩ => ⟨S16384x4x256, .f32⟩
  | .hbm, ⟨21, _⟩ => ⟨S1x1x256, .f32⟩
  | .hbm, ⟨22, _⟩ => ⟨S16384x4x256, .f32⟩
  | .hbm, ⟨23, _⟩ => ⟨S16384x4x256, .f32⟩
  | .hbm, ⟨24, _⟩ => ⟨S16384x1024, .bf16⟩
  | .hbm, ⟨25, _⟩ => ⟨S16384x1024, .f32⟩
  | .hbm, ⟨26, _⟩ => ⟨S16384x4x256, .f32⟩
  | .hbm, ⟨27, _⟩ => ⟨S16384x4x256, .f32⟩
  | .hbm, ⟨28, _⟩ => ⟨S16384x4x256, .f32⟩
  | .hbm, ⟨29, _⟩ => ⟨S_, .f32⟩
  | .hbm, ⟨30, _⟩ => ⟨S16384x4x256, .f32⟩
  | .hbm, ⟨31, _⟩ => ⟨S16384x4x256, .f32⟩
  | .hbm, ⟨32, _⟩ => ⟨S_, .f32⟩
  | .hbm, ⟨33, _⟩ => ⟨S16384x4x256, .f32⟩
  | .hbm, ⟨34, _⟩ => ⟨S16384x4x256, .f32⟩
  | .hbm, ⟨35, _⟩ => ⟨S16384x4x256, .f32⟩
  | .hbm, ⟨36, _⟩ => ⟨S16384x4x256, .f32⟩
  | .hbm, ⟨37, _⟩ => ⟨S16384x1024, .f32⟩
  | .hbm, ⟨38, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Proof.AttStep.lean ====
module

public import proofs.«01_k».proof.Proof.Gen.KernelIdeal.Loops
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen
open Idealize.ShloMosaic Idealize.ShloMosaic.TcCoe Idealize.SL.Sem

variable {F : FTy → Type} [FloatOps F]

/-! ## Loads after stores -/

section Rd
variable {sig : RefSig} {κ : Kind} {sp : Space} {s : Shape} {e : EltTy} {Val : EltTy → Type}

/-- A load of the rectangle last stored to reads the payload. -/
theorem rd_hit (v : View sig κ sp s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A load apart from the rectangle last stored to reads what was there before. -/
theorem rd_skip (v : View sig κ sp s e) (f : v.ty.Contents Val) (r : Rect s) (w : r.shape.Idx → Val e) (L : List (View.Piece Val s e)) (B : LoadRect s)
    (h : LoadRect.disj r B = true) : v.readAt Val B (v.writes Val f (⟨r, w⟩ :: L)) = v.readAt Val B (v.writes Val f L) :=
  funext fun j => View.read_writes_cons_miss v f ⟨r, w⟩ L (B.idx j) (LoadRect.idx_not_mem_of_disj h j)

/-- The covered load of the rectangle last stored to reads the payload. -/
theorem cov_hit [∀ e, Nonempty (Val e)] (v : View sig κ sp s e) (r : Rect s) (w : r.shape.Idx → Val e) (L : List (View.Piece Val s e)) :
    v.readCov (⟨r, w⟩ :: L) r.toLoadRect = w := by
  rw [View.readCov_eq_canon']
  exact funext fun x => View.canon_cons_emb r w L x

end Rd

/-- The 128 lanes of a tile of scores from lane `o` on. -/
def lanes (o : ℕ) (h : o ≤ 896) (s : FVec F S1x1x1024x1024 .f32) : FVec F S1x1x1024x128 .f32 :=
  View.ld (Val := Elt F) (e' := .f32) s (Rect.unit (s := S1x1x1024x1024) ![0, 0, 0, o] S1x1x1024x128.size (by
    intro a; fin_cases a <;> simp [Shape.size] <;> omega))

theorem rd_lanes {sig : RefSig} {κ : Kind} {sp : Space} (v : View sig κ sp S2x2x1024x1024 .f32) (f : v.ty.Contents (Elt F)) (p c o : ℕ) (ho : o ≤ 896)
    (h : ∀ a, (![p, c, 0, o] : Fin 4 → ℕ) a + S1x1x1024x128.size a ≤ S2x2x1024x1024.size a)
    (h' : ∀ a, (![p, c, 0, 0] : Fin 4 → ℕ) a + S1x1x1024x1024.size a ≤ S2x2x1024x1024.size a) :
    v.readAt (Elt F) (Rect.unit (s := S2x2x1024x1024) ![p, c, 0, o] S1x1x1024x128.size h).toLoadRect f
      = lanes o ho (v.readAt (Elt F) (Rect.unit (s := S2x2x1024x1024) ![p, c, 0, 0] S1x1x1024x1024.size h').toLoadRect f) := by
  funext y
  refine congrArg (v.read (Elt F) f) (funext fun a => Fin.ext ?_)
  fin_cases a
  · show p + 1 * (y 0).val = p + 1 * (0 + 1 * (y 0).val); omega
  · show c + 1 * (y 1).val = c + 1 * (0 + 1 * (y 1).val); omega
  · show 0 + 1 * (y 2).val = 0 + 1 * (0 + 1 * (y 2).val); omega
  · show o + 1 * (y 3).val = 0 + 1 * (o + 1 * (y 3).val); omega

theorem cov_lanes {sig : RefSig} {κ : Kind} {sp : Space} (v : View sig κ sp S2x2x1024x1024 .f32) (L : List (View.Piece (Elt F) S2x2x1024x1024 .f32))
    (p c o : ℕ) (ho : o ≤ 896) (h : ∀ a, (![p, c, 0, o] : Fin 4 → ℕ) a + S1x1x1024x128.size a ≤ S2x2x1024x1024.size a)
    (h' : ∀ a, (![p, c, 0, 0] : Fin 4 → ℕ) a + S1x1x1024x1024.size a ≤ S2x2x1024x1024.size a) :
    v.readCov L (Rect.unit (s := S2x2x1024x1024) ![p, c, 0, o] S1x1x1024x128.size h).toLoadRect
      = lanes o ho (v.readCov L (Rect.unit (s := S2x2x1024x1024) ![p, c, 0, 0] S1x1x1024x1024.size h').toLoadRect) :=
  rd_lanes v _ p c o ho h h'

/-! ## One tile of keys, as the kernel takes it -/

/-- A component's running maximum, running sum (per lane) and running numerator. -/
structure Acc (F : FTy → Type) where
  m : FVec F S1x1024x128 .f32
  l : FVec F S1x1024x128 .f32
  a : FVec F S1x1024x128 .f32

/-- The tile with scores `s`, row maxima `r` and values `v` is taken in. -/
def Acc.step (A : Acc F) (s : FVec F S1x1x1024x1024 .f32) (r : FVec F S1x1x1024x128 .f32) (v : FVec F S1024x128 .bf16) : Acc F where
  m := k0_pay24 (k0_pay10 A.m r)
  l := k0_pay22 (k0_pay16 (k0_pay10 A.m r) (lanes 512 (by decide) s)) (k0_pay17 (k0_pay10 A.m r) (lanes 640 (by decide) s))
    (k0_pay18 (k0_pay10 A.m r) (lanes 768 (by decide) s)) (k0_pay19 (k0_pay10 A.m r) (lanes 896 (by decide) s)) (k0_pay20 (k0_pay11 A.m r) A.l)
    (k0_pay21 (k0_pay10 A.m r) (k0_pay12 A.m r (lanes 0 (by decide) s)) (lanes 128 (by decide) s) (lanes 256 (by decide) s) (lanes 384 (by decide) s))
  a := k0_pay23 v (k0_pay11 A.m r) (k0_pay12 A.m r (lanes 0 (by decide) s)) (k0_pay13 (k0_pay10 A.m r) (lanes 128 (by decide) s))
    (k0_pay14 (k0_pay10 A.m r) (lanes 256 (by decide) s)) (k0_pay15 (k0_pay10 A.m r) (lanes 384 (by decide) s))
    (k0_pay16 (k0_pay10 A.m r) (lanes 512 (by decide) s)) (k0_pay17 (k0_pay10 A.m r) (lanes 640 (by decide) s))
    (k0_pay18 (k0_pay10 A.m r) (lanes 768 (by decide) s)) (k0_pay19 (k0_pay10 A.m r) (lanes 896 (by decide) s)) A.a

/-- The tile of keys `k` with values `v`, for queries `q`. -/
def Acc.take (q k v : FVec F S1024x128 .bf16) (A : Acc F) : Acc F := A.step (k0_pay3 q k) (k0_pay4 q k) v

end Cert.KernelIdeal.Att
-- ==== Proof.AttTrip.lean ====
module

public import proofs.«01_k».proof.Proof.AttStep

@[expose] public section

set_option maxRecDepth 16384

noncomputable section

namespace Cert.KernelIdeal.Att

open Cert.KernelIdeal Cert.KernelIdeal.Gen
open Idealize.ShloMosaic Idealize.ShloMosaic.TcCoe Idealize.SL.Sem

variable {F : FTy → Type} [FloatOps F]

variable {κ9 κ10 κ11 : Kind}

/-- What the scratches hold between trips: in slot 0 the tile the next trip takes first (its keys `kt`), and the two components' accumulators. -/
structure Held (arg9 : Memref sig .tc .vmem S2x2x1024x1024 .f32) (arg10 : Memref sig .tc .vmem S2x2x1024x128 .f32) (arg11 arg12 arg13 : Memref sig .tc .vmem S2x1024x128 .f32)
    (q0 q1 kt : FVec F S1024x128 .bf16) (A0 A1 : Acc F)
    (f_arg9 : BufTy.Contents (Elt F) arg9.view.ty) (f_arg10 : BufTy.Contents (Elt F) arg10.view.ty) (f_arg11 : BufTy.Contents (Elt F) arg11.view.ty)
    (f_arg12 : BufTy.Contents (Elt F) arg12.view.ty) (f_arg13 : BufTy.Contents (Elt F) arg13.view.ty) : Prop where
  s0 : arg9.view.readAt (Elt F) (Rect.unit (s := S2x2x1024x1024) ![0, 0, 0, 0] S1x1x1024x1024.size inb_S2x2x1024x1024_S1x1x1024x1024_0_0_0_0).toLoadRect f_arg9 = k0_pay3 q0 kt
  s1 : arg9.view.readAt (Elt F) (Rect.unit (s := S2x2x1024x1024) ![0, 1, 0, 0] S1x1x1024x1024.size inb_S2x2x1024x1024_S1x1x1024x1024_0_1_0_0).toLoadRect f_arg9 = k0_pay3 q1 kt
  r0 : arg10.view.readAt (Elt F) (Rect.unit (s := S2x2x1024x128) ![0, 0, 0, 0] S1x1x1024x128.size inb_S2x2x1024x128_S1x1x1024x128_0_0_0_0).toLoadRect f_arg10 = k0_pay4 q0 kt
  r1 : arg10.view.readAt (Elt F) (Rect.unit (s := S2x2x1024x128) ![0, 1, 0, 0] S1x1x1024x128.size inb_S2x2x1024x128_S1x1x1024x128_0_1_0_0).toLoadRect f_arg10 = k0_pay4 q1 kt
  m0 : arg11.view.readAt (Elt F) (Rect.unit (s := S2x1024x128) ![0, 0, 0] S1x1024x128.size inb_S2x1024x128_S1x1024x128_0_0_0).toLoadRect f_arg11 = A0.m
  m1 : arg11.view.readAt (Elt F) (Rect.unit (s := S2x1024x128) ![1, 0, 0] S1x1024x128.size inb_S2x1024x128_S1x1024x128_1_0_0).toLoadRect f_arg11 = A1.m
  l0 : arg12.view.readAt (Elt F) (Rect.unit (s := S2x1024x128) ![0, 0, 0] S1x1024x128.size inb_S2x1024x128_S1x1024x128_0_0_0).toLoadRect f_arg12 = A0.l
  l1 : arg12.view.readAt (Elt F) (Rect.unit (s := S2x1024x128) ![1, 0, 0] S1x1024x128.size inb_S2x1024x128_S1x1024x128_1_0_0).toLoadRect f_arg12 = A1.l
  a0 : arg13.view.readAt (Elt F) (Rect.unit (s := S2x1024x128) ![0, 0, 0] S1x1024x128.size inb_S2x1024x128_S1x1024x128_0_0_0).toLoadRect f_arg13 = A0.a
  a1 : arg13.view.readAt (Elt F) (Rect.unit (s := S2x1024x128) ![1, 0, 0] S1x1024x128.size inb_S2x1024x128_S1x1024x128_1_0_0).toLoadRect f_arg13 = A1.a

theorem pay_scores (q k : FVec F S1024x128 .bf16) : k0_pay6 q k = k0_pay3 q k ∧ k0_pay41 (k0_pay40 q k) = k0_pay3 q k ∧ k0_pay44 q k = k0_pay3 q k :=
  ⟨rfl, rfl, rfl⟩

theorem pay_maxima (q k : FVec F S1024x128 .bf16) :
    k0_pay8 (k0_pay5 q k) (k0_pay7 q k) = k0_pay4 q k ∧ k0_pay42 (k0_pay40 q k) = k0_pay4 q k ∧ k0_pay46 (k0_pay45 q k) = k0_pay4 q k :=
  ⟨rfl, rfl, rfl⟩

/-- The rows of a window at the trip's offsets. -/
abbrev rows1 (b : Memref sig .tc .vmem S16384x128 .bf16) (X : BufTy.Contents (Elt F) b.view.ty) (k : Fin k0_t1_loop.trips) : FVec F S1024x128 .bf16 :=
  b.view.readAt (Elt F) (Rect.unit (s := S16384x128) (k0_off1 k) S1024x128.size (k0_off1_inb k)).toLoadRect X
abbrev rows2 (b : Memref sig .tc .vmem S16384x128 .bf16) (X : BufTy.Contents (Elt F) b.view.ty) (k : Fin k0_t1_loop.trips) : FVec F S1024x128 .bf16 :=
  b.view.readAt (Elt F) (Rect.unit (s := S16384x128) (k0_off2 k) S1024x128.size (k0_off2_inb k)).toLoadRect X
abbrev rows3 (b : Memref sig .tc .vmem S16384x128 .bf16) (X : BufTy.Contents (Elt F) b.view.ty) (k : Fin k0_t1_loop.trips) : FVec F S1024x128 .bf16 :=
  b.view.readAt (Elt F) (Rect.unit (s := S16384x128) (k0_off3 k) S1024x128.size (k0_off3_inb k)).toLoadRect X

set_option maxHeartbeats 4000000 in
/-- One trip: the tile held is taken in with its values, then the next. -/
theorem Held.trip (𝒱 : Variants) (c : Dev nD) (bd : Option 𝒱.V) (i : grid0.Coords) (arg3 : Memref sig .tc .vmem S1x128 .f32) (harg3 : arg3.IsWhole) (arg4 : Memref sig .tc .vmem S1x128 .f32) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1024x128 .bf16) (harg8 : arg8.IsWhole) (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x128 .f32) (harg13 : arg13.IsWhole) (v5 : Vec F S1024x128 .bf16) (v8 : Vec F S1024x128 .bf16) (v72 : FVec F S1024x128 .f32) (X_arg6 : BufTy.Contents (Elt F) arg6.view.ty) (X_arg7 : BufTy.Contents (Elt F) arg7.view.ty) (k : Fin k0_t1_loop.trips) {f_arg9 : BufTy.Contents (Elt F) arg9.view.ty} {f_arg10 : BufTy.Contents (Elt F) arg10.view.ty} {f_arg11 : BufTy.Contents (Elt F) arg11.view.ty}
    {f_arg12 : BufTy.Contents (Elt F) arg12.view.ty} {f_arg13 : BufTy.Contents (Elt F) arg13.view.ty} {kt : FVec F S1024x128 .bf16} {A0 A1 : Acc F}
    (H : Held arg9 arg10 arg11 arg12 arg13 v5 v8 kt A0 A1 f_arg9 f_arg10 f_arg11 f_arg12 f_arg13) :
    Held arg9 arg10 arg11 arg12 arg13 v5 v8 (rows3 arg6 X_arg6 k)
      ((A0.take v5 kt (rows2 arg7 X_arg7 k)).take v5 (rows1 arg6 X_arg6 k) (rows1 arg7 X_arg7 k))
      ((A1.take v8 kt (rows2 arg7 X_arg7 k)).take v8 (rows1 arg6 X_arg6 k) (rows1 arg7 X_arg7 k))
      (arg9.view.writes (Elt F) f_arg9 ((trip_k0_t1 (F := F) 𝒱 c bd i arg3 harg3 arg4 harg4 arg5 harg5 arg6 harg6 arg7 harg7 arg8 harg8 arg9 harg9 arg10 harg10 arg11 harg11 arg12 harg12 arg13 harg13 v5 v8 v72 X_arg6 X_arg7 k).1 f_arg9 f_arg10 f_arg11 f_arg12 f_arg13))
      (arg10.view.writes (Elt F) f_arg10 ((trip_k0_t1 (F := F) 𝒱 c bd i arg3 harg3 arg4 harg4 arg5 harg5 arg6 harg6 arg7 harg7 arg8 harg8 arg9 harg9 arg10 harg10 arg11 harg11 arg12 harg12 arg13 harg13 v5 v8 v72 X_arg6 X_arg7 k).2.1 f_arg9 f_arg10 f_arg11 f_arg12 f_arg13))
      (arg11.view.writes (Elt F) f_arg11 ((trip_k0_t1 (F := F) 𝒱 c bd i arg3 harg3 arg4 harg4 arg5 harg5 arg6 harg6 arg7 harg7 arg8 harg8 arg9 harg9 arg10 harg10 arg11 harg11 arg12 harg12 arg13 harg13 v5 v8 v72 X_arg6 X_arg7 k).2.2.1 f_arg9 f_arg10 f_arg11 f_arg12 f_arg13))
      (arg12.view.writes (Elt F) f_arg12 ((trip_k0_t1 (F := F) 𝒱 c bd i arg3 harg3 arg4 harg4 arg5 harg5 arg6 harg6 arg7 harg7 arg8 harg8 arg9 harg9 arg10 harg10 arg11 harg11 arg12 harg12 arg13 harg13 v5 v8 v72 X_arg6 X_arg7 k).2.2.2.1 f_arg9 f_arg10 f_arg11 f_arg12 f_arg13))
      (arg13.view.writes (Elt F) f_arg13 ((trip_k0_t1 (F := F) 𝒱 c bd i arg3 harg3 arg4 harg4 arg5 harg5 arg6 harg6 arg7 harg7 arg8 harg8 arg9 harg9 arg10 harg10 arg11 harg11 arg12 harg12 arg13 harg13 v5 v8 v72 X_arg6 X_arg7 k).2.2.2.2.1 f_arg9 f_arg10 f_arg11 f_arg12 f_arg13)) := by
  obtain ⟨hs0, hs1, hr0, hr1, hm0, hm1, hl0, hl1, ha0, ha1⟩ := H
  have e180 : trip_k0_t1.sl.v180 arg10 f_arg10 = k0_pay4 v5 kt := hr0
  have e246 : trip_k0_t1.sl.v246 arg10 f_arg10 = k0_pay4 v8 kt := hr1
  have e244 : trip_k0_t1.sl.v244 arg11 f_arg11 = A1.m := hm1
  have e283 : trip_k0_t1.sl.v283 arg12 f_arg12 = A1.l := hl1
  have e299 : trip_k0_t1.sl.v299 arg13 f_arg13 = A1.a := ha1
  have e185 : trip_k0_t1.sl.v185 arg9 f_arg9 = lanes 0 (by decide) (k0_pay3 v5 kt) :=
    (rd_lanes arg9.view f_arg9 0 0 0 (by decide) _ _).trans (congrArg (lanes 0 _) hs0)
  have e189 : trip_k0_t1.sl.v189 arg9 f_arg9 = lanes 128 (by decide) (k0_pay3 v5 kt) :=
    (rd_lanes arg9.view f_arg9 0 0 128 (by decide) _ _).trans (congrArg (lanes 128 _) hs0)
  have e193 : trip_k0_t1.sl.v193 arg9 f_arg9 = lanes 256 (by decide) (k0_pay3 v5 kt) :=
    (rd_lanes arg9.view f_arg9 0 0 256 (by decide) _ _).trans (congrArg (lanes 256 _) hs0)
  have e197 : trip_k0_t1.sl.v197 arg9 f_arg9 = lanes 384 (by decide) (k0_pay3 v5 kt) :=
    (rd_lanes arg9.view f_arg9 0 0 384 (by decide) _ _).trans (congrArg (lanes 384 _) hs0)
  have e201 : trip_k0_t1.sl.v201 arg9 f_arg9 = lanes 512 (by decide) (k0_pay3 v5 kt) :=
    (rd_lanes arg9.view f_arg9 0 0 512 (by decide) _ _).trans (congrArg (lanes 512 _) hs0)
  have e205 : trip_k0_t1.sl.v205 arg9 f_arg9 = lanes 640 (by decide) (k0_pay3 v5 kt) :=
    (rd_lanes arg9.view f_arg9 0 0 640 (by decide) _ _).trans (congrArg (lanes 640 _) hs0)
  have e209 : trip_k0_t1.sl.v209 arg9 f_arg9 = lanes 768 (by decide) (k0_pay3 v5 kt) :=
    (rd_lanes arg9.view f_arg9 0 0 768 (by decide) _ _).trans (congrArg (lanes 768 _) hs0)
  have e213 : trip_k0_t1.sl.v213 arg9 f_arg9 = lanes 896 (by decide) (k0_pay3 v5 kt) :=
    (rd_lanes arg9.view f_arg9 0 0 896 (by decide) _ _).trans (congrArg (lanes 896 _) hs0)
  have e251 : trip_k0_t1.sl.v251 arg9 f_arg9 = lanes 0 (by decide) (k0_pay3 v8 kt) :=
    (rd_lanes arg9.view f_arg9 0 1 0 (by decide) _ _).trans (congrArg (lanes 0 _) hs1)
  have e255 : trip_k0_t1.sl.v255 arg9 f_arg9 = lanes 128 (by decide) (k0_pay3 v8 kt) :=
    (rd_lanes arg9.view f_arg9 0 1 128 (by decide) _ _).trans (congrArg (lanes 128 _) hs1)
  have e259 : trip_k0_t1.sl.v259 arg9 f_arg9 = lanes 256 (by decide) (k0_pay3 v8 kt) :=
    (rd_lanes arg9.view f_arg9 0 1 256 (by decide) _ _).trans (congrArg (lanes 256 _) hs1)
  have e263 : trip_k0_t1.sl.v263 arg9 f_arg9 = lanes 384 (by decide) (k0_pay3 v8 kt) :=
    (rd_lanes arg9.view f_arg9 0 1 384 (by decide) _ _).trans (congrArg (lanes 384 _) hs1)
  have e267 : trip_k0_t1.sl.v267 arg9 f_arg9 = lanes 512 (by decide) (k0_pay3 v8 kt) :=
    (rd_lanes arg9.view f_arg9 0 1 512 (by decide) _ _).trans (congrArg (lanes 512 _) hs1)
  have e271 : trip_k0_t1.sl.v271 arg9 f_arg9 = lanes 640 (by decide) (k0_pay3 v8 kt) :=
    (rd_lanes arg9.view f_arg9 0 1 640 (by decide) _ _).trans (congrArg (lanes 640 _) hs1)
  have e275 : trip_k0_t1.sl.v275 arg9 f_arg9 = lanes 768 (by decide) (k0_pay3 v8 kt) :=
    (rd_lanes arg9.view f_arg9 0 1 768 (by decide) _ _).trans (congrArg (lanes 768 _) hs1)
  have e279 : trip_k0_t1.sl.v279 arg9 f_arg9 = lanes 896 (by decide) (k0_pay3 v8 kt) :=
    (rd_lanes arg9.view f_arg9 0 1 896 (by decide) _ _).trans (congrArg (lanes 896 _) hs1)
  have c10 : arg9.view.readCov (trip_k0_t1.sl.HW_arg9_4 arg6 v5 v8 X_arg6 k) (Rect.unit (s := S2x2x1024x1024) ![1, 0, 0, 0] S1x1x1024x1024.size inb_S2x2x1024x1024_S1x1x1024x1024_1_0_0_0).toLoadRect = k0_pay3 v5 (rows1 arg6 X_arg6 k) := by
    unfold trip_k0_t1.sl.HW_arg9_4
    rw [View.readCov_skip _ _ _ _ _ (by decide +kernel), View.readCov_skip _ _ _ _ _ (by decide +kernel), View.readCov_skip _ _ _ _ _ (by decide +kernel)]
    exact cov_hit _ _ _ _
  have c11 : arg9.view.readCov (trip_k0_t1.sl.HW_arg9_4 arg6 v5 v8 X_arg6 k) (Rect.unit (s := S2x2x1024x1024) ![1, 1, 0, 0] S1x1x1024x1024.size inb_S2x2x1024x1024_S1x1x1024x1024_1_1_0_0).toLoadRect = k0_pay3 v8 (rows1 arg6 X_arg6 k) := by
    unfold trip_k0_t1.sl.HW_arg9_4
    rw [View.readCov_skip _ _ _ _ _ (by decide +kernel), View.readCov_skip _ _ _ _ _ (by decide +kernel)]
    exact cov_hit _ _ _ _
  have e382 : trip_k0_t1.sl.v382 arg6 arg9 v5 v8 X_arg6 k = lanes 0 (by decide) (k0_pay3 v5 (rows1 arg6 X_arg6 k)) :=
    (cov_lanes arg9.view _ 1 0 0 (by decide) _ _).trans (congrArg (lanes 0 _) c10)
  have e386 : trip_k0_t1.sl.v386 arg6 arg9 v5 v8 X_arg6 k = lanes 128 (by decide) (k0_pay3 v5 (rows1 arg6 X_arg6 k)) :=
    (cov_lanes arg9.view _ 1 0 128 (by decide) _ _).trans (congrArg (lanes 128 _) c10)
  have e390 : trip_k0_t1.sl.v390 arg6 arg9 v5 v8 X_arg6 k = lanes 256 (by decide) (k0_pay3 v5 (rows1 arg6 X_arg6 k)) :=
    (cov_lanes arg9.view _ 1 0 256 (by decide) _ _).trans (congrArg (lanes 256 _) c10)
  have e394 : trip_k0_t1.sl.v394 arg6 arg9 v5 v8 X_arg6 k = lanes 384 (by decide) (k0_pay3 v5 (rows1 arg6 X_arg6 k)) :=
    (cov_lanes arg9.view _ 1 0 384 (by decide) _ _).trans (congrArg (lanes 384 _) c10)
  have e398 : trip_k0_t1.sl.v398 arg6 arg9 v5 v8 X_arg6 k = lanes 512 (by decide) (k0_pay3 v5 (rows1 arg6 X_arg6 k)) :=
    (cov_lanes arg9.view _ 1 0 512 (by decide) _ _).trans (congrArg (lanes 512 _) c10)
  have e402 : trip_k0_t1.sl.v402 arg6 arg9 v5 v8 X_arg6 k = lanes 640 (by decide) (k0_pay3 v5 (rows1 arg6 X_arg6 k)) :=
    (cov_lanes arg9.view _ 1 0 640 (by decide) _ _).trans (congrArg (lanes 640 _) c10)
  have e406 : trip_k0_t1.sl.v406 arg6 arg9 v5 v8 X_arg6 k = lanes 768 (by decide) (k0_pay3 v5 (rows1 arg6 X_arg6 k)) :=
    (cov_lanes arg9.view _ 1 0 768 (by decide) _ _).trans (congrArg (lanes 768 _) c10)
  have e410 : trip_k0_t1.sl.v410 arg6 arg9 v5 v8 X_arg6 k = lanes 896 (by decide) (k0_pay3 v5 (rows1 arg6 X_arg6 k)) :=
    (cov_lanes arg9.view _ 1 0 896 (by decide) _ _).trans (congrArg (lanes 896 _) c10)
  have e448 : trip_k0_t1.sl.v448 arg6 arg9 v5 v8 X_arg6 k = lanes 0 (by decide) (k0_pay3 v8 (rows1 arg6 X_arg6 k)) :=
    (cov_lanes arg9.view _ 1 1 0 (by decide) _ _).trans (congrArg (lanes 0 _) c11)
  have e452 : trip_k0_t1.sl.v452 arg6 arg9 v5 v8 X_arg6 k = lanes 128 (by decide) (k0_pay3 v8 (rows1 arg6 X_arg6 k)) :=
    (cov_lanes arg9.view _ 1 1 128 (by decide) _ _).trans (congrArg (lanes 128 _) c11)
  have e456 : trip_k0_t1.sl.v456 arg6 arg9 v5 v8 X_arg6 k = lanes 256 (by decide) (k0_pay3 v8 (rows1 arg6 X_arg6 k)) :=
    (cov_lanes arg9.view _ 1 1 256 (by decide) _ _).trans (congrArg (lanes 256 _) c11)
  have e460 : trip_k0_t1.sl.v460 arg6 arg9 v5 v8 X_arg6 k = lanes 384 (by decide) (k0_pay3 v8 (rows1 arg6 X_arg6 k)) :=
    (cov_lanes arg9.view _ 1 1 384 (by decide) _ _).trans (congrArg (lanes 384 _) c11)
  have e464 : trip_k0_t1.sl.v464 arg6 arg9 v5 v8 X_arg6 k = lanes 512 (by decide) (k0_pay3 v8 (rows1 arg6 X_arg6 k)) :=
    (cov_lanes arg9.view _ 1 1 512 (by decide) _ _).trans (congrArg (lanes 512 _) c11)
  have e468 : trip_k0_t1.sl.v468 arg6 arg9 v5 v8 X_arg6 k = lanes 640 (by decide) (k0_pay3 v8 (rows1 arg6 X_arg6 k)) :=
    (cov_lanes arg9.view _ 1 1 640 (by decide) _ _).trans (congrArg (lanes 640 _) c11)
  have e472 : trip_k0_t1.sl.v472 arg6 arg9 v5 v8 X_arg6 k = lanes 768 (by decide) (k0_pay3 v8 (rows1 arg6 X_arg6 k)) :=
    (cov_lanes arg9.view _ 1 1 768 (by decide) _ _).trans (congrArg (lanes 768 _) c11)
  have e476 : trip_k0_t1.sl.v476 arg6 arg9 v5 v8 X_arg6 k = lanes 896 (by decide) (k0_pay3 v8 (rows1 arg6 X_arg6 k)) :=
    (cov_lanes arg9.view _ 1 1 896 (by decide) _ _).trans (congrArg (lanes 896 _) c11)
  have e377 : trip_k0_t1.sl.v377 arg6 arg10 v5 v8 X_arg6 k = k0_pay4 v5 (rows1 arg6 X_arg6 k) := by
    unfold trip_k0_t1.sl.v377 trip_k0_t1.sl.HW_arg10_4
    rw [View.readCov_skip _ _ _ _ _ (by decide +kernel), View.readCov_skip _ _ _ _ _ (by decide +kernel), View.readCov_skip _ _ _ _ _ (by decide +kernel)]
    exact cov_hit _ _ _ _
  have e443 : trip_k0_t1.sl.v443 arg6 arg10 v5 v8 X_arg6 k = k0_pay4 v8 (rows1 arg6 X_arg6 k) := by
    unfold trip_k0_t1.sl.v443 trip_k0_t1.sl.HW_arg10_4
    rw [View.readCov_skip _ _ _ _ _ (by decide +kernel), View.readCov_skip _ _ _ _ _ (by decide +kernel)]
    exact cov_hit _ _ _ _
  have e375 : trip_k0_t1.sl.v375 arg10 arg11 f_arg10 f_arg11 = (A0.take v5 kt (rows2 arg7 X_arg7 k)).m := by
    unfold trip_k0_t1.sl.v375 trip_k0_t1.sl.HW_arg11_2
    rw [View.readCov_skip _ _ _ _ _ (by decide +kernel)]
    refine (cov_hit _ _ _ _).trans ?_
    simp only [trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, e180, e185, e189, e193, e197, e201, e205, e209, e213, hm0, hl0, ha0]
    rfl
  have e414 : trip_k0_t1.sl.v414 arg9 arg10 arg11 arg12 f_arg9 f_arg10 f_arg11 f_arg12 = (A0.take v5 kt (rows2 arg7 X_arg7 k)).l := by
    unfold trip_k0_t1.sl.v414 trip_k0_t1.sl.HW_arg12_2
    rw [View.readCov_skip _ _ _ _ _ (by decide +kernel)]
    refine (cov_hit _ _ _ _).trans ?_
    simp only [trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, e180, e185, e189, e193, e197, e201, e205, e209, e213, hm0, hl0, ha0]
    rfl
  have e430 : trip_k0_t1.sl.v430 arg7 arg9 arg10 arg11 arg13 X_arg7 k f_arg9 f_arg10 f_arg11 f_arg13 = (A0.take v5 kt (rows2 arg7 X_arg7 k)).a := by
    unfold trip_k0_t1.sl.v430 trip_k0_t1.sl.HW_arg13_2
    rw [View.readCov_skip _ _ _ _ _ (by decide +kernel)]
    refine (cov_hit _ _ _ _).trans ?_
    simp only [trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, e180, e185, e189, e193, e197, e201, e205, e209, e213, hm0, hl0, ha0]
    rfl
  have e441 : trip_k0_t1.sl.v441 arg6 arg10 arg11 v5 v8 X_arg6 k f_arg10 f_arg11 = (A1.take v8 kt (rows2 arg7 X_arg7 k)).m := by
    unfold trip_k0_t1.sl.v441 trip_k0_t1.sl.HW_arg11_3 trip_k0_t1.sl.HW_arg11_2
    rw [View.readCov_skip _ _ _ _ _ (by decide +kernel)]
    refine (cov_hit _ _ _ _).trans ?_
    simp only [trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, e246, e244, e283, e299, e251, e255, e259, e263, e267, e271, e275, e279]
    rfl
  have e480 : trip_k0_t1.sl.v480 arg6 arg9 arg10 arg11 arg12 v5 v8 X_arg6 k f_arg9 f_arg10 f_arg11 f_arg12 = (A1.take v8 kt (rows2 arg7 X_arg7 k)).l := by
    unfold trip_k0_t1.sl.v480 trip_k0_t1.sl.HW_arg12_3 trip_k0_t1.sl.HW_arg12_2
    rw [View.readCov_skip _ _ _ _ _ (by decide +kernel)]
    refine (cov_hit _ _ _ _).trans ?_
    simp only [trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, e246, e244, e283, e299, e251, e255, e259, e263, e267, e271, e275, e279]
    rfl
  have e496 : trip_k0_t1.sl.v496 arg6 arg7 arg9 arg10 arg11 arg13 v5 v8 X_arg6 X_arg7 k f_arg9 f_arg10 f_arg11 f_arg13 = (A1.take v8 kt (rows2 arg7 X_arg7 k)).a := by
    unfold trip_k0_t1.sl.v496 trip_k0_t1.sl.HW_arg13_3 trip_k0_t1.sl.HW_arg13_2
    rw [View.readCov_skip _ _ _ _ _ (by decide +kernel)]
    refine (cov_hit _ _ _ _).trans ?_
    simp only [trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, e246, e244, e283, e299, e251, e255, e259, e263, e267, e271, e275, e279]
    rfl
  unfold trip_k0_t1
  constructor
  · exact rd_skip _ _ _ _ _ _ (by decide +kernel) |>.trans (rd_hit _ _ _ _ _)
  · exact rd_hit _ _ _ _ _
  · exact rd_skip _ _ _ _ _ _ (by decide +kernel) |>.trans (rd_hit _ _ _ _ _)
  · exact rd_hit _ _ _ _ _
  · refine (rd_skip _ _ _ _ _ _ (by decide +kernel)).trans ((rd_hit _ _ _ _ _).trans ?_)
    simp only [trip_k0_t1.sl.r_30, trip_k0_t1.sl.r_31, trip_k0_t1.sl.r_32, trip_k0_t1.sl.r_33, trip_k0_t1.sl.r_34, trip_k0_t1.sl.r_35, e375, e377, e382, e386, e390, e394, e398, e402, e406, e410, e414, e430]
    rfl
  · refine (rd_hit _ _ _ _ _).trans ?_
    simp only [trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, e441, e443, e448, e452, e456, e460, e464, e468, e472, e476, e480, e496]
    rfl
  · refine (rd_skip _ _ _ _ _ _ (by decide +kernel)).trans ((rd_hit _ _ _ _ _).trans ?_)
    simp only [trip_k0_t1.sl.r_30, trip_k0_t1.sl.r_31, trip_k0_t1.sl.r_32, trip_k0_t1.sl.r_33, trip_k0_t1.sl.r_34, trip_k0_t1.sl.r_35, e375, e377, e382, e386, e390, e394, e398, e402, e406, e410, e414, e430]
    rfl
  · refine (rd_hit _ _ _ _ _).trans ?_
    simp only [trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, e441, e443, e448, e452, e456, e460, e464, e468, e472, e476, e480, e496]
    rfl
  · refine (rd_skip _ _ _ _ _ _ (by decide +kernel)).trans ((rd_hit _ _ _ _ _).trans ?_)
    simp only [trip_k0_t1.sl.r_30, trip_k0_t1.sl.r_31, trip_k0_t1.sl.r_32, trip_k0_t1.sl.r_33, trip_k0_t1.sl.r_34, trip_k0_t1.sl.r_35, e375, e377, e382, e386, e390, e394, e398, e402, e406, e410, e414, e430]
    rfl
  · refine (rd_hit _ _ _ _ _).trans ?_
    simp only [trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, e441, e443, e448, e452, e456, e460, e464, e468, e472, e476, e480, e496]
    rfl

end Cert.KernelIdeal.Att
-- ==== Proof.AttLoop.lean ====
module

public import proofs.«01_k».proof.Proof.AttTrip

@[expose] public section

set_option maxRecDepth 16384

noncomputable section

namespace Cert.KernelIdeal.Att

open Cert.KernelIdeal Cert.KernelIdeal.Gen
open Idealize.ShloMosaic Idealize.ShloMosaic.TcCoe Idealize.SL.Sem

variable {F : FTy → Type} [FloatOps F]

/-- The `j`-th tile of 1024 rows (counted around the end). -/
def tile (X : FVec F S16384x128 .bf16) (j : ℕ) : FVec F S1024x128 .bf16 := fun y =>
  X (fun | ⟨0, _⟩ => (⟨(j * 1024 + (y 0).val) % 16384, Nat.mod_lt _ (by decide)⟩ : Fin 16384) | ⟨1, _⟩ => y 1)

theorem readAt_tile (b : Memref sig .tc .vmem S16384x128 .bf16) (X : BufTy.Contents (Elt F) b.view.ty) (off : Fin 2 → ℕ)
    (h : ∀ a, off a + S1024x128.size a ≤ S16384x128.size a) (j : ℕ) (h0 : off 0 = j * 1024 % 16384) (h1 : off 1 = 0) :
    b.view.readAt (Elt F) (Rect.unit (s := S16384x128) off S1024x128.size h).toLoadRect X = tile (b.view.read (Elt F) X) j := by
  funext y
  refine congrArg (b.view.read (Elt F) X) (funext fun a => Fin.ext ?_)
  have hy0 : (y 0).val < 1024 := (y 0).isLt
  fin_cases a
  · show off 0 + 1 * (y 0).val = (j * 1024 + (y 0).val) % 16384
    omega
  · show off 1 + 1 * (y 1).val = (y 1).val
    omega

theorem trips_eq : k0_t1_loop.trips = 8 := by decide +kernel

theorem off1_val : ∀ k : Fin k0_t1_loop.trips, k0_off1 k 0 = (2 * k.val + 1) * 1024 % 16384 ∧ k0_off1 k 1 = 0 := by decide +kernel
theorem off2_val : ∀ k : Fin k0_t1_loop.trips, k0_off2 k 0 = (2 * k.val) * 1024 % 16384 ∧ k0_off2 k 1 = 0 := by decide +kernel
theorem off3_val : ∀ k : Fin k0_t1_loop.trips, k0_off3 k 0 = (2 * k.val + 2) * 1024 % 16384 ∧ k0_off3 k 1 = 0 := by decide +kernel

/-- The accumulators before the first tile. -/
def Acc.init : Acc F where
  m := fun _ => Scalar.ofBits .f32 0xFF800000#32
  l := fun _ => Scalar.ofBits .f32 0x00000000#32
  a := fun _ => Scalar.ofBits .f32 0x00000000#32

/-- The accumulators after the first `n` tiles. -/
def Acc.after (q : FVec F S1024x128 .bf16) (K V : FVec F S16384x128 .bf16) : ℕ → Acc F
  | 0 => Acc.init
  | n + 1 => (Acc.after q K V n).take q (tile K n) (tile V n)

set_option maxHeartbeats 2000000 in
/-- The loop: before trip `n` the scratches hold the accumulators after `2 n` tiles and the tile to come. -/
theorem held_loop (𝒱 : Variants) (c : Dev nD) (bd : Option 𝒱.V) (i : grid0.Coords) (arg3 : Memref sig .tc .vmem S1x128 .f32) (harg3 : arg3.IsWhole) (arg4 : Memref sig .tc .vmem S1x128 .f32) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1024x128 .bf16) (harg8 : arg8.IsWhole) (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x128 .f32) (harg13 : arg13.IsWhole) (v5 : Vec F S1024x128 .bf16) (v8 : Vec F S1024x128 .bf16) (v72 : FVec F S1024x128 .f32) (X_arg6 : BufTy.Contents (Elt F) arg6.view.ty) (X_arg7 : BufTy.Contents (Elt F) arg7.view.ty)
    {G_arg9 : BufTy.Contents (Elt F) arg9.view.ty} {G_arg10 : BufTy.Contents (Elt F) arg10.view.ty} {G_arg11 : BufTy.Contents (Elt F) arg11.view.ty}
    {G_arg12 : BufTy.Contents (Elt F) arg12.view.ty} {G_arg13 : BufTy.Contents (Elt F) arg13.view.ty}
    (H : Held arg9 arg10 arg11 arg12 arg13 v5 v8 (tile (arg6.view.read (Elt F) X_arg6) 0) Acc.init Acc.init G_arg9 G_arg10 G_arg11 G_arg12 G_arg13) (n : ℕ) (hn : n ≤ k0_t1_loop.trips) :
    Held arg9 arg10 arg11 arg12 arg13 v5 v8 (tile (arg6.view.read (Elt F) X_arg6) (2 * n)) (Acc.after v5 (arg6.view.read (Elt F) X_arg6) (arg7.view.read (Elt F) X_arg7) (2 * n)) (Acc.after v8 (arg6.view.read (Elt F) X_arg6) (arg7.view.read (Elt F) X_arg7) (2 * n))
      (arg9.view.writes (Elt F) G_arg9 ((pb_k0_t1 (F := F) 𝒱 c bd i arg3 harg3 arg4 harg4 arg5 harg5 arg6 harg6 arg7 harg7 arg8 harg8 arg9 harg9 arg10 harg10 arg11 harg11 arg12 harg12 arg13 harg13 v5 v8 v72 X_arg6 X_arg7 G_arg9 G_arg10 G_arg11 G_arg12 G_arg13 n).1))
      (arg10.view.writes (Elt F) G_arg10 ((pb_k0_t1 (F := F) 𝒱 c bd i arg3 harg3 arg4 harg4 arg5 harg5 arg6 harg6 arg7 harg7 arg8 harg8 arg9 harg9 arg10 harg10 arg11 harg11 arg12 harg12 arg13 harg13 v5 v8 v72 X_arg6 X_arg7 G_arg9 G_arg10 G_arg11 G_arg12 G_arg13 n).2.1))
      (arg11.view.writes (Elt F) G_arg11 ((pb_k0_t1 (F := F) 𝒱 c bd i arg3 harg3 arg4 harg4 arg5 harg5 arg6 harg6 arg7 harg7 arg8 harg8 arg9 harg9 arg10 harg10 arg11 harg11 arg12 harg12 arg13 harg13 v5 v8 v72 X_arg6 X_arg7 G_arg9 G_arg10 G_arg11 G_arg12 G_arg13 n).2.2.1))
      (arg12.view.writes (Elt F) G_arg12 ((pb_k0_t1 (F := F) 𝒱 c bd i arg3 harg3 arg4 harg4 arg5 harg5 arg6 harg6 arg7 harg7 arg8 harg8 arg9 harg9 arg10 harg10 arg11 harg11 arg12 harg12 arg13 harg13 v5 v8 v72 X_arg6 X_arg7 G_arg9 G_arg10 G_arg11 G_arg12 G_arg13 n).2.2.2.1))
      (arg13.view.writes (Elt F) G_arg13 ((pb_k0_t1 (F := F) 𝒱 c bd i arg3 harg3 arg4 harg4 arg5 harg5 arg6 harg6 arg7 harg7 arg8 harg8 arg9 harg9 arg10 harg10 arg11 harg11 arg12 harg12 arg13 harg13 v5 v8 v72 X_arg6 X_arg7 G_arg9 G_arg10 G_arg11 G_arg12 G_arg13 n).2.2.2.2)) := by
  induction n with
  | zero => exact H
  | succ n ih =>
    have h := Held.trip 𝒱 c bd i arg3 harg3 arg4 harg4 arg5 harg5 arg6 harg6 arg7 harg7 arg8 harg8 arg9 harg9 arg10 harg10 arg11 harg11 arg12 harg12 arg13 harg13 v5 v8 v72 X_arg6 X_arg7 ⟨n, hn⟩ (ih (Nat.le_of_succ_le hn))
    rw [show rows3 arg6 X_arg6 ⟨n, hn⟩ = tile (arg6.view.read (Elt F) X_arg6) (2 * (n + 1)) from readAt_tile _ _ _ _ _ (off3_val ⟨n, hn⟩).1 (off3_val ⟨n, hn⟩).2,
      show rows2 arg7 X_arg7 ⟨n, hn⟩ = tile (arg7.view.read (Elt F) X_arg7) (2 * n) from readAt_tile _ _ _ _ _ (off2_val ⟨n, hn⟩).1 (off2_val ⟨n, hn⟩).2,
      show rows1 arg6 X_arg6 ⟨n, hn⟩ = tile (arg6.view.read (Elt F) X_arg6) (2 * n + 1) from readAt_tile _ _ _ _ _ (off1_val ⟨n, hn⟩).1 (off1_val ⟨n, hn⟩).2,
      show rows1 arg7 X_arg7 ⟨n, hn⟩ = tile (arg7.view.read (Elt F) X_arg7) (2 * n + 1) from readAt_tile _ _ _ _ _ (off1_val ⟨n, hn⟩).1 (off1_val ⟨n, hn⟩).2] at h
    rw [pb_k0_t1_succ (F := F) 𝒱 c bd i arg3 harg3 arg4 harg4 arg5 harg5 arg6 harg6 arg7 harg7 arg8 harg8 arg9 harg9 arg10 harg10 arg11 harg11 arg12 harg12 arg13 harg13 v5 v8 v72 X_arg6 X_arg7 G_arg9 G_arg10 G_arg11 G_arg12 G_arg13 ⟨n, hn⟩]
    simp only [View.writes_append]
    exact h

end Cert.KernelIdeal.Att
-- ==== Proof.AttBody.lean ====
module

public import proofs.«01_k».proof.Proof.AttLoop
public import proofs.«01_k».proof.Proof.Gen.KernelIdeal.Frame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one point writes: the two components' outputs combined, normalised and scaled. -/
def blockOut (lam g : FVec F S1x128 .f32) (q : FVec F S1024x128 .bf16) (K V : FVec F S16384x128 .bf16) : FVec F S1024x128 .bf16 :=
  k0_pay1 (k0_pay92 (Acc.after (k0_pay76 q) K V 16).l (Acc.after (k0_pay77 q) K V 16).l (Acc.after (k0_pay76 q) K V 16).a lam (Acc.after (k0_pay77 q) K V 16).a)
    (k0_pay93 g)
    (k0_pay94 (Acc.after (k0_pay76 q) K V 16).l (Acc.after (k0_pay77 q) K V 16).l (Acc.after (k0_pay76 q) K V 16).a lam (Acc.after (k0_pay77 q) K V 16).a)
    (Scalar.ofBits .f32 0x358637BD#32)

section Rd
variable {sig : RefSig} {κ : Kind} {sp : Space} {s : Shape} {e : EltTy} {Val : EltTy → Type}

/-- A load of the whole shape is the read. -/
theorem rd_all (v : View sig κ sp s e) (f : v.ty.Contents Val) (off : Fin s.rank → ℕ) (h0 : ∀ a, off a = 0)
    (inb : ∀ a, off a + s.size a ≤ s.size a) : v.readAt Val (Rect.unit off s.size inb).toLoadRect f = v.read Val f :=
  funext fun y => congrArg (v.read Val f) (funext fun a => Fin.ext (by
    show off a + 1 * (y a).val = (y a).val
    rw [h0]; omega))

/-- A load after the whole shape was filled with one value. -/
theorem rd_fill (v : View sig κ sp s e) (f : v.ty.Contents Val) (off : Fin s.rank → ℕ) (h0 : ∀ a, off a = 0)
    (inb : ∀ a, off a + s.size a ≤ s.size a) (w : (Rect.unit off s.size inb).shape.Idx → Val e) (z : Val e) (hz : ∀ x, w x = z) (B : LoadRect s) :
    v.readAt Val B (v.writes Val f [⟨Rect.unit off s.size inb, w⟩]) = fun _ => z :=
  funext fun x => by
    have hx : (Rect.unit off s.size inb).emb (B.idx x) = B.idx x := funext fun a => Fin.ext (by
      show off a + 1 * (B.idx x a).val = (B.idx x a).val
      rw [h0]; omega)
    show v.read Val (v.writes Val f [⟨Rect.unit off s.size inb, w⟩]) (B.idx x) = z
    rw [← hx, View.read_writes_cons_emb, hz]

end Rd

/-- What the stores ahead of the loop leave: the first tile held, the accumulators empty. -/
theorem held_entry (arg9 : Memref sig .tc .vmem S2x2x1024x1024 .f32) (arg10 : Memref sig .tc .vmem S2x2x1024x128 .f32) (arg11 arg12 arg13 : Memref sig .tc .vmem S2x1024x128 .f32) (q0 q1 kt kt' : FVec F S1024x128 .bf16) (hk : kt = kt')
    (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    Held arg9 arg10 arg11 arg12 arg13 q0 q1 kt' Acc.init Acc.init
      (arg9.view.writes (Elt F) f9 [⟨Rect.unit (s := S2x2x1024x1024) ![0, 1, 0, 0] S1x1x1024x1024.size inb_S2x2x1024x1024_S1x1x1024x1024_0_1_0_0, k0_pay3 q1 kt⟩, ⟨Rect.unit (s := S2x2x1024x1024) ![0, 0, 0, 0] S1x1x1024x1024.size inb_S2x2x1024x1024_S1x1x1024x1024_0_0_0_0, k0_pay3 q0 kt⟩])
      (arg10.view.writes (Elt F) f10 [⟨Rect.unit (s := S2x2x1024x128) ![0, 1, 0, 0] S1x1x1024x128.size inb_S2x2x1024x128_S1x1x1024x128_0_1_0_0, k0_pay4 q1 kt⟩, ⟨Rect.unit (s := S2x2x1024x128) ![0, 0, 0, 0] S1x1x1024x128.size inb_S2x2x1024x128_S1x1x1024x128_0_0_0_0, k0_pay4 q0 kt⟩])
      (arg11.view.writes (Elt F) f11 [⟨Rect.unit (s := S2x1024x128) ![0, 0, 0] S2x1024x128.size inb_S2x1024x128_S2x1024x128_0_0_0, k0_pay78 (F := F)⟩])
      (arg12.view.writes (Elt F) f12 [⟨Rect.unit (s := S2x1024x128) ![0, 0, 0] S2x1024x128.size inb_S2x1024x128_S2x1024x128_0_0_0, k0_pay79 (F := F)⟩])
      (arg13.view.writes (Elt F) f13 [⟨Rect.unit (s := S2x1024x128) ![0, 0, 0] S2x1024x128.size inb_S2x1024x128_S2x1024x128_0_0_0, k0_pay80 (F := F)⟩]) := by
  subst hk
  exact {
  s0 := (rd_skip arg9.view f9 _ _ _ _ (by decide +kernel)).trans (rd_hit arg9.view f9 _ _ _)
  s1 := rd_hit arg9.view f9 _ _ _
  r0 := (rd_skip arg10.view f10 _ _ _ _ (by decide +kernel)).trans (rd_hit arg10.view f10 _ _ _)
  r1 := rd_hit arg10.view f10 _ _ _
  m0 := rd_fill arg11.view f11 _ (by decide) _ _ _ (fun _ => rfl) _
  m1 := rd_fill arg11.view f11 _ (by decide) _ _ _ (fun _ => rfl) _
  l0 := rd_fill arg12.view f12 _ (by decide) _ _ _ (fun _ => rfl) _
  l1 := rd_fill arg12.view f12 _ (by decide) _ _ _ (fun _ => rfl) _
  a0 := rd_fill arg13.view f13 _ (by decide) _ _ _ (fun _ => rfl) _
  a1 := rd_fill arg13.view f13 _ (by decide) _ _ _ (fun _ => rfl) _ }

set_option maxHeartbeats 4000000 in
theorem run_body (c : Dev nD) (i : grid0.Coords) (arg3 : Memref sig .tc .vmem S1x128 .f32) (harg3 : arg3.IsWhole) (arg4 : Memref sig .tc .vmem S1x128 .f32) (harg4 : arg4.IsWhole) (arg5 : Memref sig .tc .vmem S1024x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1024x128 .bf16) (harg8 : arg8.IsWhole) (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x128 .f32) (harg13 : arg13.IsWhole)
    (lam g : FVec F S1x128 .f32) (q : FVec F S1024x128 .bf16) (K V : FVec F S16384x128 .bf16) (E : Set ℕ) (Q : PUnit → sProp 𝕄) :
    iprop(owns (c : Thread nD τ) arg3 fullShare lam ∗ owns (c : Thread nD τ) arg4 fullShare g ∗ owns (c : Thread nD τ) arg5 fullShare q ∗ owns (c : Thread nD τ) arg6 fullShare K ∗ owns (c : Thread nD τ) arg7 fullShare V ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare lam ∗ owns (c : Thread nD τ) arg4 fullShare g ∗ owns (c : Thread nD τ) arg5 fullShare q ∗ owns (c : Thread nD τ) arg6 fullShare K ∗ owns (c : Thread nD τ) arg7 fullShare V ∗ owns (c : Thread nD τ) arg8 fullShare (blockOut lam g q K V) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ Q ⟨⟩))
      ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13) Q := by
  simp only [cc0_diff_attention_eq_skeleton]; unfold cc0_diff_attention_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  sl_exec
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr; swap; · iexact H8
    ipureintro
    obtain rfl := hf3; obtain rfl := hf4; obtain rfl := hf5; obtain rfl := hf6; obtain rfl := hf7
    have hk : (arg6.view.readAt (Elt F) (Rect.unit (s := S16384x128) ![0, 0] S1024x128.size inb_S16384x128_S1024x128_0_0).toLoadRect f6) = tile (arg6.view.read (Elt F) f6) 0 := readAt_tile arg6 f6 _ _ 0 rfl rfl
    have E := held_entry (F := F) arg9 arg10 arg11 arg12 arg13 (k0_pay76 (arg5.view.readAt (Elt F) (Rect.unit (s := S1024x128) ![0, 0] S1024x128.size inb_S1024x128_S1024x128_0_0).toLoadRect f5)) (k0_pay77 (arg5.view.readAt (Elt F) (Rect.unit (s := S1024x128) ![0, 0] S1024x128.size inb_S1024x128_S1024x128_0_0).toLoadRect f5)) (arg6.view.readAt (Elt F) (Rect.unit (s := S16384x128) ![0, 0] S1024x128.size inb_S16384x128_S1024x128_0_0).toLoadRect f6) (tile (arg6.view.read (Elt F) f6) 0) hk f9 f10 arg11.view.junk arg12.view.junk arg13.view.junk
    have H := held_loop (F := F) Variants.none c none i arg3 harg3 arg4 harg4 arg5 harg5 arg6 harg6 arg7 harg7 arg8 harg8 arg9 harg9 arg10 harg10 arg11 harg11 arg12 harg12 arg13 harg13 (k0_pay76 (arg5.view.readAt (Elt F) (Rect.unit (s := S1024x128) ![0, 0] S1024x128.size inb_S1024x128_S1024x128_0_0).toLoadRect f5)) (k0_pay77 (arg5.view.readAt (Elt F) (Rect.unit (s := S1024x128) ![0, 0] S1024x128.size inb_S1024x128_S1024x128_0_0).toLoadRect f5)) (k0_pay87 (k0_pay77 (arg5.view.readAt (Elt F) (Rect.unit (s := S1024x128) ![0, 0] S1024x128.size inb_S1024x128_S1024x128_0_0).toLoadRect f5)) (arg6.view.readAt (Elt F) (Rect.unit (s := S16384x128) ![0, 0] S1024x128.size inb_S16384x128_S1024x128_0_0).toLoadRect f6)) f6 f7 E 8 (le_of_eq trips_eq.symm)
    refine ((rd_all arg8.view _ ![0, 0] (by decide) _).symm.trans (rd_hit arg8.view f8 _ _ _)).trans ?_
    rw [← rd_all arg3.view f3 ![0, 0] (by decide) inb_S1x128_S1x128_0_0, ← rd_all arg4.view f4 ![0, 0] (by decide) inb_S1x128_S1x128_0_0,
      ← rd_all arg5.view f5 ![0, 0] (by decide) inb_S1024x128_S1024x128_0_0]
    unfold blockOut
    rw [← H.l0, ← H.l1, ← H.a0, ← H.a1]
    simp only [← View.writes_append]
    rfl
  isplitl [H9]; · iexists _; iexists _; isplitr; swap; · iexact H9
                  ipureintro; rfl
  isplitl [H10]; · iexists _; iexists _; isplitr; swap; · iexact H10
                   ipureintro; rfl
  isplitl [H11]; · iexists _; iexists _; isplitr; swap; · iexact H11
                   ipureintro; rfl
  isplitl [H12]; · iexists _; iexists _; isplitr; swap; · iexact H12
                   ipureintro; rfl
  iexists _; iexists _; isplitr; swap; · iexact H13
  ipureintro; rfl

end Cert.KernelIdeal.Att
-- ==== Proof.AttFrame.lean ====
module

public import proofs.«01_k».proof.Proof.AttBody

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` writes, from the blocks it is given. -/
def out (c : Dev nD) (t : Fin cfg0.N) : FVec F S1024x128 .bf16 :=
  blockOut (iblk m c 0 t) (iblk m c 1 t) (iblk m c 2 t) (iblk m c 3 t) (X0_4 m c t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => out m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = out m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d

/-- The invariant with the scratches as memrefs owned at some contents. -/
theorem inv_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 2000000 in
/-- The body at any point: its blocks given, it writes `out`; the scratches go back at whatever they hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, inv_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (run_body c (grid0.coords t) _ _ _ _ _ _ _ _ _ _ _ _ _ _ _ _ _ _ _ _ _ _ (iblk m c 0 t) (iblk m c 1 t) (iblk m c 2 t) (iblk m c 3 t) (X0_4 m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any values: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Att
-- ==== Proof.AttIdeal.lean ====
module

public import proofs.«01_k».proof.Proof.AttFrame
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.SL.Sem

/-! ## The tiles and accumulators read at an index -/

/-- One score: a query's product with a key, over the 128 lanes. -/
def score (q k : FVec Ideal S1024x128 .bf16) (r y : Fin 1024) : EReal := ∑ d : Fin 128, q (ix2 r d) * k (ix2 y d)

theorem pay3_at (q k : FVec Ideal S1024x128 .bf16) (r y : Fin 1024) : k0_pay3 (F := Ideal) q k (ix4 0 0 r y) = score q k r y := by
  pointwise [k0_pay3, k0_pay2, score]

theorem lanes_at (o : ℕ) (h : o ≤ 896) (s : FVec Ideal S1x1x1024x1024 .f32) (r : Fin 1024) (c : Fin 128) :
    lanes o h s (ix4 0 0 r c) = s (ix4 0 0 r ⟨o + c.val, by omega⟩) := by
  unfold lanes
  pointwise

theorem negInf : Ideal.ofBits .f32 0xFF800000#32 = ⊥ := by simp [Ideal.ofBits, Ideal.ieee]

/-- The maximum of finitely many, taken from −∞: a bound that one of them attains. -/
theorem fold_max_attained {ι : Type*} (s : Finset ι) (hs : s.Nonempty) (f : ι → EReal) :
    (∀ i ∈ s, f i ≤ s.fold max ⊥ f) ∧ ∃ i ∈ s, f i = s.fold max ⊥ f := by
  obtain ⟨i, hi, h⟩ := Finset.exists_mem_eq_sup s hs f
  exact ⟨fun i hi => Finset.le_sup (f := f) hi, i, hi, h.symm⟩

/-- The maximum of a lane's eight scores. -/
def lane8 (q k : FVec Ideal S1024x128 .bf16) (r : Fin 1024) (x : Fin 128) : EReal :=
  max (max (max (max (max (max (max (score q k r ⟨x.val, by omega⟩) (score q k r ⟨128 + x.val, by omega⟩)) (score q k r ⟨256 + x.val, by omega⟩))
      (score q k r ⟨384 + x.val, by omega⟩)) (score q k r ⟨512 + x.val, by omega⟩)) (score q k r ⟨640 + x.val, by omega⟩)) (score q k r ⟨768 + x.val, by omega⟩))
      (score q k r ⟨896 + x.val, by omega⟩)

theorem pay4_at (q k : FVec Ideal S1024x128 .bf16) (r : Fin 1024) (c : Fin 128) :
    k0_pay4 (F := Ideal) q k (ix4 0 0 r c) = Finset.fold max ⊥ (lane8 q k r) Finset.univ := by
  unfold lane8
  pointwise [k0_pay4, k0_pay2, score, negInf]

/-- A row's maximum over a tile: the same in every lane, a bound of the scores and one of them. -/
theorem pay4_max (q k : FVec Ideal S1024x128 .bf16) (r : Fin 1024) :
    ∃ R : EReal, (∀ c : Fin 128, k0_pay4 (F := Ideal) q k (ix4 0 0 r c) = R) ∧ (∀ y, score q k r y ≤ R) ∧ ∃ y, score q k r y = R := by
  obtain ⟨hle, x, -, hx⟩ := fold_max_attained (Finset.univ : Finset (Fin 128)) ⟨0, Finset.mem_univ _⟩ (lane8 q k r)
  refine ⟨_, pay4_at q k r, fun y => ?_, ?_⟩
  rotate_left
  · rw [← hx]
    unfold lane8
    have one : ∀ a b : EReal, (∃ y, score q k r y = a) → (∃ y, score q k r y = b) → ∃ y, score q k r y = max a b := fun a b ha hb => by
      rcases max_choice a b with h | h <;> rw [h] <;> assumption
    exact one _ _ (one _ _ (one _ _ (one _ _ (one _ _ (one _ _ (one _ _ ⟨_, rfl⟩ ⟨_, rfl⟩) ⟨_, rfl⟩) ⟨_, rfl⟩) ⟨_, rfl⟩) ⟨_, rfl⟩) ⟨_, rfl⟩) ⟨_, rfl⟩
  · have h := hle ⟨y.val % 128, Nat.mod_lt _ (by decide)⟩ (Finset.mem_univ _)
    generalize Finset.fold max ⊥ (lane8 q k r) (Finset.univ : Finset (Fin 128)) = R at h ⊢
    simp only [lane8, max_le_iff] at h
    obtain ⟨⟨⟨⟨⟨⟨⟨h0, h1⟩, h2⟩, h3⟩, h4⟩, h5⟩, h6⟩, h7⟩ := h
    have at_ : ∀ (n : ℕ) (hn : n < 1024), y.val = n → score q k r ⟨n, hn⟩ ≤ R → score q k r y ≤ R := fun n hn e h => by
      subst e; exact h
    have hb : y.val / 128 < 8 := by omega
    have hy : y.val = 128 * (y.val / 128) + y.val % 128 := by omega
    interval_cases hq : y.val / 128
    · exact at_ _ _ (by omega) h0
    · exact at_ _ _ (by omega) h1
    · exact at_ _ _ (by omega) h2
    · exact at_ _ _ (by omega) h3
    · exact at_ _ _ (by omega) h4
    · exact at_ _ _ (by omega) h5
    · exact at_ _ _ (by omega) h6
    · exact at_ _ _ (by omega) h7

theorem step_m (A : Acc Ideal) (s : FVec Ideal S1x1x1024x1024 .f32) (x : FVec Ideal S1x1x1024x128 .f32) (v : FVec Ideal S1024x128 .bf16) (r : Fin 1024) (c : Fin 128) :
    (A.step s x v).m (ix3 0 r c) = max (A.m (ix3 0 r c)) (x (ix4 0 0 r c)) := by
  unfold Acc.step
  pointwise [k0_pay24, k0_pay10, k0_pay9]

theorem step_l (A : Acc Ideal) (s : FVec Ideal S1x1x1024x1024 .f32) (x : FVec Ideal S1x1x1024x128 .f32) (v : FVec Ideal S1024x128 .bf16) (r : Fin 1024) (c : Fin 128) (μ : EReal)
    (hμ : ∀ c : Fin 128, max (A.m (ix3 0 r c)) (x (ix4 0 0 r c)) = μ) :
    (A.step s x v).l (ix3 0 r c) = Ideal.exp (A.m (ix3 0 r c) - μ) * A.l (ix3 0 r c) + ∑ b : Fin 8, Ideal.exp (s (ix4 0 0 r ⟨b.val * 128 + c.val, by omega⟩) - μ) := by
  rw [Fin.sum_univ_eight]
  unfold Acc.step
  pointwise [k0_pay22, k0_pay10, k0_pay9, k0_pay11, k0_pay12, k0_pay13, k0_pay14, k0_pay15, k0_pay16, k0_pay17, k0_pay18, k0_pay19, k0_pay20, k0_pay21, lanes_at]
  simp only [hμ]

theorem step_a (A : Acc Ideal) (s : FVec Ideal S1x1x1024x1024 .f32) (x : FVec Ideal S1x1x1024x128 .f32) (v : FVec Ideal S1024x128 .bf16) (r : Fin 1024) (c : Fin 128) (μ : EReal)
    (hμ : ∀ c : Fin 128, max (A.m (ix3 0 r c)) (x (ix4 0 0 r c)) = μ) :
    (A.step s x v).a (ix3 0 r c) = Ideal.exp (A.m (ix3 0 r c) - μ) * A.a (ix3 0 r c) + ∑ y : Fin 1024, Ideal.exp (s (ix4 0 0 r y) - μ) * v (ix2 y c) := by
  unfold Acc.step
  pointwise [k0_pay23, k0_pay10, k0_pay9, k0_pay11, k0_pay12, k0_pay13, k0_pay14, k0_pay15, k0_pay16, k0_pay17, k0_pay18, k0_pay19, lanes_at]
  simp only [hμ]
  have e : ∀ (i j : Fin 1024), i.val = j.val → Ideal.exp (s (ix4 0 0 r i) - μ) = Ideal.exp (s (ix4 0 0 r j) - μ) := fun i j h => by rw [Fin.ext h]
  refine congrArg₂ (· + ·) rfl (Finset.sum_congr rfl fun y _ => congrArg (· * _) ?_)
  split_ifs
  all_goals exact e _ _ (by first | rfl | (simp only []; omega) | (dsimp only; omega))

/-! ## A row -/

/-- The weight of a score below +∞ against a level: a real, 0 for the score −∞. -/
def ex (s : EReal) (μ : ℝ) : ℝ := if s = ⊥ then 0 else Real.exp (s.toReal - μ)

theorem ex_bot (μ : ℝ) : ex ⊥ μ = 0 := if_pos rfl

theorem ex_nonneg (s : EReal) (μ : ℝ) : 0 ≤ ex s μ := by
  unfold ex; split_ifs
  exacts [le_rfl, (Real.exp_pos _).le]

theorem ex_pos {s : EReal} (h : s ≠ ⊥) (μ : ℝ) : 0 < ex s μ := by
  unfold ex; rw [if_neg h]; exact Real.exp_pos _

theorem exp_ex {s : EReal} (h : s ≠ ⊤) (μ : ℝ) : Ideal.exp (s - μ) = (ex s μ : EReal) := by
  induction s with
  | bot => rw [ex_bot, EReal.bot_sub]; rfl
  | top => exact absurd rfl h
  | coe x => rw [← EReal.coe_sub, Ideal.exp_coe, ex, if_neg (EReal.coe_ne_bot x), EReal.toReal_coe]

theorem ex_shift (s : EReal) (μ μ' : ℝ) : Real.exp (μ - μ') * ex s μ = ex s μ' := by
  unfold ex; split_ifs
  · exact mul_zero _
  · rw [← Real.exp_add]; ring_nf

/-- Against an infinite level every weight is 0. -/
theorem exp_level {μ x : EReal} (h : μ = ⊤ ∨ μ = ⊥) (hx : x ≤ μ) : Ideal.exp (x - μ) = 0 := by
  have hb : x - μ = ⊥ := by
    rcases h with rfl | rfl
    · rw [sub_eq_add_neg, EReal.neg_top, EReal.add_bot]
    · rw [le_bot_iff.1 hx, EReal.bot_sub]
  rw [hb]; rfl

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Row
variable (A : Acc Ideal) (r : Fin 1024) (S : ℕ → EReal) (v : ℕ → Fin 128 → ℝ) (n : ℕ)

/-- The sums over the first `n` tiles against the level `μ`: a lane's, -/
def lsum (S : ℕ → EReal) (n : ℕ) (μ : ℝ) (c : Fin 128) : ℝ := ∑ j ∈ Finset.range n, ∑ b : Fin 8, ex (S (j * 1024 + (b.val * 128 + c.val))) μ
/-- and a column's. -/
def asum (S : ℕ → EReal) (v : ℕ → Fin 128 → ℝ) (n : ℕ) (μ : ℝ) (e : Fin 128) : ℝ := ∑ j ∈ Finset.range n, ∑ y : Fin 1024, ex (S (j * 1024 + y.val)) μ * v (j * 1024 + y.val) e

theorem lsum_shift (μ μ' : ℝ) (c : Fin 128) : Real.exp (μ - μ') * lsum S n μ c = lsum S n μ' c := by
  unfold lsum
  simp only [Finset.mul_sum, ex_shift]

theorem asum_shift (μ μ' : ℝ) (e : Fin 128) : Real.exp (μ - μ') * asum S v n μ e = asum S v n μ' e := by
  unfold asum
  simp only [Finset.mul_sum, ← mul_assoc, ex_shift]

theorem lsum_bot (h : ∀ k < n * 1024, S k = ⊥) (μ : ℝ) (c : Fin 128) : lsum S n μ c = 0 :=
  Finset.sum_eq_zero fun j hj => Finset.sum_eq_zero fun b _ => by
    rw [h _ (by have := Finset.mem_range.1 hj; omega), ex_bot]

theorem asum_bot (h : ∀ k < n * 1024, S k = ⊥) (μ : ℝ) (e : Fin 128) : asum S v n μ e = 0 :=
  Finset.sum_eq_zero fun j hj => Finset.sum_eq_zero fun b _ => by
    rw [h _ (by have := Finset.mem_range.1 hj; omega), ex_bot, zero_mul]

/-- The row after `n` tiles: the maximum of their scores, and the sums against it if it is a real; if it is infinite they are 0. -/
structure Row (μ : EReal) : Prop where
  m : ∀ c : Fin 128, A.m (ix3 0 r c) = μ
  le : ∀ k < n * 1024, S k ≤ μ
  attained : μ = ⊥ ∨ ∃ k < n * 1024, S k = μ
  l : ∀ x : ℝ, μ = (x : EReal) → ∀ c : Fin 128, A.l (ix3 0 r c) = (lsum S n x c : EReal)
  a : ∀ x : ℝ, μ = (x : EReal) → ∀ e : Fin 128, A.a (ix3 0 r e) = (asum S v n x e : EReal)
  l_inf : μ = ⊤ ∨ μ = ⊥ → ∀ c : Fin 128, A.l (ix3 0 r c) = 0
  a_inf : μ = ⊤ ∨ μ = ⊥ → ∀ e : Fin 128, A.a (ix3 0 r e) = 0

variable {A r S v n}

theorem row_init : Row (Acc.init (F := Ideal)) r S v 0 ⊥ := by
  have z : Ideal.ofBits .f32 0x00000000#32 = 0 := Ideal.ofBits_zero_f32
  exact ⟨fun c => negInf, fun k h => absurd h (by omega), .inl rfl, fun x h => absurd h.symm (EReal.coe_ne_bot x), fun x h => absurd h.symm (EReal.coe_ne_bot x),
    fun _ c => z, fun _ e => z⟩

/-- The old sums at a new level that is a real. -/
theorem Row.at_level {μ : EReal} (h : Row A r S v n μ) (hμ : μ ≠ ⊤) (x : ℝ) :
    (∀ c : Fin 128, Ideal.exp (μ - x) * A.l (ix3 0 r c) = (lsum S n x c : EReal)) ∧ ∀ e : Fin 128, Ideal.exp (μ - x) * A.a (ix3 0 r e) = (asum S v n x e : EReal) := by
  induction μ with
  | bot =>
    have hb : ∀ k < n * 1024, S k = ⊥ := fun k hk => le_bot_iff.1 (h.le k hk)
    exact ⟨fun c => by rw [h.l_inf (.inr rfl), mul_zero, lsum_bot S n hb, EReal.coe_zero], fun e => by rw [h.a_inf (.inr rfl), mul_zero, asum_bot S v n hb, EReal.coe_zero]⟩
  | top => exact absurd rfl hμ
  | coe y =>
    refine ⟨fun c => ?_, fun e => ?_⟩
    · rw [h.l y rfl, ← EReal.coe_sub, Ideal.exp_coe, ← EReal.coe_mul, lsum_shift]
    · rw [h.a y rfl, ← EReal.coe_sub, Ideal.exp_coe, ← EReal.coe_mul, asum_shift]

/-- A tile taken in. -/
theorem Row.take {μ : EReal} (h : Row A r S v n μ) (q k w : FVec Ideal S1024x128 .bf16) (hs : ∀ y : Fin 1024, score q k r y = S (n * 1024 + y.val))
    (hw : ∀ (y : Fin 1024) (e : Fin 128), w (ix2 y e) = (v (n * 1024 + y.val) e : EReal)) : ∃ μ', Row (A.take q k w) r S v (n + 1) μ' := by
  obtain ⟨R, hR, hle, y₀, hy⟩ := pay4_max q k r
  have hx : ∀ c : Fin 128, max (A.m (ix3 0 r c)) (k0_pay4 (F := Ideal) q k (ix4 0 0 r c)) = max μ R := fun c => by rw [h.m, hR]
  have sc : ∀ y : Fin 1024, score q k r y ≤ max μ R := fun y => (hle y).trans (le_max_right _ _)
  refine ⟨max μ R, fun c => (step_m ..).trans (hx c), fun k' hk => ?_, ?_, fun x hx' c => (step_l _ _ _ _ _ _ _ hx).trans ?_, fun x hx' e => (step_a _ _ _ _ _ _ _ hx).trans ?_,
    fun hi c => (step_l _ _ _ _ _ _ _ hx).trans ?_, fun hi e => (step_a _ _ _ _ _ _ _ hx).trans ?_⟩
  · by_cases hn : k' < n * 1024
    · exact (h.le k' hn).trans (le_max_left _ _)
    · have := sc ⟨k' - n * 1024, by omega⟩
      rw [hs] at this
      rwa [show n * 1024 + (k' - n * 1024) = k' by omega] at this
  · rcases max_choice μ R with e | e <;> rw [e]
    · rcases h.attained with hb | ⟨k', hk, hk'⟩
      · exact .inl hb
      · exact .inr ⟨k', by omega, hk'⟩
    · exact .inr ⟨n * 1024 + y₀.val, by omega, (hs y₀).symm.trans hy⟩
  · have hμ : μ ≠ ⊤ := fun e => EReal.coe_ne_top x (by rw [← hx', e, max_top_left])
    rw [h.m, hx', (h.at_level hμ x).1]
    unfold lsum
    rw [Finset.sum_range_succ, EReal.coe_add, coe_sum (Finset.univ : Finset (Fin 8))]
    refine congrArg₂ (· + ·) rfl (Finset.sum_congr rfl fun b _ => ?_)
    rw [pay3_at, exp_ex (fun e => EReal.coe_ne_top x (top_le_iff.1 (by rw [← hx', ← e]; exact sc _))), hs]
  · have hμ : μ ≠ ⊤ := fun e => EReal.coe_ne_top x (by rw [← hx', e, max_top_left])
    rw [h.m, hx', (h.at_level hμ x).2]
    unfold asum
    rw [Finset.sum_range_succ, EReal.coe_add, coe_sum (Finset.univ : Finset (Fin 1024))]
    refine congrArg₂ (· + ·) rfl (Finset.sum_congr rfl fun y _ => ?_)
    rw [pay3_at, exp_ex (fun e => EReal.coe_ne_top x (top_le_iff.1 (by rw [← hx', ← e]; exact sc _))), hs, hw, ← EReal.coe_mul]
  · rw [h.m, exp_level hi (le_max_left _ _), zero_mul, zero_add]
    exact Finset.sum_eq_zero fun b _ => by rw [pay3_at, exp_level hi (sc _)]
  · rw [h.m, exp_level hi (le_max_left _ _), zero_mul, zero_add]
    exact Finset.sum_eq_zero fun y _ => by rw [pay3_at, exp_level hi (sc _), zero_mul]

end Row

end Cert.KernelIdeal.Att
-- ==== Proof.AttRow.lean ====
module

public import proofs.«01_k».proof.Proof.AttIdeal
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.SL.Sem

/-! ## The whole row -/

section Row
variable {r : Fin 1024} {q : FVec Ideal S1024x128 .bf16} {K V : FVec Ideal S16384x128 .bf16} {S : Fin 16384 → EReal} {w : Fin 16384 → Fin 128 → ℝ}

/-- A key's position, counted around the end. -/
def key (k : ℕ) : Fin 16384 := ⟨k % 16384, Nat.mod_lt _ (by decide)⟩

theorem key_val (k : Fin 16384) : key k.val = k := Fin.ext (Nat.mod_eq_of_lt k.isLt)

theorem after_row (hs : ∀ k, ∑ d : Fin 128, q (ix2 r d) * K (ix2 k d) = S k) (hw : ∀ k e, V (ix2 k e) = (w k e : EReal)) (n : ℕ) :
    ∃ μ, Row (Acc.after q K V n) r (fun k => S (key k)) (fun k => w (key k)) n μ := by
  have tk : ∀ (X : FVec Ideal S16384x128 .bf16) (j : ℕ) (y : Fin 1024) (e : Fin 128), tile X j (ix2 y e) = X (ix2 (key (j * 1024 + y.val)) e) :=
    fun X j y e => congrArg X (by funext a; match a with | ⟨0, _⟩ => rfl | ⟨1, _⟩ => rfl)
  induction n with
  | zero => exact ⟨_, row_init⟩
  | succ n ih =>
    obtain ⟨μ, h⟩ := ih
    exact h.take q (tile K n) (tile V n) (fun y => (Finset.sum_congr rfl fun d _ => by rw [tk]).trans (hs _)) (fun y e => (tk V n y e).trans (hw _ e))

/-- Scores that have no softmax in the reals: one is +∞, or all are −∞. -/
def Bad (S : Fin 16384 → EReal) : Prop := (∃ k, S k = ⊤) ∨ ∀ k, S k = ⊥

theorem good (h : ¬ Bad S) : (∀ k, S k ≠ ⊤) ∧ ∃ k, S k ≠ ⊥ := by
  unfold Bad at h
  push Not at h
  exact h

/-- The softmax average of `w` under the scores `S`. -/
def attend (S : Fin 16384 → EReal) (w : Fin 16384 → ℝ) : ℝ := (∑ k, ex (S k) 0 * w k) / ∑ k, ex (S k) 0

/-- The scores may be counted from any level. -/
theorem attend_level (S : Fin 16384 → EReal) (w : Fin 16384 → ℝ) (μ : ℝ) : (∑ k, ex (S k) μ * w k) / ∑ k, ex (S k) μ = attend S w := by
  have h1 : ∑ k, ex (S k) μ * w k = Real.exp (0 - μ) * ∑ k, ex (S k) 0 * w k := by
    simp only [Finset.mul_sum, ← mul_assoc, ex_shift]
  have h2 : ∑ k, ex (S k) μ = Real.exp (0 - μ) * ∑ k, ex (S k) 0 := by
    simp only [Finset.mul_sum, ex_shift]
  rw [h1, h2, mul_div_mul_left _ _ (Real.exp_pos _).ne', attend]

theorem weights_pos (h : ∃ k, S k ≠ ⊥) (μ : ℝ) : 0 < ∑ k, ex (S k) μ := by
  obtain ⟨k, hk⟩ := h
  exact Finset.sum_pos' (fun k _ => ex_nonneg _ _) ⟨k, Finset.mem_univ _, ex_pos hk μ⟩

theorem div_real (a b : ℝ) (h : b ≠ 0) : Ideal.div (a : EReal) (b : EReal) = ((a / b : ℝ) : EReal) := by
  rw [Ideal.div_coe h, ← EReal.coe_mul, mul_one_div]

theorem div_zero_zero : Ideal.div 0 0 = ⊥ := by simp [Ideal.div]

theorem asum_all (μ : ℝ) (e : Fin 128) : asum (fun k => S (key k)) (fun k => w (key k)) 16 μ e = ∑ k, ex (S k) μ * w k e := by
  unfold asum
  rw [Finset.sum_range, Fin.sum_univ_tiles 16 1024 rfl (fun k : Fin 16384 => ex (S k) μ * w k e)]
  refine Finset.sum_congr rfl fun j _ => Finset.sum_congr rfl fun y _ => ?_
  have hk : key (j.val * 1024 + y.val) = ⟨j.val * 1024 + y.val, by omega⟩ := Fin.ext (Nat.mod_eq_of_lt (by omega))
  beta_reduce
  rw [hk]

theorem lsum_all (μ : ℝ) : ∑ c, lsum (fun k => S (key k)) 16 μ c = ∑ k, ex (S k) μ := by
  unfold lsum
  rw [Finset.sum_comm, Finset.sum_range, Fin.sum_univ_tiles 16 1024 rfl (fun k : Fin 16384 => ex (S k) μ)]
  refine Finset.sum_congr rfl fun j _ => ?_
  rw [Finset.sum_comm, Fin.sum_univ_tiles 8 128 rfl]
  refine Finset.sum_congr rfl fun b _ => Finset.sum_congr rfl fun c _ => ?_
  have hk : key (j.val * 1024 + (b.val * 128 + c.val)) = ⟨j.val * 1024 + (b.val * 128 + c.val), by omega⟩ := Fin.ext (Nat.mod_eq_of_lt (by omega))
  beta_reduce
  rw [hk]

/-- What a component's columns hold: the softmax averages, or −∞ throughout where the scores have no softmax. -/
structure Average (S : Fin 16384 → EReal) (w : Fin 16384 → Fin 128 → ℝ) (D : Fin 128 → EReal) : Prop where
  bad : Bad S → ∀ e, D e = ⊥
  good : ¬ Bad S → ∀ e, D e = (attend S (w · e) : EReal)

/-- What the loop leaves of a row: a column over the sum of the lanes. -/
theorem after_average (hs : ∀ k, ∑ d : Fin 128, q (ix2 r d) * K (ix2 k d) = S k) (hw : ∀ k e, V (ix2 k e) = (w k e : EReal)) :
    Average S w fun e => Ideal.div ((Acc.after q K V 16).a (ix3 0 r e)) (∑ c : Fin 128, (Acc.after q K V 16).l (ix3 0 r c)) := by
  obtain ⟨μ, h⟩ := after_row hs hw 16
  have le : ∀ k, S k ≤ μ := fun k => by have := h.le k.val (by omega); rwa [key_val] at this
  refine ⟨fun hb e => ?_, fun hg e => ?_⟩
  · have hi : μ = ⊤ ∨ μ = ⊥ := by
      rcases hb with ⟨k, hk⟩ | hb
      · exact .inl (top_le_iff.1 (hk ▸ le k))
      · rcases h.attained with e | ⟨k, -, hk⟩
        · exact .inr e
        · exact .inr (hk.symm.trans (hb _))
    rw [h.a_inf hi, Finset.sum_eq_zero (fun c _ => h.l_inf hi c), div_zero_zero]
  · obtain ⟨ht, k, hk⟩ := Att.good hg
    obtain ⟨x, rfl⟩ : ∃ x : ℝ, μ = (x : EReal) := by
      induction μ with
      | bot => exact absurd (le_bot_iff.1 (le k)) hk
      | top =>
        rcases h.attained with e | ⟨k, -, hk⟩
        · exact absurd e top_ne_bot
        · exact absurd hk (ht _)
      | coe x => exact ⟨x, rfl⟩
    rw [h.a x rfl, Finset.sum_congr rfl (fun c _ => h.l x rfl c), ← coe_sum, lsum_all, asum_all, div_real _ _ (weights_pos ⟨k, hk⟩ x).ne', attend_level]

end Row

/-! ## The block -/

/-- The normalised difference, at a column. -/
def norm (x g : Fin 128 → EReal) (e : Fin 128) : EReal :=
  x e * Ideal.rsqrt (Ideal.div (∑ c : Fin 128, x c * x c) (Ideal.ofBits .f32 0x43000000#32) + Ideal.ofBits .f32 0x358637BD#32) * g e * Ideal.ofBits .f32 0x3F4CCCCD#32

theorem pay92_at (l0 l1 a0 a1 : FVec Ideal S1x1024x128 .f32) (lam : FVec Ideal S1x128 .f32) (r : Fin 1024) (e : Fin 128) :
    k0_pay92 (F := Ideal) l0 l1 a0 lam a1 (ix2 r e) = Ideal.div (a0 (ix3 0 r e)) (∑ c : Fin 128, l0 (ix3 0 r c)) - lam (ix2 0 e) * Ideal.div (a1 (ix3 0 r e)) (∑ c : Fin 128, l1 (ix3 0 r c)) := by
  pointwise [k0_pay92]

theorem pay94_at (l0 l1 a0 a1 : FVec Ideal S1x1024x128 .f32) (lam : FVec Ideal S1x128 .f32) (r : Fin 1024) (j : Fin 1) :
    k0_pay94 (F := Ideal) l0 l1 a0 lam a1 (ix2 r j) = Ideal.div (∑ c : Fin 128, k0_pay92 (F := Ideal) l0 l1 a0 lam a1 (ix2 r c) * k0_pay92 (F := Ideal) l0 l1 a0 lam a1 (ix2 r c)) (Ideal.ofBits .f32 0x43000000#32) := by
  pointwise [k0_pay94]

theorem pay76_at (q : FVec Ideal S1024x128 .bf16) (r : Fin 1024) (d : Fin 128) : k0_pay76 (F := Ideal) q (ix2 r d) = if d.val < 64 then q (ix2 r d) else 0 := by
  pointwise [k0_pay76, k0_pay75]
  have h : ∀ d : Fin 128, IntOp.cmpi .slt (BitVec.ofNat 32 d.val) 64#32 = if d.val < 64 then 1#1 else 0#1 := by decide +kernel
  rw [h]
  split_ifs <;> rfl

theorem pay77_at (q : FVec Ideal S1024x128 .bf16) (r : Fin 1024) (d : Fin 128) : k0_pay77 (F := Ideal) q (ix2 r d) = if d.val < 64 then 0 else q (ix2 r d) := by
  pointwise [k0_pay77, k0_pay75]
  have h : ∀ d : Fin 128, IntOp.cmpi .sge (BitVec.ofNat 32 d.val) 64#32 = if d.val < 64 then 0#1 else 1#1 := by decide +kernel
  rw [h]
  split_ifs <;> rfl

/-- A component's score: the dot product over its 64 lanes. -/
theorem half_score (f g : Fin 128 → EReal) : ∑ d : Fin 128, (if d.val < 64 then f d else 0) * g d = ∑ d : Fin 64, f ⟨d.val, by omega⟩ * g ⟨d.val, by omega⟩ := by
  rw [Fin.sum_univ_tiles 2 64 rfl, Fin.sum_univ_two]
  refine (congrArg₂ (· + ·) (Finset.sum_congr rfl fun t _ => ?_) (Finset.sum_eq_zero fun t _ => ?_)).trans (add_zero _)
  · have h : (⟨(0 : Fin 2).val * 64 + t.val, by have := t.isLt; simp; omega⟩ : Fin 128) = ⟨t.val, by omega⟩ := Fin.ext (by simp)
    rw [h, if_pos t.isLt]
  · rw [if_neg (by simp), zero_mul]

theorem half_score' (f g : Fin 128 → EReal) : ∑ d : Fin 128, (if d.val < 64 then 0 else f d) * g d = ∑ d : Fin 64, f ⟨64 + d.val, by omega⟩ * g ⟨64 + d.val, by omega⟩ := by
  rw [Fin.sum_univ_tiles 2 64 rfl, Fin.sum_univ_two]
  refine (congrArg₂ (· + ·) (Finset.sum_eq_zero fun t _ => ?_) (Finset.sum_congr rfl fun t _ => ?_)).trans (zero_add _)
  · rw [if_pos (by have := t.isLt; simp), zero_mul]
  · have h : (⟨(1 : Fin 2).val * 64 + t.val, by have := t.isLt; simp; omega⟩ : Fin 128) = ⟨64 + t.val, by omega⟩ := Fin.ext (by simp)
    rw [h, if_neg (by simp)]

theorem block_at (lam g : FVec Ideal S1x128 .f32) (q : FVec Ideal S1024x128 .bf16) (K V : FVec Ideal S16384x128 .bf16) (r : Fin 1024) (S0 S1 : Fin 16384 → EReal) (w : Fin 16384 → Fin 128 → ℝ)
    (hs0 : ∀ k, ∑ d : Fin 64, q (ix2 r ⟨d.val, by omega⟩) * K (ix2 k ⟨d.val, by omega⟩) = S0 k)
    (hs1 : ∀ k, ∑ d : Fin 64, q (ix2 r ⟨64 + d.val, by omega⟩) * K (ix2 k ⟨64 + d.val, by omega⟩) = S1 k)
    (hw : ∀ k e, V (ix2 k e) = (w k e : EReal)) :
    ∃ D0 D1 : Fin 128 → EReal, Average S0 w D0 ∧ Average S1 w D1 ∧ ∀ e, blockOut lam g q K V (ix2 r e) = norm (fun e => D0 e - lam (ix2 0 e) * D1 e) (fun e => g (ix2 0 e)) e := by
  refine ⟨_, _,
    after_average (q := k0_pay76 (F := Ideal) q) (r := r) (K := K) (V := V) (fun k => ((Finset.sum_congr rfl fun d _ => by rw [pay76_at]).trans (half_score (fun d => q (ix2 r d)) (fun d => K (ix2 k d)))).trans (hs0 k)) hw,
    after_average (q := k0_pay77 (F := Ideal) q) (r := r) (K := K) (V := V) (fun k => ((Finset.sum_congr rfl fun d _ => by rw [pay77_at]).trans (half_score' (fun d => q (ix2 r d)) (fun d => K (ix2 k d)))).trans (hs1 k)) hw,
    fun e => ?_⟩
  unfold blockOut norm
  pointwise [k0_pay1, k0_pay93]
  simp only [pay94_at, pay92_at]

/-! ## Rows without a softmax -/

/-- An infinity or 0. -/
def Flat (x : EReal) : Prop := x = ⊥ ∨ x = ⊤ ∨ x = 0

theorem Flat.add {x y : EReal} (hx : Flat x) (hy : Flat y) : Flat (x + y) := by
  rcases hx with rfl | rfl | rfl <;> rcases hy with rfl | rfl | rfl <;> simp [Flat]

theorem Flat.sum {ι : Type*} (s : Finset ι) (f : ι → EReal) (h : ∀ i, Flat (f i)) : Flat (∑ i ∈ s, f i) := by
  classical
  induction s using Finset.induction_on with
  | empty => exact .inr (.inr Finset.sum_empty)
  | insert a s ha ih => rw [Finset.sum_insert ha]; exact (h a).add ih

theorem flat_mul (x : ℝ) {y : EReal} (hy : y = ⊥ ∨ y = ⊤) : Flat ((x : EReal) * y) := by
  unfold Flat
  rcases lt_trichotomy x 0 with h | rfl | h <;> rcases hy with rfl | rfl
  · simp [EReal.coe_mul_bot_of_neg h]
  · simp [EReal.coe_mul_top_of_neg h]
  · simp
  · simp
  · simp [EReal.coe_mul_bot_of_pos h]
  · simp [EReal.coe_mul_top_of_pos h]

/-- Such a row is sent to 0. -/
theorem norm_flat (x g : Fin 128 → EReal) (h : ∀ e, Flat (x e)) (e : Fin 128) : norm x g e = 0 := by
  unfold norm
  have sq : ∀ c, 0 ≤ x c * x c := fun c => by rcases h c with h | h | h <;> rw [h] <;> simp
  have done : x e * Ideal.rsqrt (Ideal.div (∑ c : Fin 128, x c * x c) (Ideal.ofBits .f32 0x43000000#32) + Ideal.ofBits .f32 0x358637BD#32) = 0 := by
    by_cases hz : x e = 0
    · rw [hz, zero_mul]
    · have he : x e * x e = ⊤ := by rcases h e with h | h | h <;> first | exact absurd h hz | (rw [h]; simp)
      have hs : ∑ c : Fin 128, x c * x c = ⊤ := by
        refine top_le_iff.1 (he ▸ Finset.single_le_sum (f := fun c => x c * x c) (fun c _ => sq c) (Finset.mem_univ e))
      have h128 : Ideal.ofBits .f32 0x43000000#32 = ((128 : ℝ) : EReal) := by simp [Ideal.ofBits, Ideal.ieee, -EReal.coe_mul]; norm_num
      obtain ⟨k, hk⟩ : ∃ k : ℝ, Ideal.ofBits .f32 0x358637BD#32 = (k : EReal) := ⟨_, by simp [Ideal.ofBits, Ideal.ieee, -EReal.coe_mul]; rfl⟩
      have hd : Ideal.div ⊤ ((128 : ℝ) : EReal) = ⊤ := by
        rw [Ideal.div_coe (by norm_num), EReal.top_mul_coe_of_pos (by norm_num)]
      rw [hs, h128, hk, hd, EReal.top_add_coe]
      exact mul_zero _
  rw [done, zero_mul, zero_mul]

/-- The weights of a softmax, or −∞ throughout where the scores have none. -/
structure Weights (S : Fin 16384 → EReal) (p : Fin 16384 → EReal) : Prop where
  bad : Bad S → ∀ k, p k = ⊥
  good : ¬ Bad S → ∃ M : ℝ, ∀ k, p k = (ex (S k) M / ∑ j, ex (S j) M : ℝ)

/-- Averages subtracted after, or weights subtracted before the sum: after the norm it is one. -/
theorem norm_eq {S0 S1 p0 p1 : Fin 16384 → EReal} {w : Fin 16384 → Fin 128 → ℝ} {D0 D1 : Fin 128 → EReal} (a0 : Average S0 w D0) (a1 : Average S1 w D1)
    (q0 : Weights S0 p0) (q1 : Weights S1 p1) (lam : ℝ) (g : Fin 128 → EReal) (e : Fin 128) :
    norm (fun e => D0 e - lam * D1 e) g e = norm (fun e => ∑ k, (w k e : EReal) * (p0 k - lam * p1 k)) g e := by
  have flat : (∀ e, Flat (D0 e - lam * D1 e)) → (∀ k, p0 k - lam * p1 k = ⊥ ∨ p0 k - lam * p1 k = ⊤) →
      norm (fun e => D0 e - lam * D1 e) g e = norm (fun e => ∑ k, (w k e : EReal) * (p0 k - lam * p1 k)) g e := fun h h' =>
    (norm_flat _ g h e).trans (norm_flat _ g (fun e => Flat.sum _ _ fun k => flat_mul _ (h' k)) e).symm
  by_cases b0 : Bad S0
  · refine flat (fun e => .inl ?_) fun k => .inl ?_
    · rw [a0.bad b0, EReal.bot_sub]
    · rw [q0.bad b0, EReal.bot_sub]
  obtain ⟨M0, e0⟩ := q0.good b0
  have d0 := a0.good b0
  by_cases b1 : Bad S1
  · have d1 := a1.bad b1
    have e1 := q1.bad b1
    rcases lt_trichotomy lam 0 with h | rfl | h
    · refine flat (fun e => .inl ?_) fun k => .inl ?_
      · rw [d1, EReal.coe_mul_bot_of_neg h, sub_eq_add_neg, EReal.neg_top, EReal.add_bot]
      · rw [e1, EReal.coe_mul_bot_of_neg h, sub_eq_add_neg, EReal.neg_top, EReal.add_bot]
    · refine congrArg (fun x => norm x g e) (funext fun e => ?_)
      simp only [EReal.coe_zero, zero_mul, sub_zero]
      rw [d0, ← attend_level S0 _ M0, Finset.sum_div, coe_sum]
      refine Finset.sum_congr rfl fun k _ => ?_
      rw [e0, ← EReal.coe_mul]
      congr 1; ring
    · refine flat (fun e => .inr (.inl ?_)) fun k => .inr ?_
      · rw [d1, d0, EReal.coe_mul_bot_of_pos h, sub_eq_add_neg, EReal.neg_bot, EReal.coe_add_top]
      · rw [e1, e0, EReal.coe_mul_bot_of_pos h, sub_eq_add_neg, EReal.neg_bot, EReal.coe_add_top]
  · obtain ⟨M1, e1⟩ := q1.good b1
    have d1 := a1.good b1
    refine congrArg (fun x => norm x g e) (funext fun e => ?_)
    rw [d0, d1, ← EReal.coe_mul, ← EReal.coe_sub, ← attend_level S0 _ M0, ← attend_level S1 _ M1]
    refine Eq.trans (congrArg _ ?_) ((coe_sum _ fun k => w k e * (ex (S0 k) M0 / (∑ j, ex (S0 j) M0) - lam * (ex (S1 k) M1 / ∑ j, ex (S1 j) M1))).trans (Finset.sum_congr rfl fun k _ => ?_))
    · rw [Finset.sum_div, Finset.sum_div, Finset.mul_sum, ← Finset.sum_sub_distrib]
      exact Finset.sum_congr rfl fun k _ => by ring
    · rw [e0, e1, ← EReal.coe_mul, ← EReal.coe_sub, ← EReal.coe_mul]

/-- A block's row against any softmax weights of its scores. -/
theorem block_norm (lam g : FVec Ideal S1x128 .f32) (q : FVec Ideal S1024x128 .bf16) (K V : FVec Ideal S16384x128 .bf16) (r : Fin 1024) (S0 S1 p0 p1 : Fin 16384 → EReal) (w : Fin 16384 → Fin 128 → ℝ)
    (hs0 : ∀ k, ∑ d : Fin 64, q (ix2 r ⟨d.val, by omega⟩) * K (ix2 k ⟨d.val, by omega⟩) = S0 k)
    (hs1 : ∀ k, ∑ d : Fin 64, q (ix2 r ⟨64 + d.val, by omega⟩) * K (ix2 k ⟨64 + d.val, by omega⟩) = S1 k)
    (hw : ∀ k e, V (ix2 k e) = (w k e : EReal)) (q0 : Weights S0 p0) (q1 : Weights S1 p1) (x : ℝ) (hl : ∀ e, lam (ix2 0 e) = (x : EReal))
    (g' : Fin 128 → EReal) (hg : ∀ e, g (ix2 0 e) = g' e) (e : Fin 128) :
    blockOut lam g q K V (ix2 r e) = norm (fun e => ∑ k, (w k e : EReal) * (p0 k - x * p1 k)) g' e := by
  obtain ⟨D0, D1, a0, a1, h⟩ := block_at lam g q K V r S0 S1 w hs0 hs1 hw
  rw [h, ← norm_eq a0 a1 q0 q1 x g' e]
  simp only [hl, hg]

end Cert.KernelIdeal.Att
-- ==== Proof.AttReference.lean ====
module

public import proofs.«01_k».proof.Proof.Gen.ReferenceIdeal.Read
public import proofs.«01_k».proof.Proof.AttRow

@[expose] public section

set_option maxRecDepth 16384

noncomputable section

namespace Cert.ReferenceIdeal.Att

open Cert.ReferenceIdeal Cert.ReferenceIdeal.Gen Cert.ReferenceIdeal.Read
open Idealize.ShloMosaic Idealize.ShloMosaic.TcCoe Idealize.SL.Sem

variable (x0 : FVec Ideal S2x4x64 .f32) (x1 : FVec Ideal S2x128 .f32) (x2 : FVec Ideal S16384x2048 .bf16) (x3 : FVec Ideal S24576x9216 .bf16)

theorem v20_at (R : Fin 16384) (h : Fin 8) (c : Fin 2) (d : Fin 64) :
    val_main_v20 (F := Ideal) x2 (ix5 0 R h c d) = x2 (ix2 R ⟨h.val * 128 + c.val * 64 + d.val, by omega⟩) := by
  pointwise [val_main_v20, val_main_v19, val_main_v18]

theorem v23_at (R : Fin 16384) (h : Fin 8) (c : Fin 2) (d : Fin 64) :
    val_main_v23 (F := Ideal) x2 (ix5 0 R h c d) = x2 (ix2 R ⟨1024 + (h.val * 128 + c.val * 64 + d.val), by omega⟩) := by
  pointwise [val_main_v23, val_main_v22, val_main_v21]

theorem v26_at (k : Fin 16384) (h : Fin 8) (e : Fin 128) :
    val_main_v26 (F := Ideal) x3 (ix4 0 k h e) = x3 (ix2 ⟨k.val, by omega⟩ ⟨2048 + (h.val * 128 + e.val), by omega⟩) := by
  pointwise [val_main_v26, val_main_v25, val_main_v24]

theorem v27_at (h : Fin 8) (c : Fin 2) (R k : Fin 16384) :
    val_main_v27 (F := Ideal) x2 (ix5 0 h c R k)
      = ∑ d : Fin 64, x2 (ix2 R ⟨h.val * 128 + c.val * 64 + d.val, by omega⟩) * x2 (ix2 k ⟨1024 + (h.val * 128 + c.val * 64 + d.val), by omega⟩) := by
  pointwise [val_main_v27, v20_at, v23_at]

theorem v28_at (h : Fin 8) (c : Fin 2) (R : Fin 16384) :
    val_main_v28 (F := Ideal) x2 (ix4 0 h c R) = Finset.fold max ⊥ (fun k => val_main_v27 (F := Ideal) x2 (ix5 0 h c R k)) Finset.univ := by
  pointwise [val_main_v28, val_main_cst_2, Cert.KernelIdeal.Att.negInf]

theorem v29_at (i : S1x8x2x16384.Idx) : val_main_v29 (F := Ideal) i = ⊥ :=
  ((val_main_v29_apply (F := Ideal) i).trans (val_main_cst_3_apply _)).trans Cert.KernelIdeal.Att.negInf

theorem max_bot_ideal (a b : Ideal .f32) (h : a = (⊥ : EReal)) : FloatOps.maximumf a b = b := by
  subst h; exact max_bot_left _

/-- A row's maximum: a bound of the scores and one of them. -/
theorem v30_max (h : Fin 8) (c : Fin 2) (R : Fin 16384) :
    (∀ k, val_main_v27 (F := Ideal) x2 (ix5 0 h c R k) ≤ val_main_v30 (F := Ideal) x2 (ix4 0 h c R)) ∧ ∃ k, val_main_v27 (F := Ideal) x2 (ix5 0 h c R k) = val_main_v30 (F := Ideal) x2 (ix4 0 h c R) := by
  obtain ⟨hle, k, -, hk⟩ := Cert.KernelIdeal.Att.fold_max_attained (Finset.univ : Finset (Fin 16384)) ⟨0, Finset.mem_univ _⟩ (fun k => val_main_v27 (F := Ideal) x2 (ix5 0 h c R k))
  have e := ((val_main_v30_apply (F := Ideal) x2 _).trans (max_bot_ideal _ _ (v29_at _))).trans (v28_at x2 h c R)
  exact ⟨fun k => (hle k (Finset.mem_univ _)).trans_eq e.symm, k, hk.trans e.symm⟩

theorem v34_at (h : Fin 8) (c : Fin 2) (R k : Fin 16384) :
    val_main_v34 (F := Ideal) x2 (ix5 0 h c R k) = Ideal.exp (val_main_v27 (F := Ideal) x2 (ix5 0 h c R k) - val_main_v30 (F := Ideal) x2 (ix4 0 h c R)) := by
  pointwise [val_main_v34, val_main_v33, val_main_v32, val_main_v31]

theorem v38_at (h : Fin 8) (c : Fin 2) (R k : Fin 16384) :
    val_main_v38 (F := Ideal) x2 (ix5 0 h c R k) = Ideal.div (val_main_v34 (F := Ideal) x2 (ix5 0 h c R k)) (∑ j : Fin 16384, val_main_v34 (F := Ideal) x2 (ix5 0 h c R j)) := by
  pointwise [val_main_v38, val_main_v37, val_main_v36, val_main_v35, val_main_cst_4]

/-- The softmax's weights. -/
theorem v38_weights (h : Fin 8) (c : Fin 2) (R : Fin 16384) :
    Cert.KernelIdeal.Att.Weights (fun k => val_main_v27 (F := Ideal) x2 (ix5 0 h c R k)) (fun k => val_main_v38 (F := Ideal) x2 (ix5 0 h c R k)) := by
  obtain ⟨hle, k₀, hk₀⟩ := v30_max x2 h c R
  refine ⟨fun hb k => ?_, fun hg => ?_⟩
  · have hi : val_main_v30 (F := Ideal) x2 (ix4 0 h c R) = (⊤ : EReal) ∨ val_main_v30 (F := Ideal) x2 (ix4 0 h c R) = (⊥ : EReal) := by
      rcases hb with ⟨k, hk⟩ | hb
      · exact .inl (top_le_iff.1 (hk ▸ hle k))
      · exact .inr (hk₀.symm.trans (hb _))
    have z : ∀ k, val_main_v34 (F := Ideal) x2 (ix5 0 h c R k) = (0 : EReal) := fun k => (v34_at x2 h c R k).trans (Cert.KernelIdeal.Att.exp_level hi (hle k))
    rw [v38_at, Finset.sum_eq_zero (fun j _ => z j), z, Cert.KernelIdeal.Att.div_zero_zero]
  · obtain ⟨ht, k, hk⟩ := Cert.KernelIdeal.Att.good hg
    obtain ⟨M, hM⟩ : ∃ M : ℝ, val_main_v30 (F := Ideal) x2 (ix4 0 h c R) = (M : EReal) := by
      generalize val_main_v30 (F := Ideal) x2 (ix4 0 h c R) = μ at hle hk₀
      induction μ using EReal.rec with
      | bot => exact absurd (le_bot_iff.1 (hle k)) hk
      | top => exact absurd hk₀ (ht _)
      | coe x => exact ⟨x, rfl⟩
    have he : ∀ k, val_main_v34 (F := Ideal) x2 (ix5 0 h c R k) = (Cert.KernelIdeal.Att.ex (val_main_v27 (F := Ideal) x2 (ix5 0 h c R k)) M : EReal) := fun k => by
      rw [v34_at, hM, Cert.KernelIdeal.Att.exp_ex (ht k)]
    refine ⟨M, fun k' => ?_⟩
    rw [v38_at, he, Finset.sum_congr rfl (fun j _ => he j), ← Cert.KernelIdeal.Att.coe_sum, Cert.KernelIdeal.Att.div_real _ _ (Cert.KernelIdeal.Att.weights_pos ⟨k, hk⟩ M).ne']

theorem v40_at (h : Fin 8) (R k : Fin 16384) :
    val_main_v40 (F := Ideal) x2 (ix4 0 h R k) = val_main_v38 (F := Ideal) x2 (ix5 0 h 0 R k) := by
  pointwise [val_main_v40, val_main_v39]

theorem v42_at (h : Fin 8) (R k : Fin 16384) :
    val_main_v42 (F := Ideal) x2 (ix4 0 h R k) = val_main_v38 (F := Ideal) x2 (ix5 0 h 1 R k) := by
  pointwise [val_main_v42, val_main_v41]

theorem v43_at (i : S1x8x16384x16384.Idx) : val_main_v43 (F := Ideal) x0 i = val_main_v17 (F := Ideal) x0 ix0 :=
  (val_main_v43_apply (F := Ideal) x0 i).trans (congrArg (val_main_v17 (F := Ideal) x0) (funext fun a => a.elim0))

theorem sub_mul_ideal {a b c a' b' c' : Ideal .f32} (ha : a = a') (hb : b = b') (hc : c = c') :
    FloatOps.subf a (FloatOps.mulf b c) = (a' : EReal) - b' * c' := by
  subst ha hb hc; rfl

theorem v45_at (h : Fin 8) (R k : Fin 16384) (lam : EReal) (hlam : val_main_v17 (F := Ideal) x0 ix0 = lam) :
    val_main_v45 (F := Ideal) x0 x2 (ix4 0 h R k) = val_main_v38 (F := Ideal) x2 (ix5 0 h 0 R k) - lam * val_main_v38 (F := Ideal) x2 (ix5 0 h 1 R k) :=
  (val_main_v45_apply (F := Ideal) x0 x2 _).trans ((congrArg (FloatOps.subf _) (val_main_v44_apply (F := Ideal) x0 x2 _)).trans
    (sub_mul_ideal (v40_at x2 h R k) ((v43_at x0 _).trans hlam) (v42_at x2 h R k)))

theorem v47_at (h : Fin 8) (R : Fin 16384) (e : Fin 128) :
    val_main_v47 (F := Ideal) x0 x2 x3 (ix4 0 R h e) = ∑ k : Fin 16384, val_main_v26 (F := Ideal) x3 (ix4 0 k h e) * val_main_v45 (F := Ideal) x0 x2 (ix4 0 h R k) := by
  pointwise [val_main_v47, val_main_v46]

/-- The average under the difference of the weights. -/
theorem v47_sum (h : Fin 8) (R : Fin 16384) (e : Fin 128) (lam : EReal) (hlam : val_main_v17 (F := Ideal) x0 ix0 = lam) (w : Fin 16384 → ℝ)
    (hw : ∀ k, val_main_v26 (F := Ideal) x3 (ix4 0 k h e) = (w k : EReal)) :
    val_main_v47 (F := Ideal) x0 x2 x3 (ix4 0 R h e)
      = ∑ k, (w k : EReal) * (val_main_v38 (F := Ideal) x2 (ix5 0 h 0 R k) - lam * val_main_v38 (F := Ideal) x2 (ix5 0 h 1 R k)) := by
  rw [v47_at]
  exact Finset.sum_congr rfl fun k _ => by rw [hw, v45_at x0 x2 h R k lam hlam]

theorem v66_at (h : Fin 8) (R : Fin 16384) (e : Fin 128) :
    val_main_v66 (F := Ideal) x0 x1 x2 x3 (ix2 R ⟨h.val * 128 + e.val, by omega⟩)
      = Cert.KernelIdeal.Att.norm (fun e => val_main_v47 (F := Ideal) x0 x2 x3 (ix4 0 R h e)) (fun e => x1 (ix2 0 e)) e := by
  unfold Cert.KernelIdeal.Att.norm
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_cst_5, val_main_cst_6, val_main_cst_7, val_main_cst_8]

end Cert.ReferenceIdeal.Att
-- ==== Proof.AttValue.lean ====
module

public import proofs.«01_k».proof.Proof.AttFrame
public import proofs.«01_k».proof.Proof.AttReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

variable (m : (ℓ : Loc nD τ sig) → Buf (Elt Ideal) ℓ)

/-- The reference's term over the kernel's argument arrays. -/
abbrev REF (x0 : FVec Ideal S2x4x64 .f32) (x1 : FVec Ideal S2x128 .f32) (x2 : FVec Ideal S16384x2048 .bf16) (x3 : FVec Ideal S24576x9216 .bf16) : FVec Ideal S16384x1024 .bf16 :=
  Cert.ReferenceIdeal.Read.val_main_v66 (F := Ideal) x0 x1 x2 x3

theorem idx : ∀ t : Fin cfg0.N, win0_0.index t = ![0, 0] ∧ win0_1.index t = ![0, 0] ∧ win0_2.index t = ![t.val % 16, t.val / 16] ∧ win0_3.index t = ![0, 8 + t.val / 16]
    ∧ win0_4.index t = ![0, 16 + t.val / 16] ∧ win0_5.index t = ![t.val % 16, t.val / 16] :=
  (by decide +kernel : ∀ t : Fin grid0.N, _)

/-- The factor of the second average. -/
def lamE (x0 : FVec Ideal S2x4x64 .f32) : EReal :=
  Ideal.exp (∑ j : Fin 64, x0 (ix3 0 0 j) * x0 (ix3 0 1 j)) - Ideal.exp (∑ j : Fin 64, x0 (ix3 0 2 j) * x0 (ix3 0 3 j)) + Ideal.ofBits .f32 0x3E4CCCCD#32

theorem V_lam (c : Dev nD) (e : Fin 128) : V m c main_v20 (ix2 0 e) = lamE (m ((c : Thread nD τ).loc main_arg0)) := by
  entry_read
  unfold lamE
  pointwise

theorem V_g (c : Dev nD) (e : Fin 128) : V m c main_v21 (ix2 0 e) = (m ((c : Thread nD τ).loc main_arg1) : FVec Ideal S2x128 .f32) (ix2 0 e) := by
  entry_read
  pointwise

theorem ref_lam (x0 : FVec Ideal S2x4x64 .f32) : Cert.ReferenceIdeal.Read.val_main_v17 (F := Ideal) x0 ix0 = lamE x0 := by
  open Cert.ReferenceIdeal.Read in
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, lamE]

theorem lam_blk (c : Dev nD) (t : Fin cfg0.N) (e : Fin 128) : iblk m c 0 t (ix2 0 e) = lamE (m ((c : Thread nD τ).loc main_arg0)) := by
  unfold iblk
  refine Eq.trans ?_ (V_lam m c e)
  blk_ext [idx t]

theorem g_blk (c : Dev nD) (t : Fin cfg0.N) (e : Fin 128) : iblk m c 1 t (ix2 0 e) = (m ((c : Thread nD τ).loc main_arg1) : FVec Ideal S2x128 .f32) (ix2 0 e) := by
  unfold iblk
  refine Eq.trans ?_ (V_g m c e)
  blk_ext [idx t]

theorem q_blk (c : Dev nD) (t : Fin cfg0.N) (r : Fin 1024) (d : Fin 128) :
    iblk m c 2 t (ix2 r d) = (m ((c : Thread nD τ).loc main_arg2) : FVec Ideal S16384x2048 .bf16) (ix2 ⟨t.val % 16 * 1024 + r.val, by omega⟩ ⟨t.val / 16 * 128 + d.val, by have := t.isLt; have : cfg0.N = 128 := rfl; omega⟩) := by
  blk_ext [iblk, V, idx t]

theorem k_blk (c : Dev nD) (t : Fin cfg0.N) (k : Fin 16384) (d : Fin 128) :
    iblk m c 3 t (ix2 k d) = (m ((c : Thread nD τ).loc main_arg2) : FVec Ideal S16384x2048 .bf16) (ix2 k ⟨1024 + (t.val / 16 * 128 + d.val), by have := t.isLt; have : cfg0.N = 128 := rfl; omega⟩) := by
  blk_ext [iblk, V, idx t]

theorem v_blk (c : Dev nD) (t : Fin cfg0.N) (k : Fin 16384) (e : Fin 128) :
    X0_4 m c t (ix2 k e) = (m ((c : Thread nD τ).loc main_arg3) : FVec Ideal S24576x9216 .bf16) (ix2 ⟨k.val, by omega⟩ ⟨2048 + (t.val / 16 * 128 + e.val), by have := t.isLt; have : cfg0.N = 128 := rfl; omega⟩) := by
  unfold X0_4 Pipeline.Window.fill
  rw [dif_pos (moved0_4 t _)]
  unfold iblk
  blk_ext [idx t, V]

/-- An extended real that is a real. -/
def IsReal (x : EReal) : Prop := ∃ r : ℝ, x = (r : EReal)

theorem sum_mul_real {n : ℕ} (f g : Fin n → EReal) (hf : ∀ i, IsReal (f i)) (hg : ∀ i, IsReal (g i)) : IsReal (∑ i, f i * g i) := by
  choose a ha using hf
  choose b hb using hg
  exact ⟨∑ i, a i * b i, by rw [coe_sum]; exact Finset.sum_congr rfl fun i _ => by rw [ha, hb, EReal.coe_mul]⟩

theorem lam_real (x0 : FVec Ideal S2x4x64 .f32) (h : ∀ (a : Fin 4) (j : Fin 64), IsReal (x0 (ix3 0 a j))) : IsReal (lamE x0) := by
  obtain ⟨a, ha⟩ := sum_mul_real (fun j : Fin 64 => x0 (ix3 0 0 j)) (fun j => x0 (ix3 0 1 j)) (h 0) (h 1)
  obtain ⟨b, hb⟩ := sum_mul_real (fun j : Fin 64 => x0 (ix3 0 2 j)) (fun j => x0 (ix3 0 3 j)) (h 2) (h 3)
  obtain ⟨k, hk⟩ : ∃ k : ℝ, Ideal.ofBits .f32 0x3E4CCCCD#32 = (k : EReal) := ⟨_, by simp [Ideal.ofBits, Ideal.ieee, -EReal.coe_mul]; rfl⟩
  unfold lamE
  rw [ha, hb, hk, Ideal.exp_coe, Ideal.exp_coe, ← EReal.coe_sub, ← EReal.coe_add]
  exact ⟨_, rfl⟩

/-- What a point stores is the reference's term at the index its block puts it. -/
theorem point (c : Dev nD) (t : Fin cfg0.N) (r : Fin 1024) (e : Fin 128)
    (hlam : ∀ (a : Fin 4) (j : Fin 64), IsReal ((m ((c : Thread nD τ).loc main_arg0) : FVec Ideal S2x4x64 .f32) (ix3 0 a j)))
    (hv : ∀ (k : Fin 16384) (j : Fin 1024), IsReal ((m ((c : Thread nD τ).loc main_arg3) : FVec Ideal S24576x9216 .bf16) (ix2 ⟨k.val, by omega⟩ ⟨2048 + j.val, by omega⟩))) :
    out m c t (ix2 r e) = REF (m ((c : Thread nD τ).loc main_arg0)) (m ((c : Thread nD τ).loc main_arg1)) (m ((c : Thread nD τ).loc main_arg2)) (m ((c : Thread nD τ).loc main_arg3))
      (ix2 ⟨t.val % 16 * 1024 + r.val, by omega⟩ ⟨t.val / 16 * 128 + e.val, by have := t.isLt; have : cfg0.N = 128 := rfl; omega⟩) := by
  have ht : t.val / 16 < 8 := by have := t.isLt; have : cfg0.N = 128 := rfl; omega
  obtain ⟨lam, hl⟩ := lam_real _ hlam
  choose w hw using fun (k : Fin 16384) (e : Fin 128) => hv k ⟨t.val / 16 * 128 + e.val, by omega⟩
  unfold out
  refine (block_norm _ _ _ _ _ r _ _ _ _ w (fun k => ?_) (fun k => ?_) (fun k e => (v_blk m c t k e).trans (hw k e))
    (Cert.ReferenceIdeal.Att.v38_weights (m ((c : Thread nD τ).loc main_arg2)) ⟨t.val / 16, ht⟩ 0 ⟨t.val % 16 * 1024 + r.val, by omega⟩)
    (Cert.ReferenceIdeal.Att.v38_weights (m ((c : Thread nD τ).loc main_arg2)) ⟨t.val / 16, ht⟩ 1 ⟨t.val % 16 * 1024 + r.val, by omega⟩)
    lam (fun e => (lam_blk m c t e).trans hl) _ (fun e => g_blk m c t e) e).trans ?_
  · refine Eq.trans (Finset.sum_congr rfl fun d _ => ?_) (Cert.ReferenceIdeal.Att.v27_at _ _ _ _ _).symm
    rw [q_blk, k_blk]
    rfl
  · refine Eq.trans (Finset.sum_congr rfl fun d _ => ?_) (Cert.ReferenceIdeal.Att.v27_at _ _ _ _ _).symm
    rw [q_blk, k_blk]
    refine congrArg₂ (· * ·) (congrArg _ ?_) (congrArg _ ?_) <;> idx_ext
  · refine Eq.trans ?_ (Cert.ReferenceIdeal.Att.v66_at _ _ _ _ ⟨t.val / 16, ht⟩ _ e).symm
    refine congrArg (fun x => norm x _ e) (funext fun e => ?_)
    have hw' : ∀ k, Cert.ReferenceIdeal.Read.val_main_v26 (F := Ideal) (m ((c : Thread nD τ).loc main_arg3)) (ix4 0 k ⟨t.val / 16, ht⟩ e) = (w k e : EReal) := fun k =>
      (Cert.ReferenceIdeal.Att.v26_at _ _ _ _).trans (hw k e)
    exact (Cert.ReferenceIdeal.Att.v47_sum (m ((c : Thread nD τ).loc main_arg0)) (m ((c : Thread nD τ).loc main_arg2)) (m ((c : Thread nD τ).loc main_arg3)) ⟨t.val / 16, ht⟩ _ e lam ((ref_lam _).trans hl) (w · e) hw').symm

theorem final (c : Dev nD)
    (hlam : ∀ (a : Fin 4) (j : Fin 64), IsReal ((m ((c : Thread nD τ).loc main_arg0) : FVec Ideal S2x4x64 .f32) (ix3 0 a j)))
    (hv : ∀ (k : Fin 16384) (j : Fin 1024), IsReal ((m ((c : Thread nD τ).loc main_arg3) : FVec Ideal S24576x9216 .bf16) (ix2 ⟨k.val, by omega⟩ ⟨2048 + j.val, by omega⟩))) :
    (dats m 0 c).arrAt 5 (cfgs 0).N
      = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  refine (point m c t _ _ hlam hv).trans ?_
  generalize REF _ _ _ _ = X
  refine congrArg X ?_
  blk_ext [idx t]

end Cert.KernelIdeal.Att

end
-- ==== Proof.AttPre.lean ====
module

public import proofs.«01_k».proof.Pre_finite
public import proofs.«01_k».proof.Proof.AttValue
public import Idealize.ShloMosaic.Lib.ReduceAll

@[expose] public section

set_option maxRecDepth 16384

noncomputable section

open Idealize.ShloMosaic

namespace Cert.Pre_finite

/-- What the precondition's operations ask of their shapes. -/
instance facts : Facts where
  slices_S24576x9216_S16384x1024_0_2048 := by decide
  slices_S2x4x64_S1x4x64_0_0_0 := by decide
  shapeCasts_S1x4x64_S4x64 := by decide
  bcast_S_S4x64 := by decide
  reducesTo_S4x64_S_d0_1 := by decide
  h_S_ := by decide
  bitsLt_bf16_f32 := by decide
  bcast_S_S16384x1024 := by decide
  reducesTo_S16384x1024_S_d0_1 := by decide

/-- An absolute value below +∞ is a real's. -/
theorem isReal_of_abs {x : Ideal .f32} {y : Ideal .f32} (hy : y = (⊤ : EReal)) (h : FloatOps.cmpf .olt (FloatOps.hostAbsf x) y = 1#1) : Cert.KernelIdeal.Att.IsReal x := by
  subst hy
  have h : Ideal.cmp .olt (max (x : EReal) (-x)) ⊤ = 1#1 := h
  induction x using EReal.rec with
  | bot => simp [Ideal.cmp] at h
  | top => simp [Ideal.cmp] at h
  | coe r => exact ⟨r, rfl⟩

theorem posInf : Ideal.ofBits .f32 0x7F800000#32 = ⊤ := by simp [Ideal.ofBits, Ideal.ieee]

open Facts in
/-- The precondition read: the arrays it names are reals everywhere. -/
theorem reads (x0 : FVec Ideal S2x4x64 .f32) (x1 : FVec Ideal S2x128 .f32) (x2 : FVec Ideal S16384x2048 .bf16) (x3 : FVec Ideal S24576x9216 .bf16)
    (h : fn (F := Ideal) x0 x1 x2 x3 = fun _ => 1#1) :
    (∀ (a : Fin 4) (j : Fin 64), Cert.KernelIdeal.Att.IsReal (x0 (ix3 0 a j)))
      ∧ ∀ (k : Fin 16384) (j : Fin 1024), Cert.KernelIdeal.Att.IsReal (x3 (ix2 ⟨k.val, by omega⟩ ⟨2048 + j.val, by omega⟩)) := by
  have : Subsingleton S_.Idx := ⟨fun a b => funext fun i => i.elim0⟩
  have h := congrFun h ix0
  unfold fn at h
  obtain ⟨h1, h3⟩ := IntOp.andi_eq_one.1 h
  refine ⟨fun a j => ?_, fun k j => ?_⟩
  · have := Host.reduce_andi_all _ _ _ _ _ h1 (ix2 a j)
    obtain ⟨r, hr⟩ := isReal_of_abs posInf this
    refine ⟨r, Eq.trans ?_ hr⟩
    pointwise
  · have := Host.reduce_andi_all _ _ _ _ _ h3 (ix2 k j)
    obtain ⟨r, hr⟩ := isReal_of_abs posInf this
    refine ⟨r, Eq.trans ?_ hr⟩
    pointwise

end Cert.Pre_finite

end
-- ==== Proof.AttentionClaim.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.AttFrame
public import proofs.«01_k».proof.Proof.AttValue
public import proofs.«01_k».proof.Proof.AttPre
public import Idealize.ShloMosaic.Lib.Claim
public import Idealize.ShloMosaic.Lib.Quiescent

@[expose] public section

set_option maxRecDepth 16384

noncomputable section

open Idealize.ShloMosaic Idealize.SL.Sem

namespace Cert.Proof.Attention

/-- The two programs have one body table: their texts are the same. -/
theorem bodies_eq : Cert.Kernel.defs₀ (F := Bits) = Cert.KernelIdeal.defs₀ (F := Bits) :=
  congrArg Defs.onTc (funext fun l => funext fun x => by
    match l, x with
    | 0, (t, s) => rfl)

theorem defs_eq : Cert.Kernel.defs (F := Bits) = Cert.KernelIdeal.defs (F := Bits) := congrArg (Pipeline.defs Cert.KernelIdeal.pcfgs) bodies_eq

theorem frame_kernel : Cert.quiescent_Kernel := fun m ρ _ => by
  rw [defs_eq]
  exact (θ_run Cert.KernelIdeal.defs _ _).mono (fun _ h => h) (Cert.KernelIdeal.Att.frame (F := Bits) m ρ)

theorem frame_ideal : Cert.quiescent_KernelIdeal := fun m ρ _ => Cert.KernelIdeal.Att.frame m ρ

theorem frame_ideal_finite : Cert.quiescent_KernelIdeal_pre_finite := fun m ρ _ => Cert.KernelIdeal.Att.frame m ρ

theorem frame_reference : Cert.quiescent_ReferenceIdeal := fun m g _ =>
  (θ_run _ _ _).mono (fun r h => ⟨fun c => (h c).2, sem_eq_zero_of_no_sems (by decide) r.2⟩) (Cert.ReferenceIdeal.Value.run m g)

theorem frame_reference_finite : Cert.quiescent_ReferenceIdeal_pre_finite := fun m g _ => frame_reference m g trivial

set_option maxHeartbeats 1600000 in
theorem algebraic : Cert.algebraic_KernelIdeal_ReferenceIdeal_pre_finite := by
  intro m g m' g' hpre hagree
  refine ⟨fun c => (Cert.KernelIdeal.Att.dats m 0 c).arrAt 5 (Cert.KernelIdeal.cfgs 0).N, ?_, ?_⟩
  · run_from Cert.KernelIdeal.Att.run_main m g
  · refine (θ_run _ _ _).mono (fun r h c => ⟨(h c).1.trans ?_, (h c).2⟩) (Cert.ReferenceIdeal.Value.run m' g')
    refine (Cert.ReferenceIdeal.Read.val_main_v66_eq m' c).trans ?_
    rw [((hagree c).1), ((hagree c).2.1), ((hagree c).2.2.1), ((hagree c).2.2.2)]
    obtain ⟨h0, h3⟩ := Cert.Pre_finite.reads _ _ _ _ (hpre c)
    exact (Cert.KernelIdeal.Att.final m c h0 h3).symm

end Cert.Proof.Attention

end
-- ==== Proof.MergeValue.lean ====
module

public import proofs.«01_k».proof.Proof.Gen.MergeIdeal.Value
public import proofs.«01_k».proof.Proof.Gen.MergeReferenceIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.ValueProof

open Cert.MergeIdeal Cert.MergeIdeal.Gen

variable (m : (ℓ : Loc nD τ sig) → Buf (Elt Ideal) ℓ)

/-- The reference's term over the kernel's argument arrays. -/
abbrev REF (x0 : FVec Ideal S24576x4096 .bf16) (x1 : FVec Ideal S4x24576x1024 .bf16) (x2 : FVec Ideal S2x4x4096x4096 .f32) (x3 : FVec Ideal S2x4x4096 .f32) (x4 : FVec Ideal S2x4x1024x4096 .f32) : FVec Ideal S24576x4096 .bf16 :=
  Cert.MergeReferenceIdeal.Read.val_main_v90 (F := Ideal) x0 x1 x2 x3 x4

/-- What branch `s` gives an entry: its gate times its projection. -/
def entry (x0 : FVec Ideal S24576x4096 .bf16) (x1 : FVec Ideal S4x24576x1024 .bf16) (x2 : FVec Ideal S2x4x4096x4096 .f32) (x3 : FVec Ideal S2x4x4096 .f32) (x4 : FVec Ideal S2x4x1024x4096 .f32)
    (r : Fin 24576) (j : Fin 4096) (s : Fin 4) : EReal :=
  Ideal.logistic ((∑ k : Fin 4096, x0 (ix2 r k) * x2 (ix4 0 s k j)) + x3 (ix3 0 s j)) * ∑ q : Fin 1024, x1 (ix3 s r q) * x4 (ix4 0 s q j)

theorem entry_congr (x0 : FVec Ideal S24576x4096 .bf16) (x1 : FVec Ideal S4x24576x1024 .bf16) (x2 : FVec Ideal S2x4x4096x4096 .f32) (x3 : FVec Ideal S2x4x4096 .f32) (x4 : FVec Ideal S2x4x1024x4096 .f32)
    {r r' : Fin 24576} {j j' : Fin 4096} {s s' : Fin 4} (hr : r.val = r'.val) (hj : j.val = j'.val) (hs : s.val = s'.val) :
    entry x0 x1 x2 x3 x4 r j s = entry x0 x1 x2 x3 x4 r' j' s' := by
  rw [Fin.ext hr, Fin.ext hj, Fin.ext hs]

theorem ref_apply (x0 : FVec Ideal S24576x4096 .bf16) (x1 : FVec Ideal S4x24576x1024 .bf16) (x2 : FVec Ideal S2x4x4096x4096 .f32) (x3 : FVec Ideal S2x4x4096 .f32) (x4 : FVec Ideal S2x4x1024x4096 .f32)
    (r : Fin 24576) (j : Fin 4096) : REF x0 x1 x2 x3 x4 (ix2 r j) = ∑ s : Fin 4, entry x0 x1 x2 x3 x4 r j s := by
  rw [Fin.sum_univ_four]
  pointwise [REF, Cert.MergeReferenceIdeal.Read.val_main_v90, Cert.MergeReferenceIdeal.Read.val_main_v89, Cert.MergeReferenceIdeal.Read.val_main_v88, Cert.MergeReferenceIdeal.Read.val_main_v87, Cert.MergeReferenceIdeal.Read.val_main_v86, Cert.MergeReferenceIdeal.Read.val_main_v85, Cert.MergeReferenceIdeal.Read.val_main_v84, Cert.MergeReferenceIdeal.Read.val_main_v83, Cert.MergeReferenceIdeal.Read.val_main_v82, Cert.MergeReferenceIdeal.Read.val_main_v81, Cert.MergeReferenceIdeal.Read.val_main_v80, Cert.MergeReferenceIdeal.Read.val_main_cst_7, Cert.MergeReferenceIdeal.Read.val_main_v79, Cert.MergeReferenceIdeal.Read.val_main_v78, Cert.MergeReferenceIdeal.Read.val_main_cst_6, Cert.MergeReferenceIdeal.Read.val_main_v77, Cert.MergeReferenceIdeal.Read.val_main_v76, Cert.MergeReferenceIdeal.Read.val_main_v75, Cert.MergeReferenceIdeal.Read.val_main_v74, Cert.MergeReferenceIdeal.Read.val_main_v73, Cert.MergeReferenceIdeal.Read.val_main_v72, Cert.MergeReferenceIdeal.Read.val_main_v71, Cert.MergeReferenceIdeal.Read.val_main_v70, Cert.MergeReferenceIdeal.Read.val_main_v69, Cert.MergeReferenceIdeal.Read.val_main_v68, Cert.MergeReferenceIdeal.Read.val_main_v67, Cert.MergeReferenceIdeal.Read.val_main_v66, Cert.MergeReferenceIdeal.Read.val_main_v65, Cert.MergeReferenceIdeal.Read.val_main_v64, Cert.MergeReferenceIdeal.Read.val_main_v63, Cert.MergeReferenceIdeal.Read.val_main_v62, Cert.MergeReferenceIdeal.Read.val_main_v61, Cert.MergeReferenceIdeal.Read.val_main_v60, Cert.MergeReferenceIdeal.Read.val_main_v59, Cert.MergeReferenceIdeal.Read.val_main_v58, Cert.MergeReferenceIdeal.Read.val_main_cst_5, Cert.MergeReferenceIdeal.Read.val_main_v57, Cert.MergeReferenceIdeal.Read.val_main_v56, Cert.MergeReferenceIdeal.Read.val_main_cst_4, Cert.MergeReferenceIdeal.Read.val_main_v55, Cert.MergeReferenceIdeal.Read.val_main_v54, Cert.MergeReferenceIdeal.Read.val_main_v53, Cert.MergeReferenceIdeal.Read.val_main_v52, Cert.MergeReferenceIdeal.Read.val_main_v51, Cert.MergeReferenceIdeal.Read.val_main_v50, Cert.MergeReferenceIdeal.Read.val_main_v49, Cert.MergeReferenceIdeal.Read.val_main_v48, Cert.MergeReferenceIdeal.Read.val_main_v47, Cert.MergeReferenceIdeal.Read.val_main_v46, Cert.MergeReferenceIdeal.Read.val_main_v45, Cert.MergeReferenceIdeal.Read.val_main_v44, Cert.MergeReferenceIdeal.Read.val_main_v43, Cert.MergeReferenceIdeal.Read.val_main_v42, Cert.MergeReferenceIdeal.Read.val_main_v41, Cert.MergeReferenceIdeal.Read.val_main_v40, Cert.MergeReferenceIdeal.Read.val_main_v39, Cert.MergeReferenceIdeal.Read.val_main_v38, Cert.MergeReferenceIdeal.Read.val_main_v37, Cert.MergeReferenceIdeal.Read.val_main_v36, Cert.MergeReferenceIdeal.Read.val_main_cst_3, Cert.MergeReferenceIdeal.Read.val_main_v35, Cert.MergeReferenceIdeal.Read.val_main_v34, Cert.MergeReferenceIdeal.Read.val_main_cst_2, Cert.MergeReferenceIdeal.Read.val_main_v33, Cert.MergeReferenceIdeal.Read.val_main_v32, Cert.MergeReferenceIdeal.Read.val_main_v31, Cert.MergeReferenceIdeal.Read.val_main_v30, Cert.MergeReferenceIdeal.Read.val_main_v29, Cert.MergeReferenceIdeal.Read.val_main_v28, Cert.MergeReferenceIdeal.Read.val_main_v27, Cert.MergeReferenceIdeal.Read.val_main_v26, Cert.MergeReferenceIdeal.Read.val_main_v25, Cert.MergeReferenceIdeal.Read.val_main_v24, Cert.MergeReferenceIdeal.Read.val_main_v23, Cert.MergeReferenceIdeal.Read.val_main_v22, Cert.MergeReferenceIdeal.Read.val_main_v21, Cert.MergeReferenceIdeal.Read.val_main_v20, Cert.MergeReferenceIdeal.Read.val_main_v19, Cert.MergeReferenceIdeal.Read.val_main_v18, Cert.MergeReferenceIdeal.Read.val_main_v17, Cert.MergeReferenceIdeal.Read.val_main_v16, Cert.MergeReferenceIdeal.Read.val_main_v15, Cert.MergeReferenceIdeal.Read.val_main_v14, Cert.MergeReferenceIdeal.Read.val_main_cst_1, Cert.MergeReferenceIdeal.Read.val_main_v13, Cert.MergeReferenceIdeal.Read.val_main_v12, Cert.MergeReferenceIdeal.Read.val_main_cst_0, Cert.MergeReferenceIdeal.Read.val_main_v11, Cert.MergeReferenceIdeal.Read.val_main_v10, Cert.MergeReferenceIdeal.Read.val_main_v9, Cert.MergeReferenceIdeal.Read.val_main_v8, Cert.MergeReferenceIdeal.Read.val_main_v7, Cert.MergeReferenceIdeal.Read.val_main_v6, Cert.MergeReferenceIdeal.Read.val_main_v5, Cert.MergeReferenceIdeal.Read.val_main_v4, Cert.MergeReferenceIdeal.Read.val_main_v3, Cert.MergeReferenceIdeal.Read.val_main_v2, Cert.MergeReferenceIdeal.Read.val_main_v1, Cert.MergeReferenceIdeal.Read.val_main_cst, Cert.MergeReferenceIdeal.Read.val_main_v0, entry, Ideal.logistic]

theorem idx : ∀ t : Fin cfg0.N, win0_0.index t = ![t.val / 32, 0] ∧ win0_1.index t = ![0, t.val % 4, 0, t.val / 4 % 8] ∧ win0_2.index t = ![0, t.val % 4, 0, t.val / 4 % 8] ∧ win0_3.index t = ![t.val % 4, t.val / 32, 0] ∧ win0_4.index t = ![0, t.val % 4, 0, t.val / 4 % 8] ∧ win0_5.index t = ![t.val / 32, t.val / 4 % 8] :=
  (by decide +kernel : ∀ t : Fin grid0.N, _)

/-- The arrays the host line prepares are the arguments: a rounding is the identity here, a reshape moves nothing. -/
theorem V_main_v0 (c : Dev nD) (i : S2x4x4096x4096.Idx) : V m c main_v0 i = (m ((c : Thread nD τ).loc main_arg2)) i := by
  entry_read
  rfl

theorem V_main_v1 (c : Dev nD) (i : S2x4x1024x4096.Idx) : V m c main_v1 i = (m ((c : Thread nD τ).loc main_arg4)) i := by
  entry_read
  rfl

theorem V_main_v2 (c : Dev nD) (s : Fin 4) (j : Fin 4096) : V m c main_v2 (ix4 0 s 0 j) = (m ((c : Thread nD τ).loc main_arg3)) (ix3 0 s j) := by
  entry_read
  pointwise [shapeCast]

/-- The input blocks of a point, read at an index. -/
theorem blk0 (c : Dev nD) (t : Fin cfg0.N) (i : Fin 1024) (k : Fin 4096) :
    iblk m c 0 t (ix2 i k) = (m ((c : Thread nD τ).loc main_arg0)) (ix2 ⟨t.val / 32 * 1024 + i.val, by have ht : t.val < 768 := t.isLt; omega⟩ k) := by
  blk_ext [iblk, V, idx t]

theorem blk1 (c : Dev nD) (t : Fin cfg0.N) (k : Fin 4096) (j : Fin 512) :
    iblk m c 1 t (ix4 0 0 k j) = (m ((c : Thread nD τ).loc main_arg2)) (ix4 0 ⟨t.val % 4, by omega⟩ k ⟨t.val / 4 % 8 * 512 + j.val, by omega⟩) := by
  unfold iblk
  refine (V_main_v0 m c _).trans ?_
  blk_ext [idx t]

theorem blk2 (c : Dev nD) (t : Fin cfg0.N) (j : Fin 512) :
    iblk m c 2 t (ix4 0 0 0 j) = (m ((c : Thread nD τ).loc main_arg3)) (ix3 0 ⟨t.val % 4, by omega⟩ ⟨t.val / 4 % 8 * 512 + j.val, by omega⟩) := by
  unfold iblk
  refine Eq.trans ?_ (V_main_v2 m c _ _)
  blk_ext [idx t]

theorem blk3 (c : Dev nD) (t : Fin cfg0.N) (i : Fin 1024) (k : Fin 1024) :
    iblk m c 3 t (ix3 0 i k) = (m ((c : Thread nD τ).loc main_arg1)) (ix3 ⟨t.val % 4, by omega⟩ ⟨t.val / 32 * 1024 + i.val, by have ht : t.val < 768 := t.isLt; omega⟩ k) := by
  blk_ext [iblk, V, idx t]

theorem blk4 (c : Dev nD) (t : Fin cfg0.N) (k : Fin 1024) (j : Fin 512) :
    iblk m c 4 t (ix4 0 0 k j) = (m ((c : Thread nD τ).loc main_arg4)) (ix4 0 ⟨t.val % 4, by omega⟩ k ⟨t.val / 4 % 8 * 512 + j.val, by omega⟩) := by
  unfold iblk
  refine (V_main_v1 m c _).trans ?_
  blk_ext [idx t]

/-- What a point adds to its block. -/
def term (c : Dev nD) (t : Fin cfg0.N) : S1024x512.Idx → EReal :=
  k0_pay1 (F := Ideal) (iblk m c 0 t) (iblk m c 1 t) (iblk m c 2 t) (iblk m c 3 t) (iblk m c 4 t)

theorem term_apply (c : Dev nD) (t : Fin cfg0.N) (i : Fin 1024) (j : Fin 512) : term m c t (ix2 i j)
    = entry (m ((c : Thread nD τ).loc main_arg0)) (m ((c : Thread nD τ).loc main_arg1)) (m ((c : Thread nD τ).loc main_arg2)) (m ((c : Thread nD τ).loc main_arg3)) (m ((c : Thread nD τ).loc main_arg4)) ⟨t.val / 32 * 1024 + i.val, by have ht : t.val < 768 := t.isLt; omega⟩ ⟨t.val / 4 % 8 * 512 + j.val, by omega⟩ ⟨t.val % 4, by omega⟩ := by
  pointwise [term, k0_pay1]
  simp only [blk0 m c t, blk1 m c t, blk2 m c t, blk3 m c t, blk4 m c t, entry]
  try rfl

theorem pay2 (v0 : FVec Ideal S1024x4096 .bf16) (v1 : FVec Ideal S1x1x4096x512 .bf16) (v4 : FVec Ideal S1x1x1x512 .f32) (v9 : FVec Ideal S1x1024x1024 .bf16) (v11 : FVec Ideal S1x1x1024x512 .bf16) (y : S1024x512.Idx) :
    k0_pay2 (F := Ideal) v0 v1 v4 v9 v11 y = k0_pay1 (F := Ideal) v0 v1 v4 v9 v11 y := by
  unfold k0_pay2
  rw [shapeCast_self]

theorem pay3 (v0 : FVec Ideal S1024x4096 .bf16) (v1 : FVec Ideal S1x1x4096x512 .bf16) (v4 : FVec Ideal S1x1x1x512 .f32) (v9 : FVec Ideal S1x1024x1024 .bf16) (v11 : FVec Ideal S1x1x1024x512 .bf16) (v24 : FVec Ideal S1024x512 .f32) (y : S1024x512.Idx) :
    k0_pay3 (F := Ideal) v0 v1 v4 v9 v11 v24 y = v24 y + k0_pay1 (F := Ideal) v0 v1 v4 v9 v11 y := by
  unfold k0_pay3
  rw [shapeCast_self]
  rfl

/-- The scratch block after the last point of a block is the sum of the four contributions. -/
theorem outs (c : Dev nD) (t : Fin cfg0.N) (hr : t.val % 4 = 4 - 1) (y : S1024x512.Idx) :
    (outsAt0 m c t.val t.isLt).2 y = ∑ s : Fin 4, term m c ⟨4 * (t.val / 4) + s.val, Pipeline.run_point_lt_of_flush t hr s⟩ y := by
  refine (Pipeline.eq_sum_fin_of_reset_step_apply_of_flush (M := EReal) (fun n h => (outsAt0 m c n h).2) 4 (fun _ => 0) (term m c)
    (fun t h y => ?_) (fun t h y => ?_) t hr y).trans (zero_add _)
  · show (outsAt0 m c t.val t.isLt).2 y = (0 : EReal) + _
    rw [outsAt0_A m c t h (by omega) (by omega)]
    frame_out
    rw [pay2, zero_add]
    rfl
  · show (outsAt0 m c t.val t.isLt).2 y = (outsAt0 m c (t.val - 1) _).2 y + _
    by_cases h3 : t.val % 4 = 3
    · rw [outsAt0_C m c t h (by omega) h3]
      frame_out
      rw [pay3, read_unread_whole]
      rfl
    · rw [outsAt0_B m c t h (by omega) h3]
      frame_out
      rw [pay3, read_unread_whole]
      rfl

/-- The block written back is the scratch block, rounded. -/
theorem written (c : Dev nD) (t : Fin cfg0.N) (h3 : t.val % 4 = 3) (y : S1024x512.Idx) :
    (outsAt0 m c t.val t.isLt).1 y = (outsAt0 m c t.val t.isLt).2 y := by
  rw [outsAt0_C m c t (by omega) (by omega) h3]
  frame_out
  rfl

theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have hr : t.val % 4 = 4 - 1 := (flush0_5 t).mp hf
  have ht : t.val < 768 := t.isLt
  idx_vars y
  have hemb : ((cfg0.win 5).blk t).view.emb (ix2 y0 y1) = ix2 ⟨t.val / 32 * 1024 + y0.val, by omega⟩ ⟨t.val / 4 % 8 * 512 + y1.val, by omega⟩ := by blk_ext [idx t]
  refine (written m c t hr _).trans ((outs m c t hr _).trans ?_)
  refine Eq.trans ?_ (congrArg (REF (m ((c : Thread nD τ).loc main_arg0)) (m ((c : Thread nD τ).loc main_arg1)) (m ((c : Thread nD τ).loc main_arg2)) (m ((c : Thread nD τ).loc main_arg3)) (m ((c : Thread nD τ).loc main_arg4))) hemb).symm
  rw [ref_apply]
  refine Fin.sum_fin_congr fun s => ?_
  rw [term_apply]
  have hs := s.isLt
  refine entry_congr _ _ _ _ _ ?_ ?_ ?_
  · show (4 * (t.val / 4) + s.val) / 32 * 1024 + y0.val = t.val / 32 * 1024 + y0.val
    omega
  · show (4 * (t.val / 4) + s.val) / 4 % 8 * 512 + y1.val = t.val / 4 % 8 * 512 + y1.val
    omega
  · show (4 * (t.val / 4) + s.val) % 4 = s.val
    omega

end Cert.MergeIdeal.ValueProof

end
-- ==== Proof.MergeClaim.lean ====
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import proofs.«01_k».proof.Proof.Gen.MergeReferenceIdeal.Run
public import proofs.«01_k».proof.Proof.MergeValue
public import Idealize.ShloMosaic.Lib.Claim
public import Idealize.ShloMosaic.Lib.Quiescent

@[expose] public section

set_option maxRecDepth 16384

noncomputable section

open Idealize.ShloMosaic Idealize.SL.Sem

namespace Cert.Proof.Merge

theorem frame_kernel : Cert.quiescent_Merge := fun m ρ _ => Cert.Merge.Gen.frame m ρ

theorem frame_ideal : Cert.quiescent_MergeIdeal := fun m ρ _ => Cert.MergeIdeal.Gen.frame m ρ

theorem frame_reference : Cert.quiescent_MergeReferenceIdeal := fun m g _ =>
  (θ_run _ _ _).mono (fun r h => ⟨fun c => (h c).2, sem_eq_zero_of_no_sems (by decide) r.2⟩) (Cert.MergeReferenceIdeal.Value.run m g)

set_option maxHeartbeats 1600000 in
theorem algebraic : Cert.algebraic_MergeIdeal_MergeReferenceIdeal := by
  pair_intro
  · run_from Cert.MergeIdeal.Gen.run_main m g
  · run_from Cert.MergeReferenceIdeal.Value.run m' g'
    refine (Cert.MergeReferenceIdeal.Read.val_main_v90_eq m' c).trans ?_
    rw [((hagree c).1), ((hagree c).2.1), ((hagree c).2.2.1), ((hagree c).2.2.2.1), ((hagree c).2.2.2.2)]
    exact (Cert.MergeIdeal.ValueProof.final m c).symm

end Cert.Proof.Merge
-- ==== Proof.MoeUpValue.lean ====
module

public import proofs.«01_k».proof.Proof.Gen.MoeUpIdeal.Value
public import proofs.«01_k».proof.Proof.Gen.MoeUpReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MoeUpIdeal.ValueProof

open Cert.MoeUpIdeal Cert.MoeUpIdeal.Gen

variable (m : (ℓ : Loc nD τ sig) → Buf (Elt Ideal) ℓ)

/-- The reference's term over the kernel's argument arrays. -/
abbrev REF (x0 : FVec Ideal S24576x4096 .bf16) (x1 x2 : FVec Ideal S1x8x4096x1792 .f32) (x3 : FVec Ideal S24576x128 .f32) : FVec Ideal S24576x14336 .bf16 :=
  Cert.MoeUpReferenceIdeal.Read.val_main_v90 (F := Ideal) x0 x1 x2 x3

/-- One entry of expert `e`: the gated product of its two projections, scaled by the token's gate. -/
def entry (x0 : FVec Ideal S24576x4096 .bf16) (x1 x2 : FVec Ideal S1x8x4096x1792 .f32) (x3 : FVec Ideal S24576x128 .f32)
    (r : Fin 24576) (e : Fin 8) (f : Fin 1792) : EReal :=
  (∑ k : Fin 4096, x0 (ix2 r k) * x1 (ix4 0 e k f)) * Ideal.logistic (∑ k : Fin 4096, x0 (ix2 r k) * x1 (ix4 0 e k f))
    * (∑ k : Fin 4096, x0 (ix2 r k) * x2 (ix4 0 e k f)) * x3 (ix2 r ⟨e.val, by omega⟩)

theorem entry_congr (x0 : FVec Ideal S24576x4096 .bf16) (x1 x2 : FVec Ideal S1x8x4096x1792 .f32) (x3 : FVec Ideal S24576x128 .f32)
    (r : Fin 24576) {e e' : Fin 8} {f f' : Fin 1792} (he : e.val = e'.val) (hf : f.val = f'.val) :
    entry x0 x1 x2 x3 r e f = entry x0 x1 x2 x3 r e' f' := by
  rw [Fin.ext he, Fin.ext hf]

theorem ref_apply (x0 : FVec Ideal S24576x4096 .bf16) (x1 x2 : FVec Ideal S1x8x4096x1792 .f32) (x3 : FVec Ideal S24576x128 .f32)
    (r : Fin 24576) (c : Fin 14336) : REF x0 x1 x2 x3 (ix2 r c) = entry x0 x1 x2 x3 r ⟨c.val / 1792, by omega⟩ ⟨c.val % 1792, by omega⟩ := by
  pointwise [REF, Cert.MoeUpReferenceIdeal.Read.val_main_v90, Cert.MoeUpReferenceIdeal.Read.val_main_v89, Cert.MoeUpReferenceIdeal.Read.val_main_v88, Cert.MoeUpReferenceIdeal.Read.val_main_v87, Cert.MoeUpReferenceIdeal.Read.val_main_v86, Cert.MoeUpReferenceIdeal.Read.val_main_v85, Cert.MoeUpReferenceIdeal.Read.val_main_v84, Cert.MoeUpReferenceIdeal.Read.val_main_v83, Cert.MoeUpReferenceIdeal.Read.val_main_call7_v5, Cert.MoeUpReferenceIdeal.Read.val_main_call7_v4, Cert.MoeUpReferenceIdeal.Read.val_main_call7_cst_0, Cert.MoeUpReferenceIdeal.Read.val_main_call7_v3, Cert.MoeUpReferenceIdeal.Read.val_main_call7_v2, Cert.MoeUpReferenceIdeal.Read.val_main_call7_cst, Cert.MoeUpReferenceIdeal.Read.val_main_call7_v1, Cert.MoeUpReferenceIdeal.Read.val_main_call7_v0, Cert.MoeUpReferenceIdeal.Read.val_main_v82, Cert.MoeUpReferenceIdeal.Read.val_main_v81, Cert.MoeUpReferenceIdeal.Read.val_main_v80, Cert.MoeUpReferenceIdeal.Read.val_main_v79, Cert.MoeUpReferenceIdeal.Read.val_main_v78, Cert.MoeUpReferenceIdeal.Read.val_main_v77, Cert.MoeUpReferenceIdeal.Read.val_main_v76, Cert.MoeUpReferenceIdeal.Read.val_main_v75, Cert.MoeUpReferenceIdeal.Read.val_main_v74, Cert.MoeUpReferenceIdeal.Read.val_main_v73, Cert.MoeUpReferenceIdeal.Read.val_main_v72, Cert.MoeUpReferenceIdeal.Read.val_main_call6_v5, Cert.MoeUpReferenceIdeal.Read.val_main_call6_v4, Cert.MoeUpReferenceIdeal.Read.val_main_call6_cst_0, Cert.MoeUpReferenceIdeal.Read.val_main_call6_v3, Cert.MoeUpReferenceIdeal.Read.val_main_call6_v2, Cert.MoeUpReferenceIdeal.Read.val_main_call6_cst, Cert.MoeUpReferenceIdeal.Read.val_main_call6_v1, Cert.MoeUpReferenceIdeal.Read.val_main_call6_v0, Cert.MoeUpReferenceIdeal.Read.val_main_v71, Cert.MoeUpReferenceIdeal.Read.val_main_v70, Cert.MoeUpReferenceIdeal.Read.val_main_v69, Cert.MoeUpReferenceIdeal.Read.val_main_v68, Cert.MoeUpReferenceIdeal.Read.val_main_v67, Cert.MoeUpReferenceIdeal.Read.val_main_v66, Cert.MoeUpReferenceIdeal.Read.val_main_v65, Cert.MoeUpReferenceIdeal.Read.val_main_v64, Cert.MoeUpReferenceIdeal.Read.val_main_v63, Cert.MoeUpReferenceIdeal.Read.val_main_v62, Cert.MoeUpReferenceIdeal.Read.val_main_v61, Cert.MoeUpReferenceIdeal.Read.val_main_call5_v5, Cert.MoeUpReferenceIdeal.Read.val_main_call5_v4, Cert.MoeUpReferenceIdeal.Read.val_main_call5_cst_0, Cert.MoeUpReferenceIdeal.Read.val_main_call5_v3, Cert.MoeUpReferenceIdeal.Read.val_main_call5_v2, Cert.MoeUpReferenceIdeal.Read.val_main_call5_cst, Cert.MoeUpReferenceIdeal.Read.val_main_call5_v1, Cert.MoeUpReferenceIdeal.Read.val_main_call5_v0, Cert.MoeUpReferenceIdeal.Read.val_main_v60, Cert.MoeUpReferenceIdeal.Read.val_main_v59, Cert.MoeUpReferenceIdeal.Read.val_main_v58, Cert.MoeUpReferenceIdeal.Read.val_main_v57, Cert.MoeUpReferenceIdeal.Read.val_main_v56, Cert.MoeUpReferenceIdeal.Read.val_main_v55, Cert.MoeUpReferenceIdeal.Read.val_main_v54, Cert.MoeUpReferenceIdeal.Read.val_main_v53, Cert.MoeUpReferenceIdeal.Read.val_main_v52, Cert.MoeUpReferenceIdeal.Read.val_main_v51, Cert.MoeUpReferenceIdeal.Read.val_main_v50, Cert.MoeUpReferenceIdeal.Read.val_main_call4_v5, Cert.MoeUpReferenceIdeal.Read.val_main_call4_v4, Cert.MoeUpReferenceIdeal.Read.val_main_call4_cst_0, Cert.MoeUpReferenceIdeal.Read.val_main_call4_v3, Cert.MoeUpReferenceIdeal.Read.val_main_call4_v2, Cert.MoeUpReferenceIdeal.Read.val_main_call4_cst, Cert.MoeUpReferenceIdeal.Read.val_main_call4_v1, Cert.MoeUpReferenceIdeal.Read.val_main_call4_v0, Cert.MoeUpReferenceIdeal.Read.val_main_v49, Cert.MoeUpReferenceIdeal.Read.val_main_v48, Cert.MoeUpReferenceIdeal.Read.val_main_v47, Cert.MoeUpReferenceIdeal.Read.val_main_v46, Cert.MoeUpReferenceIdeal.Read.val_main_v45, Cert.MoeUpReferenceIdeal.Read.val_main_v44, Cert.MoeUpReferenceIdeal.Read.val_main_v43, Cert.MoeUpReferenceIdeal.Read.val_main_v42, Cert.MoeUpReferenceIdeal.Read.val_main_v41, Cert.MoeUpReferenceIdeal.Read.val_main_v40, Cert.MoeUpReferenceIdeal.Read.val_main_v39, Cert.MoeUpReferenceIdeal.Read.val_main_call3_v5, Cert.MoeUpReferenceIdeal.Read.val_main_call3_v4, Cert.MoeUpReferenceIdeal.Read.val_main_call3_cst_0, Cert.MoeUpReferenceIdeal.Read.val_main_call3_v3, Cert.MoeUpReferenceIdeal.Read.val_main_call3_v2, Cert.MoeUpReferenceIdeal.Read.val_main_call3_cst, Cert.MoeUpReferenceIdeal.Read.val_main_call3_v1, Cert.MoeUpReferenceIdeal.Read.val_main_call3_v0, Cert.MoeUpReferenceIdeal.Read.val_main_v38, Cert.MoeUpReferenceIdeal.Read.val_main_v37, Cert.MoeUpReferenceIdeal.Read.val_main_v36, Cert.MoeUpReferenceIdeal.Read.val_main_v35, Cert.MoeUpReferenceIdeal.Read.val_main_v34, Cert.MoeUpReferenceIdeal.Read.val_main_v33, Cert.MoeUpReferenceIdeal.Read.val_main_v32, Cert.MoeUpReferenceIdeal.Read.val_main_v31, Cert.MoeUpReferenceIdeal.Read.val_main_v30, Cert.MoeUpReferenceIdeal.Read.val_main_v29, Cert.MoeUpReferenceIdeal.Read.val_main_v28, Cert.MoeUpReferenceIdeal.Read.val_main_call2_v5, Cert.MoeUpReferenceIdeal.Read.val_main_call2_v4, Cert.MoeUpReferenceIdeal.Read.val_main_call2_cst_0, Cert.MoeUpReferenceIdeal.Read.val_main_call2_v3, Cert.MoeUpReferenceIdeal.Read.val_main_call2_v2, Cert.MoeUpReferenceIdeal.Read.val_main_call2_cst, Cert.MoeUpReferenceIdeal.Read.val_main_call2_v1, Cert.MoeUpReferenceIdeal.Read.val_main_call2_v0, Cert.MoeUpReferenceIdeal.Read.val_main_v27, Cert.MoeUpReferenceIdeal.Read.val_main_v26, Cert.MoeUpReferenceIdeal.Read.val_main_v25, Cert.MoeUpReferenceIdeal.Read.val_main_v24, Cert.MoeUpReferenceIdeal.Read.val_main_v23, Cert.MoeUpReferenceIdeal.Read.val_main_v22, Cert.MoeUpReferenceIdeal.Read.val_main_v21, Cert.MoeUpReferenceIdeal.Read.val_main_v20, Cert.MoeUpReferenceIdeal.Read.val_main_v19, Cert.MoeUpReferenceIdeal.Read.val_main_v18, Cert.MoeUpReferenceIdeal.Read.val_main_v17, Cert.MoeUpReferenceIdeal.Read.val_main_call1_v5, Cert.MoeUpReferenceIdeal.Read.val_main_call1_v4, Cert.MoeUpReferenceIdeal.Read.val_main_call1_cst_0, Cert.MoeUpReferenceIdeal.Read.val_main_call1_v3, Cert.MoeUpReferenceIdeal.Read.val_main_call1_v2, Cert.MoeUpReferenceIdeal.Read.val_main_call1_cst, Cert.MoeUpReferenceIdeal.Read.val_main_call1_v1, Cert.MoeUpReferenceIdeal.Read.val_main_call1_v0, Cert.MoeUpReferenceIdeal.Read.val_main_v16, Cert.MoeUpReferenceIdeal.Read.val_main_v15, Cert.MoeUpReferenceIdeal.Read.val_main_v14, Cert.MoeUpReferenceIdeal.Read.val_main_v13, Cert.MoeUpReferenceIdeal.Read.val_main_v12, Cert.MoeUpReferenceIdeal.Read.val_main_v11, Cert.MoeUpReferenceIdeal.Read.val_main_v10, Cert.MoeUpReferenceIdeal.Read.val_main_v9, Cert.MoeUpReferenceIdeal.Read.val_main_v8, Cert.MoeUpReferenceIdeal.Read.val_main_v7, Cert.MoeUpReferenceIdeal.Read.val_main_v6, Cert.MoeUpReferenceIdeal.Read.val_main_call0_v5, Cert.MoeUpReferenceIdeal.Read.val_main_call0_v4, Cert.MoeUpReferenceIdeal.Read.val_main_call0_cst_0, Cert.MoeUpReferenceIdeal.Read.val_main_call0_v3, Cert.MoeUpReferenceIdeal.Read.val_main_call0_v2, Cert.MoeUpReferenceIdeal.Read.val_main_call0_cst, Cert.MoeUpReferenceIdeal.Read.val_main_call0_v1, Cert.MoeUpReferenceIdeal.Read.val_main_call0_v0, Cert.MoeUpReferenceIdeal.Read.val_main_v5, Cert.MoeUpReferenceIdeal.Read.val_main_v4, Cert.MoeUpReferenceIdeal.Read.val_main_v3, Cert.MoeUpReferenceIdeal.Read.val_main_v2, Cert.MoeUpReferenceIdeal.Read.val_main_v1, Cert.MoeUpReferenceIdeal.Read.val_main_v0]
  have hc := c.isLt
  by_cases h0 : c.val < 1792
  · rw [dif_pos h0]
    exact (entry_congr x0 x1 x2 x3 r (e' := 0) (f' := ⟨c.val, by omega⟩) (by show c.val / 1792 = 0; omega) (by show c.val % 1792 = c.val; omega)).symm
  rw [dif_neg h0]
  by_cases h1 : c.val - 1792 < 1792
  · rw [dif_pos h1]
    exact (entry_congr x0 x1 x2 x3 r (e' := 1) (f' := ⟨c.val - 1792, by omega⟩) (by show c.val / 1792 = 1; omega) (by show c.val % 1792 = c.val - 1792; omega)).symm
  rw [dif_neg h1]
  by_cases h2 : c.val - 1792 - 1792 < 1792
  · rw [dif_pos h2]
    exact (entry_congr x0 x1 x2 x3 r (e' := 2) (f' := ⟨c.val - 1792 - 1792, by omega⟩) (by show c.val / 1792 = 2; omega) (by show c.val % 1792 = c.val - 1792 - 1792; omega)).symm
  rw [dif_neg h2]
  by_cases h3 : c.val - 1792 - 1792 - 1792 < 1792
  · rw [dif_pos h3]
    exact (entry_congr x0 x1 x2 x3 r (e' := 3) (f' := ⟨c.val - 1792 - 1792 - 1792, by omega⟩) (by show c.val / 1792 = 3; omega) (by show c.val % 1792 = c.val - 1792 - 1792 - 1792; omega)).symm
  rw [dif_neg h3]
  by_cases h4 : c.val - 1792 - 1792 - 1792 - 1792 < 1792
  · rw [dif_pos h4]
    exact (entry_congr x0 x1 x2 x3 r (e' := 4) (f' := ⟨c.val - 1792 - 1792 - 1792 - 1792, by omega⟩) (by show c.val / 1792 = 4; omega) (by show c.val % 1792 = c.val - 1792 - 1792 - 1792 - 1792; omega)).symm
  rw [dif_neg h4]
  by_cases h5 : c.val - 1792 - 1792 - 1792 - 1792 - 1792 < 1792
  · rw [dif_pos h5]
    exact (entry_congr x0 x1 x2 x3 r (e' := 5) (f' := ⟨c.val - 1792 - 1792 - 1792 - 1792 - 1792, by omega⟩) (by show c.val / 1792 = 5; omega) (by show c.val % 1792 = c.val - 1792 - 1792 - 1792 - 1792 - 1792; omega)).symm
  rw [dif_neg h5]
  by_cases h6 : c.val - 1792 - 1792 - 1792 - 1792 - 1792 - 1792 < 1792
  · rw [dif_pos h6]
    exact (entry_congr x0 x1 x2 x3 r (e' := 6) (f' := ⟨c.val - 1792 - 1792 - 1792 - 1792 - 1792 - 1792, by omega⟩) (by show c.val / 1792 = 6; omega) (by show c.val % 1792 = c.val - 1792 - 1792 - 1792 - 1792 - 1792 - 1792; omega)).symm
  rw [dif_neg h6]
  exact (entry_congr x0 x1 x2 x3 r (e' := 7) (f' := ⟨c.val - 1792 - 1792 - 1792 - 1792 - 1792 - 1792 - 1792, by omega⟩) (by show c.val / 1792 = 7; omega) (by show c.val % 1792 = c.val - 1792 - 1792 - 1792 - 1792 - 1792 - 1792 - 1792; omega)).symm

theorem idx : ∀ t : Fin cfg0.N, win0_0.index t = ![t.val / 56, 0] ∧ win0_1.index t = ![0, t.val % 56 / 7, 0, t.val % 56 % 7] ∧ win0_2.index t = ![0, t.val % 56 / 7, 0, t.val % 56 % 7] ∧ win0_3.index t = ![t.val / 56, 0] ∧ win0_4.index t = ![t.val / 56, t.val % 56] :=
  (by decide +kernel : ∀ t : Fin grid0.N, _)

theorem toInt_small (n : ℕ) (h : n < 128) : (BitVec.ofNat 32 n).toInt = n := by
  rw [BitVec.toInt_eq_toNat_of_lt (by rw [BitVec.toNat_ofNat]; omega), BitVec.toNat_ofNat]
  omega

/-- The number of the expert of a point, as the kernel computes it. -/
theorem expert_bits : ∀ t : Fin cfg0.N, (Scalar.select
                  (Scalar.andi
                    (Scalar.cmpi CmpIPredicate.ne
                      (Scalar.subi
                        (Scalar.extui (Scalar.cmpi CmpIPredicate.sgt (BitVec.ofNat 32 ↑(grid0.coords t 1)) 0#32))
                        (Scalar.extui (Scalar.cmpi CmpIPredicate.slt (BitVec.ofNat 32 ↑(grid0.coords t 1)) 0#32)))
                      (Scalar.subi (Scalar.extui (Scalar.cmpi CmpIPredicate.sgt 7#32 0#32))
                        (Scalar.extui (Scalar.cmpi CmpIPredicate.slt 7#32 0#32))))
                    (Scalar.cmpi CmpIPredicate.ne (Scalar.remsi (BitVec.ofNat 32 ↑(grid0.coords t 1)) 7#32) 0#32))
                  (Scalar.subi (Scalar.divsi (BitVec.ofNat 32 ↑(grid0.coords t 1)) 7#32) 1#32)
                  (Scalar.divsi (BitVec.ofNat 32 ↑(grid0.coords t 1)) 7#32) : BitVec 32) = BitVec.ofNat 32 (t.val % 56 / 7) :=
  (by decide +kernel : ∀ t : Fin grid0.N, _)

/-- The kernel keeps of a token's gates the one of the point's expert. -/
theorem expert (t : Fin cfg0.N) : k0_pay3 (F := Ideal) (grid0.coords t) = fun v y => if (y 1).val = t.val % 56 / 7 then v y else 0 := by
  funext v y
  idx_vars y
  pointwise [k0_pay3]
  rw [expert_bits t]
  have ht : t.val % 56 / 7 < 8 := by omega
  have hy := y1.isLt
  refine if_congr ?_ rfl rfl
  show ((((BitVec.ofNat 32 y1.val).toInt : ℤ) : ℝ) : EReal) = ((((BitVec.ofNat 32 (t.val % 56 / 7)).toInt : ℤ) : ℝ) : EReal) ↔ _
  rw [EReal.coe_eq_coe_iff, Int.cast_inj, toInt_small _ (by omega), toInt_small _ (by omega)]
  exact Int.ofNat_inj

theorem V_main_v0 (c : Dev nD) (i : S1x8x4096x1792.Idx) : V m c main_v0 i = (m ((c : Thread nD τ).loc main_arg1)) i := by
  entry_read
  rfl

theorem V_main_v1 (c : Dev nD) (i : S1x8x4096x1792.Idx) : V m c main_v1 i = (m ((c : Thread nD τ).loc main_arg2)) i := by
  entry_read
  rfl

/-- The weight blocks of a point, read at an index. -/
theorem wblk1 (c : Dev nD) (t : Fin cfg0.N) (k : Fin 4096) (j : Fin 256) :
    iblk m c 1 t (ix4 0 0 k j) = (m ((c : Thread nD τ).loc main_arg1)) (ix4 0 ⟨t.val % 56 / 7, by omega⟩ k ⟨t.val % 56 % 7 * 256 + j.val, by omega⟩) := by
  unfold iblk
  refine (V_main_v0 m c _).trans ?_
  blk_ext [idx t]

theorem wblk2 (c : Dev nD) (t : Fin cfg0.N) (k : Fin 4096) (j : Fin 256) :
    iblk m c 2 t (ix4 0 0 k j) = (m ((c : Thread nD τ).loc main_arg2)) (ix4 0 ⟨t.val % 56 / 7, by omega⟩ k ⟨t.val % 56 % 7 * 256 + j.val, by omega⟩) := by
  unfold iblk
  refine (V_main_v1 m c _).trans ?_
  blk_ext [idx t]

theorem sum_pick (f : Fin 128 → EReal) (e : Fin 128) : (∑ x : Fin 128, if x.val = e.val then f x else (0 : EReal)) = f e := by
  rw [Finset.sum_eq_single e]
  · exact if_pos rfl
  · intro b _ hb
    exact if_neg fun h => hb (Fin.ext h)
  · exact fun h => absurd (Finset.mem_univ _) h

set_option maxHeartbeats 2000000 in
/-- What a point stores is the reference's term at the index its block puts it. -/
theorem point (c : Dev nD) (t : Fin cfg0.N) (y) : k0_pay1 (k0_pay2 (iblk m c 0 t) (iblk m c 1 t) (iblk m c 2 t)) (k0_pay3 (grid0.coords t) (iblk m c 3 t)) y
    = REF (m ((c : Thread nD τ).loc main_arg0)) (m ((c : Thread nD τ).loc main_arg1)) (m ((c : Thread nD τ).loc main_arg2)) (m ((c : Thread nD τ).loc main_arg3)) (((cfg0.win 4).blk t).view.emb y) := by
  idx_vars y
  have ht : t.val < 1344 := t.isLt
  have hemb : ((cfg0.win 4).blk t).view.emb (ix2 y0 y1) = ix2 ⟨t.val / 56 * 1024 + y0.val, by omega⟩ ⟨t.val % 56 * 256 + y1.val, by omega⟩ := by blk_ext [idx t]
  rw [expert, hemb]
  pointwise [k0_pay1, k0_pay2]
  rw [ref_apply]
  have he : entry (m ((c : Thread nD τ).loc main_arg0)) (m ((c : Thread nD τ).loc main_arg1)) (m ((c : Thread nD τ).loc main_arg2)) (m ((c : Thread nD τ).loc main_arg3)) ⟨t.val / 56 * 1024 + y0.val, by omega⟩
        ⟨(t.val % 56 * 256 + y1.val) / 1792, by omega⟩ ⟨(t.val % 56 * 256 + y1.val) % 1792, by omega⟩
      = entry (m ((c : Thread nD τ).loc main_arg0)) (m ((c : Thread nD τ).loc main_arg1)) (m ((c : Thread nD τ).loc main_arg2)) (m ((c : Thread nD τ).loc main_arg3)) ⟨t.val / 56 * 1024 + y0.val, by omega⟩
        ⟨t.val % 56 / 7, by omega⟩ ⟨t.val % 56 % 7 * 256 + y1.val, by omega⟩ :=
    entry_congr _ _ _ _ _ (by show _ / _ = _ / _; omega) (by show _ % _ = _ + _; omega)
  refine Eq.trans ?_ he.symm
  refine Eq.trans (congrArg (_ * ·) (sum_pick (fun x => iblk m c 3 t (ix2 y0 x)) ⟨t.val % 56 / 7, by omega⟩)) ?_
  simp only [wblk1 m c t, wblk2 m c t, entry]
  blk_point [iblk, V, idx t]

theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.MoeUpIdeal.ValueProof

end
-- ==== Proof.MoeUpClaim.lean ====
module

public import proofs.«01_k».proof.Defs
public import proofs.«01_k».proof.Proof.Gen.MoeUp
public import proofs.«01_k».proof.Proof.Gen.MoeUp.Frame
public import proofs.«01_k».proof.Proof.Gen.MoeUpIdeal
public import proofs.«01_k».proof.Proof.Gen.MoeUpIdeal.Frame
public import proofs.«01_k».proof.Proof.Gen.MoeUpReferenceIdeal
public import proofs.«01_k».proof.Proof.Gen.MoeUpReferenceIdeal.Run
public import proofs.«01_k».proof.Proof.MoeUpValue
public import Idealize.ShloMosaic.Lib.Claim
public import Idealize.ShloMosaic.Lib.Quiescent

@[expose] public section

set_option maxRecDepth 16384

noncomputable section

open Idealize.ShloMosaic Idealize.SL.Sem

namespace Cert.Proof.MoeUp

theorem frame_kernel : Cert.quiescent_MoeUp := fun m ρ _ => Cert.MoeUp.Gen.frame m ρ

theorem frame_ideal : Cert.quiescent_MoeUpIdeal := fun m ρ _ => Cert.MoeUpIdeal.Gen.frame m ρ

theorem frame_reference : Cert.quiescent_MoeUpReferenceIdeal := fun m g _ =>
  (θ_run _ _ _).mono (fun r h => ⟨fun c => (h c).2, sem_eq_zero_of_no_sems (by decide) r.2⟩) (Cert.MoeUpReferenceIdeal.Value.run m g)

set_option maxHeartbeats 1600000 in
theorem algebraic : Cert.algebraic_MoeUpIdeal_MoeUpReferenceIdeal := by
  pair_intro
  · run_from Cert.MoeUpIdeal.Gen.run_main m g
  · run_from Cert.MoeUpReferenceIdeal.Value.run m' g'
    refine (Cert.MoeUpReferenceIdeal.Read.val_main_v90_eq m' c).trans ?_
    rw [((hagree c).1), ((hagree c).2.1), ((hagree c).2.2.1), ((hagree c).2.2.2)]
    exact (Cert.MoeUpIdeal.ValueProof.final m c).symm

end Cert.Proof.MoeUp
-- ==== Proof.FfnUpValue.lean ====
module

public import proofs.«01_k».proof.Proof.Gen.FfnUpIdeal.Value
public import proofs.«01_k».proof.Proof.Gen.FfnUpReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpIdeal.ValueProof

open Cert.FfnUpIdeal Cert.FfnUpIdeal.Gen

variable (m : (ℓ : Loc nD τ sig) → Buf (Elt Ideal) ℓ)

/-- The reference's term over the kernel's argument arrays. -/
abbrev REF (x0 : FVec Ideal S24576x4096 .bf16) (x1 x2 : FVec Ideal S1x4096x11008 .f32) : FVec Ideal S24576x11264 .bf16 :=
  Cert.FfnUpReferenceIdeal.Read.val_main_v8 (F := Ideal) x0 x1 x2

theorem idx : ∀ t : Fin cfg0.N, win0_0.index t = ![t.val / 22, 0] ∧ win0_1.index t = ![0, 0, t.val % 22] ∧ win0_2.index t = ![0, 0, t.val % 22] ∧ win0_3.index t = ![t.val / 22, t.val % 22] :=
  (by decide +kernel : ∀ t : Fin grid0.N, _)

theorem int_zero : (FloatOps.sitofp .f32 (0#32) : Ideal .f32) = (0 : EReal) := by
  show ((((0#32 : BitVec 32).toInt : ℤ) : ℝ) : EReal) = 0
  simp

/-- A weight array with its columns continued by zeros. -/
def padded (x : FVec Ideal S1x4096x11008 .f32) (k : Fin 4096) (j : Fin 11264) : EReal :=
  if h : j.val < 11008 then x (ix3 0 k ⟨j.val, h⟩) else 0

theorem pad_col (x : FVec Ideal S1x4096x11008 .f32) (k : Fin 4096) (j : Fin 11264) :
    (pad S1x4096x11264 ![0, 0, 0] ![0, 0, 256] ![0, 0, 0] x (sitofp (F := Ideal) .f32 (constantI S_ 32 0#32)) pads_S1x4096x11008_S1x4096x11264_000_000_02560 h_S_ : FVec Ideal S1x4096x11264 .f32) (ix3 0 k j) = padded x k j := by
  pointwise [padded, int_zero]

theorem V_main_v1 (c : Dev nD) (k : Fin 4096) (j : Fin 11264) : V m c main_v1 (ix3 0 k j) = padded (m ((c : Thread nD τ).loc main_arg1)) k j := by
  simp only [V, hostOps0, hostOps0_1, hostOps0_2, hostOps0_3, hostOps0_4, List.flatten_cons, List.flatten_nil, List.append_nil, List.cons_append, List.nil_append]
  entry_read
  exact pad_col _ k j

theorem V_main_v3 (c : Dev nD) (k : Fin 4096) (j : Fin 11264) : V m c main_v3 (ix3 0 k j) = padded (m ((c : Thread nD τ).loc main_arg2)) k j := by
  simp only [V, hostOps0, hostOps0_1, hostOps0_2, hostOps0_3, hostOps0_4, List.flatten_cons, List.flatten_nil, List.append_nil, List.cons_append, List.nil_append]
  entry_read
  exact pad_col _ k j

/-- The weight blocks of a point, read at an index. -/
theorem wblk1 (c : Dev nD) (t : Fin cfg0.N) (k : Fin 4096) (j : Fin 512) :
    iblk m c 1 t (ix3 0 k j) = padded (m ((c : Thread nD τ).loc main_arg1)) k ⟨t.val % 22 * 512 + j.val, by omega⟩ := by
  unfold iblk
  refine Eq.trans ?_ (V_main_v1 m c _ _)
  blk_ext [idx t]

theorem wblk2 (c : Dev nD) (t : Fin cfg0.N) (k : Fin 4096) (j : Fin 512) :
    iblk m c 2 t (ix3 0 k j) = padded (m ((c : Thread nD τ).loc main_arg2)) k ⟨t.val % 22 * 512 + j.val, by omega⟩ := by
  unfold iblk
  refine Eq.trans ?_ (V_main_v3 m c _ _)
  blk_ext [idx t]

/-- What a point stores is the reference's term at the index its block puts it. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  idx_vars y
  pointwise [k0_pay1, REF, Cert.FfnUpReferenceIdeal.Read.val_main_v8, Cert.FfnUpReferenceIdeal.Read.val_main_v7, Cert.FfnUpReferenceIdeal.Read.val_main_call1_v0, Cert.FfnUpReferenceIdeal.Read.val_main_c, Cert.FfnUpReferenceIdeal.Read.val_main_v6, Cert.FfnUpReferenceIdeal.Read.val_main_v5, Cert.FfnUpReferenceIdeal.Read.val_main_v4, Cert.FfnUpReferenceIdeal.Read.val_main_v3, Cert.FfnUpReferenceIdeal.Read.val_main_call0_v5, Cert.FfnUpReferenceIdeal.Read.val_main_call0_v4, Cert.FfnUpReferenceIdeal.Read.val_main_call0_cst_0, Cert.FfnUpReferenceIdeal.Read.val_main_call0_v3, Cert.FfnUpReferenceIdeal.Read.val_main_call0_v2, Cert.FfnUpReferenceIdeal.Read.val_main_call0_cst, Cert.FfnUpReferenceIdeal.Read.val_main_call0_v1, Cert.FfnUpReferenceIdeal.Read.val_main_call0_v0, Cert.FfnUpReferenceIdeal.Read.val_main_v2, Cert.FfnUpReferenceIdeal.Read.val_main_v1, Cert.FfnUpReferenceIdeal.Read.val_main_v0]
  simp only [wblk1 m c t, wblk2 m c t]
  have hc : (((cfg0.win 3).blk t).view.emb (ix2 y0 y1) 1).val = t.val % 22 * 512 + y1.val := by blk_simp [idx t]
  by_cases h : t.val % 22 * 512 + y1.val < 11008
  · simp only [padded, dif_pos h, hc, Ideal.logistic]
    blk_point [iblk, V, idx t]
  · simp only [padded, dif_neg h, hc]
    simp [mul_zero, int_zero]

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.FfnUpIdeal.ValueProof

end
-- ==== Proof.FfnUpClaim.lean ====
module

public import proofs.«01_k».proof.Defs
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpReferenceIdeal
public import proofs.«01_k».proof.Proof.Gen.FfnUpReferenceIdeal.Run
public import proofs.«01_k».proof.Proof.FfnUpValue
public import Idealize.ShloMosaic.Lib.Claim
public import Idealize.ShloMosaic.Lib.Quiescent

@[expose] public section

set_option maxRecDepth 16384

noncomputable section

open Idealize.ShloMosaic Idealize.SL.Sem

namespace Cert.Proof.FfnUp

theorem frame_kernel : Cert.quiescent_FfnUp := fun m ρ _ => Cert.FfnUp.Gen.frame m ρ

theorem frame_ideal : Cert.quiescent_FfnUpIdeal := fun m ρ _ => Cert.FfnUpIdeal.Gen.frame m ρ

theorem frame_reference : Cert.quiescent_FfnUpReferenceIdeal := fun m g _ =>
  (θ_run _ _ _).mono (fun r h => ⟨fun c => (h c).2, sem_eq_zero_of_no_sems (by decide) r.2⟩) (Cert.FfnUpReferenceIdeal.Value.run m g)

set_option maxHeartbeats 1600000 in
theorem algebraic : Cert.algebraic_FfnUpIdeal_FfnUpReferenceIdeal := by
  pair_intro
  · run_from Cert.FfnUpIdeal.Gen.run_main m g
    · exact Cert.FfnUpIdeal.Gen.V_main_arg1 m c
    · exact Cert.FfnUpIdeal.Gen.V_main_arg2 m c
  · run_from Cert.FfnUpReferenceIdeal.Value.run m' g'
    exact (Cert.FfnUpIdeal.ValueProof.final m c).symm

end Cert.Proof.FfnUp
-- ==== Proof.InProjValue.lean ====
module

public import proofs.«01_k».proof.Proof.Gen.InProjIdeal.Value
public import proofs.«01_k».proof.Proof.Gen.InProjReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.ValueProof

open Cert.InProjIdeal Cert.InProjIdeal.Gen

variable (m : (ℓ : Loc nD τ sig) → Buf (Elt Ideal) ℓ)

/-- The reference's term over the kernel's argument arrays. -/
abbrev REF (x0 : FVec Ideal S24576x4096 .bf16) (x1 : FVec Ideal S2x4096x9248 .f32) : FVec Ideal S24576x9216 .bf16 :=
  Cert.InProjReferenceIdeal.Read.val_main_v5 (F := Ideal) x0 x1

theorem idx : ∀ t : Fin cfg0.N, win0_0.index t = ![t.val / 9, 0] ∧ win0_1.index t = ![0, 0, t.val % 9] ∧ win0_2.index t = ![t.val / 9, t.val % 9] :=
  (by decide +kernel : ∀ t : Fin grid0.N, _)

/-- The weights the region reads are the argument's: rounding to bf16 is the identity here. -/
theorem V_main_v0 (c : Dev nD) (i : S2x4096x9248.Idx) : V m c main_v0 i = m ((c : Thread nD τ).loc main_arg1) i := by
  entry_read
  rfl

/-- The weight block of a point, read at an index. -/
theorem wblk (c : Dev nD) (t : Fin cfg0.N) (k : Fin 4096) (j : Fin 1024) :
    X0_1 m c t (ix3 0 k j) = m ((c : Thread nD τ).loc main_arg1) (ix3 0 k ⟨t.val % 9 * 1024 + j.val, by omega⟩) := by
  unfold X0_1 Pipeline.Window.fill
  rw [dif_pos (moved0_1 t _)]
  unfold iblk
  refine (V_main_v0 m c _).trans ?_
  blk_ext [idx t]

/-- What a point stores is the reference's term at the index its block puts it. -/
theorem point (c : Dev nD) (t : Fin cfg0.N) (y) : k0_pay1 (iblk m c 0 t) (X0_1 m c t) y
    = REF (m ((c : Thread nD τ).loc main_arg0)) (m ((c : Thread nD τ).loc main_arg1)) (((cfg0.win 2).blk t).view.emb y) := by
  idx_vars y
  pointwise [k0_pay1, REF, Cert.InProjReferenceIdeal.Read.val_main_v5, Cert.InProjReferenceIdeal.Read.val_main_v4, Cert.InProjReferenceIdeal.Read.val_main_v3, Cert.InProjReferenceIdeal.Read.val_main_v2, Cert.InProjReferenceIdeal.Read.val_main_v1, Cert.InProjReferenceIdeal.Read.val_main_v0]
  simp only [wblk m c t]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.InProjIdeal.ValueProof

end
-- ==== Proof.InProjClaim.lean ====
module

public import proofs.«01_k».proof.Defs
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjReferenceIdeal
public import proofs.«01_k».proof.Proof.Gen.InProjReferenceIdeal.Run
public import proofs.«01_k».proof.Proof.InProjValue
public import Idealize.ShloMosaic.Lib.Claim
public import Idealize.ShloMosaic.Lib.Quiescent

@[expose] public section

set_option maxRecDepth 16384

noncomputable section

open Idealize.ShloMosaic Idealize.SL.Sem

namespace Cert.Proof.InProj

theorem frame_kernel : Cert.quiescent_InProj := fun m ρ _ => Cert.InProj.Gen.frame m ρ

theorem frame_ideal : Cert.quiescent_InProjIdeal := fun m ρ _ => Cert.InProjIdeal.Gen.frame m ρ

theorem frame_reference : Cert.quiescent_InProjReferenceIdeal := fun m g _ =>
  (θ_run _ _ _).mono (fun r h => ⟨fun c => (h c).2, sem_eq_zero_of_no_sems (by decide) r.2⟩) (Cert.InProjReferenceIdeal.Value.run m g)

set_option maxHeartbeats 1600000 in
theorem algebraic : Cert.algebraic_InProjIdeal_InProjReferenceIdeal := by
  pair_intro
  · run_from Cert.InProjIdeal.Gen.run_main m g
  · run_from Cert.InProjReferenceIdeal.Value.run m' g'
    exact (Cert.InProjIdeal.ValueProof.final m c).symm

end Cert.Proof.InProj
-- ==== Proof.OutProjValue.lean ====
module

public import proofs.«01_k».proof.Proof.Gen.OutProjIdeal.Value
public import proofs.«01_k».proof.Proof.Gen.OutProjReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.ValueProof

open Cert.OutProjIdeal Cert.OutProjIdeal.Gen

variable (m : (ℓ : Loc nD τ sig) → Buf (Elt Ideal) ℓ)

/-- The reference's term over the kernel's argument arrays. -/
abbrev REF (x0 : FVec Ideal S24576x4096 .bf16) (x1 : FVec Ideal S2x4096x4096 .f32) (x2 : FVec Ideal S24576x4096 .f32) : FVec Ideal S24576x4096 .f32 :=
  Cert.OutProjReferenceIdeal.Read.val_main_v4 (F := Ideal) x0 x1 x2

theorem idx : ∀ t : Fin cfg0.N, win0_0.index t = ![t.val / 8, 0] ∧ win0_1.index t = ![0, 0, t.val % 8] ∧ win0_2.index t = ![t.val / 8, t.val % 8] ∧ win0_3.index t = ![t.val / 8, t.val % 8] :=
  (by decide +kernel : ∀ t : Fin grid0.N, _)

/-- The weights the region reads are the argument's: rounding to bf16 is the identity here. -/
theorem V_main_v0 (c : Dev nD) (i : S2x4096x4096.Idx) : V m c main_v0 i = m ((c : Thread nD τ).loc main_arg1) i := by
  entry_read
  rfl

/-- The weight block of a point, read at an index. -/
theorem wblk (c : Dev nD) (t : Fin cfg0.N) (k : Fin 4096) (j : Fin 512) :
    iblk m c 1 t (ix3 0 k j) = m ((c : Thread nD τ).loc main_arg1) (ix3 0 k ⟨t.val % 8 * 512 + j.val, by omega⟩) := by
  unfold iblk
  refine (V_main_v0 m c _).trans ?_
  blk_ext [idx t]

/-- What a point stores is the reference's term at the index its block puts it. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  idx_vars y
  pointwise [k0_pay1, REF, Cert.OutProjReferenceIdeal.Read.val_main_v4, Cert.OutProjReferenceIdeal.Read.val_main_v3, Cert.OutProjReferenceIdeal.Read.val_main_v2, Cert.OutProjReferenceIdeal.Read.val_main_v1, Cert.OutProjReferenceIdeal.Read.val_main_v0]
  simp only [wblk m c t]
  blk_point [iblk, V, idx t]

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutProjIdeal.ValueProof

end
-- ==== Proof.OutProjClaim.lean ====
module

public import proofs.«01_k».proof.Defs
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjReferenceIdeal
public import proofs.«01_k».proof.Proof.Gen.OutProjReferenceIdeal.Run
public import proofs.«01_k».proof.Proof.OutProjValue
public import Idealize.ShloMosaic.Lib.Claim
public import Idealize.ShloMosaic.Lib.Quiescent

@[expose] public section

set_option maxRecDepth 16384

noncomputable section

open Idealize.ShloMosaic Idealize.SL.Sem

namespace Cert.Proof.OutProj

theorem frame_kernel : Cert.quiescent_OutProj := fun m ρ _ => Cert.OutProj.Gen.frame m ρ

theorem frame_ideal : Cert.quiescent_OutProjIdeal := fun m ρ _ => Cert.OutProjIdeal.Gen.frame m ρ

theorem frame_reference : Cert.quiescent_OutProjReferenceIdeal := fun m g _ =>
  (θ_run _ _ _).mono (fun r h => ⟨fun c => (h c).2, sem_eq_zero_of_no_sems (by decide) r.2⟩) (Cert.OutProjReferenceIdeal.Value.run m g)

set_option maxHeartbeats 1600000 in
theorem algebraic : Cert.algebraic_OutProjIdeal_OutProjReferenceIdeal := by
  pair_intro
  · run_from Cert.OutProjIdeal.Gen.run_main m g
  · run_from Cert.OutProjReferenceIdeal.Value.run m' g'
    exact (Cert.OutProjIdeal.ValueProof.final m c).symm

end Cert.Proof.OutProj
-- ==== Proof.MoeDownValue.lean ====
module

public import proofs.«01_k».proof.Proof.Gen.MoeDownIdeal.Value
public import proofs.«01_k».proof.Proof.Gen.MoeDownReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MoeDownIdeal.ValueProof

open Cert.MoeDownIdeal Cert.MoeDownIdeal.Gen

variable (m : (ℓ : Loc nD τ sig) → Buf (Elt Ideal) ℓ)

/-- The reference's term over the kernel's argument arrays. -/
abbrev REF (x0 : FVec Ideal S24576x14336 .bf16) (x1 : FVec Ideal S1x8x1792x4096 .f32) (x2 : FVec Ideal S24576x4096 .f32) : FVec Ideal S24576x4096 .f32 :=
  Cert.MoeDownReferenceIdeal.Read.val_main_v49 (F := Ideal) x0 x1 x2

theorem idx : ∀ t : Fin cfg0.N, win0_0.index t = ![t.val / 16, t.val % 4] ∧ win0_1.index t = ![0, t.val % 4, t.val / 4 % 4] ∧ win0_2.index t = ![t.val / 16, t.val / 4 % 4] ∧ win0_3.index t = ![t.val / 16, t.val / 4 % 4] :=
  (by decide +kernel : ∀ t : Fin grid0.N, _)

/-- The experts' weights as one array, expert after expert. -/
def weight (x : FVec Ideal S1x8x1792x4096 .f32) (k : Fin 14336) (j : Fin 4096) : EReal :=
  x (ix4 0 ⟨k.val / 1792, by omega⟩ ⟨k.val % 1792, by omega⟩ j)

theorem V_main_v1 (c : Dev nD) (k : Fin 14336) (j : Fin 4096) : V m c main_v1 (ix3 0 k j) = weight (m ((c : Thread nD τ).loc main_arg1)) k j := by
  entry_read
  pointwise [weight]

/-- The weight block of a point, read at an index. -/
theorem wblk (c : Dev nD) (t : Fin cfg0.N) (k : Fin 3584) (j : Fin 1024) :
    iblk m c 1 t (ix3 0 k j) = weight (m ((c : Thread nD τ).loc main_arg1)) ⟨t.val % 4 * 3584 + k.val, by omega⟩ ⟨t.val / 4 % 4 * 1024 + j.val, by omega⟩ := by
  unfold iblk
  refine Eq.trans ?_ (V_main_v1 m c _ _)
  blk_ext [idx t]

/-- The other two input blocks of a point, read at an index. -/
theorem xblk (c : Dev nD) (t : Fin cfg0.N) (i : Fin 1024) (k : Fin 3584) :
    iblk m c 0 t (ix2 i k) = (m ((c : Thread nD τ).loc main_arg0)) (ix2 ⟨t.val / 16 * 1024 + i.val, by have ht : t.val < 384 := t.isLt; omega⟩ ⟨t.val % 4 * 3584 + k.val, by omega⟩) := by
  blk_ext [iblk, V, idx t]

theorem rblk (c : Dev nD) (t : Fin cfg0.N) (i j : Fin 1024) :
    iblk m c 2 t (ix2 i j) = (m ((c : Thread nD τ).loc main_arg2)) (ix2 ⟨t.val / 16 * 1024 + i.val, by have ht : t.val < 384 := t.isLt; omega⟩ ⟨t.val / 4 % 4 * 1024 + j.val, by omega⟩) := by
  blk_ext [iblk, V, idx t]

theorem weight_congr (x : FVec Ideal S1x8x1792x4096 .f32) {k k' : Fin 14336} {j j' : Fin 4096} (hk : k.val = k'.val) (hj : j.val = j'.val) :
    weight x k j = weight x k' j' := by
  rw [Fin.ext hk, Fin.ext hj]

/-- One product of an entry's sum. -/
def flat (x0 : FVec Ideal S24576x14336 .bf16) (x1 : FVec Ideal S1x8x1792x4096 .f32) (r : Fin 24576) (j : Fin 4096) (k : Fin 14336) : EReal :=
  x0 (ix2 r k) * weight x1 k j

theorem weight_split (x : FVec Ideal S1x8x1792x4096 .f32) (e : Fin 8) (f : Fin 1792) (k : Fin 14336) (j : Fin 4096) (h : k.val = e.val * 1792 + f.val) :
    weight x k j = x (ix4 0 e f j) := by
  unfold weight
  rw [show (⟨k.val / 1792, by omega⟩ : Fin 8) = e from Fin.ext (by show k.val / 1792 = e.val; omega),
    show (⟨k.val % 1792, by omega⟩ : Fin 1792) = f from Fin.ext (by show k.val % 1792 = f.val; omega)]

theorem ref_apply (x0 : FVec Ideal S24576x14336 .bf16) (x1 : FVec Ideal S1x8x1792x4096 .f32) (x2 : FVec Ideal S24576x4096 .f32)
    (r : Fin 24576) (j : Fin 4096) : REF x0 x1 x2 (ix2 r j) = x2 (ix2 r j) + ∑ k : Fin 14336, flat x0 x1 r j k := by
  rw [Fin.sum_univ_tiles 8 1792 rfl, Fin.sum_univ_eight]
  pointwise [REF, Cert.MoeDownReferenceIdeal.Read.val_main_v49, Cert.MoeDownReferenceIdeal.Read.val_main_v48, Cert.MoeDownReferenceIdeal.Read.val_main_v47, Cert.MoeDownReferenceIdeal.Read.val_main_v46, Cert.MoeDownReferenceIdeal.Read.val_main_v45, Cert.MoeDownReferenceIdeal.Read.val_main_v44, Cert.MoeDownReferenceIdeal.Read.val_main_v43, Cert.MoeDownReferenceIdeal.Read.val_main_v42, Cert.MoeDownReferenceIdeal.Read.val_main_v41, Cert.MoeDownReferenceIdeal.Read.val_main_v40, Cert.MoeDownReferenceIdeal.Read.val_main_v39, Cert.MoeDownReferenceIdeal.Read.val_main_v38, Cert.MoeDownReferenceIdeal.Read.val_main_v37, Cert.MoeDownReferenceIdeal.Read.val_main_v36, Cert.MoeDownReferenceIdeal.Read.val_main_v35, Cert.MoeDownReferenceIdeal.Read.val_main_v34, Cert.MoeDownReferenceIdeal.Read.val_main_v33, Cert.MoeDownReferenceIdeal.Read.val_main_v32, Cert.MoeDownReferenceIdeal.Read.val_main_v31, Cert.MoeDownReferenceIdeal.Read.val_main_v30, Cert.MoeDownReferenceIdeal.Read.val_main_v29, Cert.MoeDownReferenceIdeal.Read.val_main_v28, Cert.MoeDownReferenceIdeal.Read.val_main_v27, Cert.MoeDownReferenceIdeal.Read.val_main_v26, Cert.MoeDownReferenceIdeal.Read.val_main_v25, Cert.MoeDownReferenceIdeal.Read.val_main_v24, Cert.MoeDownReferenceIdeal.Read.val_main_v23, Cert.MoeDownReferenceIdeal.Read.val_main_v22, Cert.MoeDownReferenceIdeal.Read.val_main_v21, Cert.MoeDownReferenceIdeal.Read.val_main_v20, Cert.MoeDownReferenceIdeal.Read.val_main_v19, Cert.MoeDownReferenceIdeal.Read.val_main_v18, Cert.MoeDownReferenceIdeal.Read.val_main_v17, Cert.MoeDownReferenceIdeal.Read.val_main_v16, Cert.MoeDownReferenceIdeal.Read.val_main_v15, Cert.MoeDownReferenceIdeal.Read.val_main_v14, Cert.MoeDownReferenceIdeal.Read.val_main_v13, Cert.MoeDownReferenceIdeal.Read.val_main_v12, Cert.MoeDownReferenceIdeal.Read.val_main_v11, Cert.MoeDownReferenceIdeal.Read.val_main_v10, Cert.MoeDownReferenceIdeal.Read.val_main_v9, Cert.MoeDownReferenceIdeal.Read.val_main_v8, Cert.MoeDownReferenceIdeal.Read.val_main_v7, Cert.MoeDownReferenceIdeal.Read.val_main_v6, Cert.MoeDownReferenceIdeal.Read.val_main_v5, Cert.MoeDownReferenceIdeal.Read.val_main_v4, Cert.MoeDownReferenceIdeal.Read.val_main_v3, Cert.MoeDownReferenceIdeal.Read.val_main_v2, Cert.MoeDownReferenceIdeal.Read.val_main_v1, Cert.MoeDownReferenceIdeal.Read.val_main_v0, Cert.MoeDownReferenceIdeal.Read.val_main_cst, flat]
  refine congrArg (x2 (ix2 r j) + ·) ?_
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · refine Fin.sum_fin_congr fun k => congrArg (_ * ·) (weight_split x1 0 k _ j ?_).symm
    show k.val = 0 * 1792 + k.val
    omega
  · refine Fin.sum_fin_congr fun k => congrArg (_ * ·) (weight_split x1 1 k _ j ?_).symm
    show 1792 + k.val = 1 * 1792 + k.val
    omega
  · refine Fin.sum_fin_congr fun k => congrArg (_ * ·) (weight_split x1 2 k _ j ?_).symm
    show 3584 + k.val = 2 * 1792 + k.val
    omega
  · refine Fin.sum_fin_congr fun k => congrArg (_ * ·) (weight_split x1 3 k _ j ?_).symm
    show 5376 + k.val = 3 * 1792 + k.val
    omega
  · refine Fin.sum_fin_congr fun k => congrArg (_ * ·) (weight_split x1 4 k _ j ?_).symm
    show 7168 + k.val = 4 * 1792 + k.val
    omega
  · refine Fin.sum_fin_congr fun k => congrArg (_ * ·) (weight_split x1 5 k _ j ?_).symm
    show 8960 + k.val = 5 * 1792 + k.val
    omega
  · refine Fin.sum_fin_congr fun k => congrArg (_ * ·) (weight_split x1 6 k _ j ?_).symm
    show 10752 + k.val = 6 * 1792 + k.val
    omega
  · refine Fin.sum_fin_congr fun k => congrArg (_ * ·) (weight_split x1 7 k _ j ?_).symm
    show 12544 + k.val = 7 * 1792 + k.val
    omega

/-- The product of two blocks at an index. -/
def prod (a : FVec Ideal S1024x3584 .bf16) (w : FVec Ideal S1x3584x1024 .bf16) (y : S1024x1024.Idx) : EReal :=
  ∑ q : Fin 3584, a (ix2 (y 0) q) * w (ix3 0 q (y 1))

theorem pay1 (a : FVec Ideal S1024x3584 .bf16) (w : FVec Ideal S1x3584x1024 .bf16) (r : FVec Ideal S1024x1024 .f32) (y : S1024x1024.Idx) :
    k0_pay1 (F := Ideal) a w r y = prod a w y + r y := by
  idx_vars y
  pointwise [k0_pay1, prod]

theorem pay2 (r : FVec Ideal S1024x1024 .f32) (a : FVec Ideal S1024x3584 .bf16) (w : FVec Ideal S1x3584x1024 .bf16) (y : S1024x1024.Idx) :
    k0_pay2 (F := Ideal) r a w y = r y + prod a w y := by
  idx_vars y
  pointwise [k0_pay2, prod]

/-- The residual's block of a point. -/
def resid (c : Dev nD) (t : Fin cfg0.N) : FVec Ideal S1024x1024 .f32 := iblk m c 2 t

/-- What a point adds to its output block: its product, and at the first point of a block the residual too. -/
def term (c : Dev nD) (t : Fin cfg0.N) (y : S1024x1024.Idx) : EReal :=
  prod (iblk m c 0 t) (iblk m c 1 t) y + if t.val % 4 = 0 then resid m c t y else 0

/-- The block a point writes back is the sum of what its four points add. -/
theorem outs (c : Dev nD) (t : Fin cfg0.N) (hr : t.val % 4 = 4 - 1) (y : S1024x1024.Idx) :
    outsAt0 m c t.val t.isLt y = ∑ s : Fin 4, term m c ⟨4 * (t.val / 4) + s.val, Pipeline.run_point_lt_of_flush t hr s⟩ y := by
  refine (Pipeline.eq_sum_fin_of_reset_step_apply_of_flush (M := EReal) (fun n h => outsAt0 m c n h) 4 (fun _ => 0) (term m c)
    (fun t h y => ?_) (fun t h y => ?_) t hr y).trans (zero_add _)
  · show outsAt0 m c t.val t.isLt y = _
    rw [outsAt0_A m c t h (by omega)]
    frame_out
    rw [pay1]
    show prod _ _ _ + _ = (0 : EReal) + (_ + _)
    rw [if_pos h, zero_add]
    rfl
  · show outsAt0 m c t.val t.isLt y = outsAt0 m c (t.val - 1) _ y + _
    rw [outsAt0_B m c t h (by omega)]
    frame_out
    rw [pay2]
    show _ + prod _ _ _ = _ + (_ + _)
    rw [if_neg h, add_zero]

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hr : t.val % 4 = 4 - 1 := (flush0_3 t).mp hf
  have ht : t.val < 384 := t.isLt
  idx_vars y
  have hemb : ((cfg0.win 3).blk t).view.emb (ix2 y0 y1) = ix2 ⟨t.val / 16 * 1024 + y0.val, by omega⟩ ⟨t.val / 4 % 4 * 1024 + y1.val, by omega⟩ := by blk_ext [idx t]
  refine (outs m c t hr _).trans ?_
  refine Eq.trans ?_ (congrArg (REF (m ((c : Thread nD τ).loc main_arg0)) (m ((c : Thread nD τ).loc main_arg1)) (m ((c : Thread nD τ).loc main_arg2))) hemb).symm
  rw [ref_apply]
  unfold term
  rw [Finset.sum_add_distrib, add_comm]
  refine congrArg₂ (· + ·) ?_ ?_
  · rw [Fin.sum_univ_four]
    rw [if_pos (by show (4 * (t.val / 4) + 0) % 4 = 0; omega), if_neg (by show ¬(4 * (t.val / 4) + 1) % 4 = 0; omega),
      if_neg (by show ¬(4 * (t.val / 4) + 2) % 4 = 0; omega), if_neg (by show ¬(4 * (t.val / 4) + 3) % 4 = 0; omega)]
    refine (congrArg (· + (0 : EReal)) (congrArg (· + (0 : EReal)) (add_zero _))).trans ((congrArg (· + (0 : EReal)) (add_zero _)).trans ((add_zero _).trans ?_))
    show iblk m c 2 ⟨4 * (t.val / 4) + 0, _⟩ (ix2 y0 y1) = _
    refine (rblk m c ⟨4 * (t.val / 4) + 0, Pipeline.run_point_lt_of_flush t hr 0⟩ y0 y1).trans ?_
    refine congrArg (m ((c : Thread nD τ).loc main_arg2)) (congrArg₂ ix2 (Fin.ext ?_) (Fin.ext ?_))
    · show (4 * (t.val / 4) + 0) / 16 * 1024 + y0.val = t.val / 16 * 1024 + y0.val
      omega
    · show (4 * (t.val / 4) + 0) / 4 % 4 * 1024 + y1.val = t.val / 4 % 4 * 1024 + y1.val
      omega
  · unfold prod
    refine Fin.sum_mul_add_congr fun s q hl => ?_
    have hs := s.isLt
    refine congrArg₂ (· * ·) ((xblk m c ⟨4 * (t.val / 4) + s.val, Pipeline.run_point_lt_of_flush t hr s⟩ y0 q).trans ?_)
      ((wblk m c ⟨4 * (t.val / 4) + s.val, Pipeline.run_point_lt_of_flush t hr s⟩ q y1).trans ?_)
    · refine congrArg (m ((c : Thread nD τ).loc main_arg0)) (congrArg₂ ix2 (Fin.ext ?_) (Fin.ext ?_))
      · show (4 * (t.val / 4) + s.val) / 16 * 1024 + y0.val = t.val / 16 * 1024 + y0.val
        omega
      · show (4 * (t.val / 4) + s.val) % 4 * 3584 + q.val = s.val * 3584 + q.val
        omega
    · refine weight_congr _ ?_ ?_
      · show (4 * (t.val / 4) + s.val) % 4 * 3584 + q.val = s.val * 3584 + q.val
        omega
      · show (4 * (t.val / 4) + s.val) / 4 % 4 * 1024 + y1.val = t.val / 4 % 4 * 1024 + y1.val
        omega

end Cert.MoeDownIdeal.ValueProof

end
-- ==== Proof.MoeDownClaim.lean ====
module

public import proofs.«01_k».proof.Defs
public import proofs.«01_k».proof.Proof.Gen.MoeDown
public import proofs.«01_k».proof.Proof.Gen.MoeDown.Frame
public import proofs.«01_k».proof.Proof.Gen.MoeDownIdeal
public import proofs.«01_k».proof.Proof.Gen.MoeDownIdeal.Frame
public import proofs.«01_k».proof.Proof.Gen.MoeDownReferenceIdeal
public import proofs.«01_k».proof.Proof.Gen.MoeDownReferenceIdeal.Run
public import proofs.«01_k».proof.Proof.MoeDownValue
public import Idealize.ShloMosaic.Lib.Claim
public import Idealize.ShloMosaic.Lib.Quiescent

@[expose] public section

set_option maxRecDepth 16384

noncomputable section

open Idealize.ShloMosaic Idealize.SL.Sem

namespace Cert.Proof.MoeDown

theorem frame_kernel : Cert.quiescent_MoeDown := fun m ρ _ => Cert.MoeDown.Gen.frame m ρ

theorem frame_ideal : Cert.quiescent_MoeDownIdeal := fun m ρ _ => Cert.MoeDownIdeal.Gen.frame m ρ

theorem frame_reference : Cert.quiescent_MoeDownReferenceIdeal := fun m g _ =>
  (θ_run _ _ _).mono (fun r h => ⟨fun c => (h c).2, sem_eq_zero_of_no_sems (by decide) r.2⟩) (Cert.MoeDownReferenceIdeal.Value.run m g)

set_option maxHeartbeats 1600000 in
theorem algebraic : Cert.algebraic_MoeDownIdeal_MoeDownReferenceIdeal := by
  pair_intro
  · run_from Cert.MoeDownIdeal.Gen.run_main m g
  · run_from Cert.MoeDownReferenceIdeal.Value.run m' g'
    exact (Cert.MoeDownIdeal.ValueProof.final m c).symm

end Cert.Proof.MoeDown
-- ==== Proof.FfnDownValue.lean ====
module

public import proofs.«01_k».proof.Proof.Gen.FfnDownIdeal.Value
public import proofs.«01_k».proof.Proof.Gen.FfnDownReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.ValueProof

open Cert.FfnDownIdeal Cert.FfnDownIdeal.Gen

variable (m : (ℓ : Loc nD τ sig) → Buf (Elt Ideal) ℓ)

/-- The reference's term over the kernel's argument arrays. -/
abbrev REF (x0 : FVec Ideal S24576x11264 .bf16) (x1 : FVec Ideal S1x11008x4096 .f32) (x2 : FVec Ideal S24576x4096 .f32) : FVec Ideal S24576x4096 .f32 :=
  Cert.FfnDownReferenceIdeal.Read.val_main_v4 (F := Ideal) x0 x1 x2

theorem idx : ∀ t : Fin cfg0.N, win0_0.index t = ![t.val / 16, t.val % 4] ∧ win0_1.index t = ![0, t.val % 4, t.val / 4 % 4] ∧ win0_2.index t = ![t.val / 16, t.val / 4 % 4] ∧ win0_3.index t = ![t.val / 16, t.val / 4 % 4] :=
  (by decide +kernel : ∀ t : Fin grid0.N, _)

/-- The weights with their rows continued by zeros. -/
def weight (x : FVec Ideal S1x11008x4096 .f32) (k : Fin 11264) (j : Fin 4096) : EReal :=
  if h : k.val < 11008 then x (ix3 0 ⟨k.val, h⟩ j) else 0

theorem int_zero : (FloatOps.sitofp .f32 (0#32) : Ideal .f32) = (0 : EReal) := by
  show ((((0#32 : BitVec 32).toInt : ℤ) : ℝ) : EReal) = 0
  simp

theorem pad_row (x : FVec Ideal S1x11008x4096 .f32) (k : Fin 11264) (j : Fin 4096) :
    (pad S1x11264x4096 ![0, 0, 0] ![0, 256, 0] ![0, 0, 0] x (sitofp (F := Ideal) .f32 (constantI S_ 32 0#32)) pads_S1x11008x4096_S1x11264x4096_000_02560_000 h_S_ : FVec Ideal S1x11264x4096 .f32) (ix3 0 k j) = weight x k j := by
  pointwise [weight, int_zero]

theorem V_main_v1 (c : Dev nD) (k : Fin 11264) (j : Fin 4096) : V m c main_v1 (ix3 0 k j) = weight (m ((c : Thread nD τ).loc main_arg1)) k j := by
  simp only [V, hostOps0, hostOps0_1, hostOps0_2, List.flatten_cons, List.flatten_nil, List.append_nil, List.cons_append, List.nil_append]
  entry_read
  exact pad_row _ k j

/-- The weight block of a point, read at an index. -/
theorem wblk (c : Dev nD) (t : Fin cfg0.N) (k : Fin 2816) (j : Fin 1024) :
    iblk m c 1 t (ix3 0 k j) = weight (m ((c : Thread nD τ).loc main_arg1)) ⟨t.val % 4 * 2816 + k.val, by omega⟩ ⟨t.val / 4 % 4 * 1024 + j.val, by omega⟩ := by
  unfold iblk
  refine Eq.trans ?_ (V_main_v1 m c _ _)
  blk_ext [idx t]

/-- The other two input blocks of a point, read at an index. -/
theorem xblk (c : Dev nD) (t : Fin cfg0.N) (i : Fin 1024) (k : Fin 2816) :
    iblk m c 0 t (ix2 i k) = (m ((c : Thread nD τ).loc main_arg0)) (ix2 ⟨t.val / 16 * 1024 + i.val, by have ht : t.val < 384 := t.isLt; omega⟩ ⟨t.val % 4 * 2816 + k.val, by omega⟩) := by
  blk_ext [iblk, V, idx t]

theorem rblk (c : Dev nD) (t : Fin cfg0.N) (i j : Fin 1024) :
    iblk m c 2 t (ix2 i j) = (m ((c : Thread nD τ).loc main_arg2)) (ix2 ⟨t.val / 16 * 1024 + i.val, by have ht : t.val < 384 := t.isLt; omega⟩ ⟨t.val / 4 % 4 * 1024 + j.val, by omega⟩) := by
  blk_ext [iblk, V, idx t]

theorem weight_congr (x : FVec Ideal S1x11008x4096 .f32) {k k' : Fin 11264} {j j' : Fin 4096} (hk : k.val = k'.val) (hj : j.val = j'.val) :
    weight x k j = weight x k' j' := by
  rw [Fin.ext hk, Fin.ext hj]

/-- One product of an entry's sum. -/
def flat (x0 : FVec Ideal S24576x11264 .bf16) (x1 : FVec Ideal S1x11008x4096 .f32) (r : Fin 24576) (j : Fin 4096) (k : Fin 11264) : EReal :=
  x0 (ix2 r k) * weight x1 k j

theorem ref_apply (x0 : FVec Ideal S24576x11264 .bf16) (x1 : FVec Ideal S1x11008x4096 .f32) (x2 : FVec Ideal S24576x4096 .f32)
    (r : Fin 24576) (j : Fin 4096) : REF x0 x1 x2 (ix2 r j) = x2 (ix2 r j) + ∑ k : Fin 11264, flat x0 x1 r j k := by
  rw [show (∑ k : Fin 11264, flat x0 x1 r j k) = ∑ k : Fin 11008, x0 (ix2 r ⟨k.val, by omega⟩) * x1 (ix3 0 k j) from ?_]
  · pointwise [REF, Cert.FfnDownReferenceIdeal.Read.val_main_v4, Cert.FfnDownReferenceIdeal.Read.val_main_v3, Cert.FfnDownReferenceIdeal.Read.val_main_v2, Cert.FfnDownReferenceIdeal.Read.val_main_v1, Cert.FfnDownReferenceIdeal.Read.val_main_v0]
  · refine (Fin.sum_univ_add (a := 11008) (b := 256) (fun k => flat x0 x1 r j k)).trans ?_
    rw [Finset.sum_eq_zero (s := (Finset.univ : Finset (Fin 256)))]
    · rw [add_zero]
      refine Fin.sum_fin_congr fun k => ?_
      unfold flat weight
      rw [dif_pos (show (Fin.castAdd 256 k).val < 11008 from k.isLt)]
      rfl
    · intro k _
      unfold flat weight
      rw [dif_neg (show ¬(Fin.natAdd 11008 k).val < 11008 from by show ¬11008 + k.val < 11008; omega), mul_zero]

/-- The product of two blocks at an index. -/
def prod (a : FVec Ideal S1024x2816 .bf16) (w : FVec Ideal S1x2816x1024 .bf16) (y : S1024x1024.Idx) : EReal :=
  ∑ q : Fin 2816, a (ix2 (y 0) q) * w (ix3 0 q (y 1))

theorem pay1 (a : FVec Ideal S1024x2816 .bf16) (w : FVec Ideal S1x2816x1024 .bf16) (r : FVec Ideal S1024x1024 .f32) (y : S1024x1024.Idx) :
    k0_pay1 (F := Ideal) a w r y = prod a w y + r y := by
  idx_vars y
  pointwise [k0_pay1, prod]

theorem pay2 (r : FVec Ideal S1024x1024 .f32) (a : FVec Ideal S1024x2816 .bf16) (w : FVec Ideal S1x2816x1024 .bf16) (y : S1024x1024.Idx) :
    k0_pay2 (F := Ideal) r a w y = r y + prod a w y := by
  idx_vars y
  pointwise [k0_pay2, prod]

/-- The residual's block of a point. -/
def resid (c : Dev nD) (t : Fin cfg0.N) : FVec Ideal S1024x1024 .f32 := iblk m c 2 t

/-- What a point adds to its output block: its product, and at the first point of a block the residual too. -/
def term (c : Dev nD) (t : Fin cfg0.N) (y : S1024x1024.Idx) : EReal :=
  prod (iblk m c 0 t) (iblk m c 1 t) y + if t.val % 4 = 0 then resid m c t y else 0

/-- The block a point writes back is the sum of what its four points add. -/
theorem outs (c : Dev nD) (t : Fin cfg0.N) (hr : t.val % 4 = 4 - 1) (y : S1024x1024.Idx) :
    outsAt0 m c t.val t.isLt y = ∑ s : Fin 4, term m c ⟨4 * (t.val / 4) + s.val, Pipeline.run_point_lt_of_flush t hr s⟩ y := by
  refine (Pipeline.eq_sum_fin_of_reset_step_apply_of_flush (M := EReal) (fun n h => outsAt0 m c n h) 4 (fun _ => 0) (term m c)
    (fun t h y => ?_) (fun t h y => ?_) t hr y).trans (zero_add _)
  · show outsAt0 m c t.val t.isLt y = _
    rw [outsAt0_A m c t h (by omega)]
    frame_out
    rw [pay1]
    show prod _ _ _ + _ = (0 : EReal) + (_ + _)
    rw [if_pos h, zero_add]
    rfl
  · show outsAt0 m c t.val t.isLt y = outsAt0 m c (t.val - 1) _ y + _
    rw [outsAt0_B m c t h (by omega)]
    frame_out
    rw [pay2]
    show _ + prod _ _ _ = _ + (_ + _)
    rw [if_neg h, add_zero]

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hr : t.val % 4 = 4 - 1 := (flush0_3 t).mp hf
  have ht : t.val < 384 := t.isLt
  idx_vars y
  have hemb : ((cfg0.win 3).blk t).view.emb (ix2 y0 y1) = ix2 ⟨t.val / 16 * 1024 + y0.val, by omega⟩ ⟨t.val / 4 % 4 * 1024 + y1.val, by omega⟩ := by blk_ext [idx t]
  refine (outs m c t hr _).trans ?_
  refine Eq.trans ?_ (congrArg (REF (m ((c : Thread nD τ).loc main_arg0)) (m ((c : Thread nD τ).loc main_arg1)) (m ((c : Thread nD τ).loc main_arg2))) hemb).symm
  rw [ref_apply]
  unfold term
  rw [Finset.sum_add_distrib, add_comm]
  refine congrArg₂ (· + ·) ?_ ?_
  · rw [Fin.sum_univ_four]
    rw [if_pos (by show (4 * (t.val / 4) + 0) % 4 = 0; omega), if_neg (by show ¬(4 * (t.val / 4) + 1) % 4 = 0; omega),
      if_neg (by show ¬(4 * (t.val / 4) + 2) % 4 = 0; omega), if_neg (by show ¬(4 * (t.val / 4) + 3) % 4 = 0; omega)]
    refine (congrArg (· + (0 : EReal)) (congrArg (· + (0 : EReal)) (add_zero _))).trans ((congrArg (· + (0 : EReal)) (add_zero _)).trans ((add_zero _).trans ?_))
    show iblk m c 2 ⟨4 * (t.val / 4) + 0, _⟩ (ix2 y0 y1) = _
    refine (rblk m c ⟨4 * (t.val / 4) + 0, Pipeline.run_point_lt_of_flush t hr 0⟩ y0 y1).trans ?_
    refine congrArg (m ((c : Thread nD τ).loc main_arg2)) (congrArg₂ ix2 (Fin.ext ?_) (Fin.ext ?_))
    · show (4 * (t.val / 4) + 0) / 16 * 1024 + y0.val = t.val / 16 * 1024 + y0.val
      omega
    · show (4 * (t.val / 4) + 0) / 4 % 4 * 1024 + y1.val = t.val / 4 % 4 * 1024 + y1.val
      omega
  · unfold prod
    refine Fin.sum_mul_add_congr fun s q hl => ?_
    have hs := s.isLt
    refine congrArg₂ (· * ·) ((xblk m c ⟨4 * (t.val / 4) + s.val, Pipeline.run_point_lt_of_flush t hr s⟩ y0 q).trans ?_)
      ((wblk m c ⟨4 * (t.val / 4) + s.val, Pipeline.run_point_lt_of_flush t hr s⟩ q y1).trans ?_)
    · refine congrArg (m ((c : Thread nD τ).loc main_arg0)) (congrArg₂ ix2 (Fin.ext ?_) (Fin.ext ?_))
      · show (4 * (t.val / 4) + s.val) / 16 * 1024 + y0.val = t.val / 16 * 1024 + y0.val
        omega
      · show (4 * (t.val / 4) + s.val) % 4 * 2816 + q.val = s.val * 2816 + q.val
        omega
    · refine weight_congr _ ?_ ?_
      · show (4 * (t.val / 4) + s.val) % 4 * 2816 + q.val = s.val * 2816 + q.val
        omega
      · show (4 * (t.val / 4) + s.val) / 4 % 4 * 1024 + y1.val = t.val / 4 % 4 * 1024 + y1.val
        omega

end Cert.FfnDownIdeal.ValueProof

end
-- ==== Proof.FfnDownClaim.lean ====
module

public import proofs.«01_k».proof.Defs
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownReferenceIdeal
public import proofs.«01_k».proof.Proof.Gen.FfnDownReferenceIdeal.Run
public import proofs.«01_k».proof.Proof.FfnDownValue
public import Idealize.ShloMosaic.Lib.Claim
public import Idealize.ShloMosaic.Lib.Quiescent

@[expose] public section

set_option maxRecDepth 16384

noncomputable section

open Idealize.ShloMosaic Idealize.SL.Sem

namespace Cert.Proof.FfnDown

theorem frame_kernel : Cert.quiescent_FfnDown := fun m ρ _ => Cert.FfnDown.Gen.frame m ρ

theorem frame_ideal : Cert.quiescent_FfnDownIdeal := fun m ρ _ => Cert.FfnDownIdeal.Gen.frame m ρ

theorem frame_reference : Cert.quiescent_FfnDownReferenceIdeal := fun m g _ =>
  (θ_run _ _ _).mono (fun r h => ⟨fun c => (h c).2, sem_eq_zero_of_no_sems (by decide) r.2⟩) (Cert.FfnDownReferenceIdeal.Value.run m g)

set_option maxHeartbeats 1600000 in
theorem algebraic : Cert.algebraic_FfnDownIdeal_FfnDownReferenceIdeal := by
  pair_intro
  · run_from Cert.FfnDownIdeal.Gen.run_main m g
    · exact Cert.FfnDownIdeal.Gen.V_main_arg1 m c
  · run_from Cert.FfnDownReferenceIdeal.Value.run m' g'
    exact (Cert.FfnDownIdeal.ValueProof.final m c).symm

end Cert.Proof.FfnDown
-- ==== Proof.NormPromptValue.lean ====
module

public import proofs.«01_k».proof.Proof.Gen.NormPromptIdeal.Value
public import proofs.«01_k».proof.Proof.Gen.NormPromptReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormPromptIdeal.ValueProof

open Cert.NormPromptIdeal Cert.NormPromptIdeal.Gen

variable (m : (ℓ : Loc nD τ sig) → Buf (Elt Ideal) ℓ)

/-- The reference's term over the kernel's argument arrays. -/
abbrev REF (x0 : FVec Ideal S24576x4096 .f32) (x1 : FVec Ideal S4096 .f32) : FVec Ideal S16384x4096 .f32 :=
  Cert.NormPromptReferenceIdeal.Read.val_main_v13 (F := Ideal) x0 x1

theorem idx : ∀ t : Fin cfg0.N, win0_0.index t = ![t.val, 0] ∧ win0_1.index t = ![0, 0] ∧ win0_2.index t = ![t.val, 0] :=
  (by decide +kernel : ∀ t : Fin grid0.N, _)

/-- The scales the region reads are the argument's as one row. -/
theorem V_main_v0 (c : Dev nD) (j : Fin 4096) : V m c main_v0 (ix2 0 j) = m ((c : Thread nD τ).loc main_arg1) (ix1 j) := by
  entry_read
  pointwise [shapeCast]

/-- What a point stores is the reference's term at the index its block puts it. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  idx_vars y
  pointwise [k0_pay1, REF, Cert.NormPromptReferenceIdeal.Read.val_main_v13, Cert.NormPromptReferenceIdeal.Read.val_main_v12, Cert.NormPromptReferenceIdeal.Read.val_main_v11, Cert.NormPromptReferenceIdeal.Read.val_main_v10, Cert.NormPromptReferenceIdeal.Read.val_main_v9, Cert.NormPromptReferenceIdeal.Read.val_main_v8, Cert.NormPromptReferenceIdeal.Read.val_main_v7, Cert.NormPromptReferenceIdeal.Read.val_main_v6, Cert.NormPromptReferenceIdeal.Read.val_main_cst_1, Cert.NormPromptReferenceIdeal.Read.val_main_v5, Cert.NormPromptReferenceIdeal.Read.val_main_v4, Cert.NormPromptReferenceIdeal.Read.val_main_cst_0, Cert.NormPromptReferenceIdeal.Read.val_main_v3, Cert.NormPromptReferenceIdeal.Read.val_main_v2, Cert.NormPromptReferenceIdeal.Read.val_main_cst, Cert.NormPromptReferenceIdeal.Read.val_main_v1, Cert.NormPromptReferenceIdeal.Read.val_main_v0]
  blk_point [iblk, V, idx t]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormPromptIdeal.ValueProof

end
-- ==== Proof.NormPromptClaim.lean ====
module

public import proofs.«01_k».proof.Defs
public import proofs.«01_k».proof.Proof.Gen.NormPrompt
public import proofs.«01_k».proof.Proof.Gen.NormPrompt.Frame
public import proofs.«01_k».proof.Proof.Gen.NormPromptIdeal
public import proofs.«01_k».proof.Proof.Gen.NormPromptIdeal.Frame
public import proofs.«01_k».proof.Proof.Gen.NormPromptReferenceIdeal
public import proofs.«01_k».proof.Proof.Gen.NormPromptReferenceIdeal.Run
public import proofs.«01_k».proof.Proof.NormPromptValue
public import Idealize.ShloMosaic.Lib.Claim
public import Idealize.ShloMosaic.Lib.Quiescent

@[expose] public section

set_option maxRecDepth 16384

noncomputable section

open Idealize.ShloMosaic Idealize.SL.Sem

namespace Cert.Proof.NormPrompt

theorem frame_kernel : Cert.quiescent_NormPrompt := fun m ρ _ => Cert.NormPrompt.Gen.frame m ρ

theorem frame_ideal : Cert.quiescent_NormPromptIdeal := fun m ρ _ => Cert.NormPromptIdeal.Gen.frame m ρ

theorem frame_reference : Cert.quiescent_NormPromptReferenceIdeal := fun m g _ =>
  (θ_run _ _ _).mono (fun r h => ⟨fun c => (h c).2, sem_eq_zero_of_no_sems (by decide) r.2⟩) (Cert.NormPromptReferenceIdeal.Value.run m g)

set_option maxHeartbeats 1600000 in
theorem algebraic : Cert.algebraic_NormPromptIdeal_NormPromptReferenceIdeal := by
  pair_intro
  · run_from Cert.NormPromptIdeal.Gen.run_main m g
  · run_from Cert.NormPromptReferenceIdeal.Value.run m' g'
    exact (Cert.NormPromptIdeal.ValueProof.final m c).symm

end Cert.Proof.NormPrompt
-- ==== Proof.NormSampleValue.lean ====
module

public import proofs.«01_k».proof.Proof.Gen.NormSampleIdeal.Value
public import proofs.«01_k».proof.Proof.Gen.NormSampleReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormSampleIdeal.ValueProof

open Cert.NormSampleIdeal Cert.NormSampleIdeal.Gen

variable (m : (ℓ : Loc nD τ sig) → Buf (Elt Ideal) ℓ)

/-- The reference's term over the kernel's argument arrays. -/
abbrev REF (x0 : FVec Ideal S24576x4096 .f32) (x1 : FVec Ideal S4096 .f32) : FVec Ideal S8192x4096 .f32 :=
  Cert.NormSampleReferenceIdeal.Read.val_main_v13 (F := Ideal) x0 x1

theorem idx : ∀ t : Fin cfg0.N, win0_0.index t = ![64 + t.val, 0] ∧ win0_1.index t = ![0, 0] ∧ win0_2.index t = ![t.val, 0] :=
  (by decide +kernel : ∀ t : Fin grid0.N, _)

/-- The scales the region reads are the argument's as one row. -/
theorem V_main_v0 (c : Dev nD) (j : Fin 4096) : V m c main_v0 (ix2 0 j) = m ((c : Thread nD τ).loc main_arg1) (ix1 j) := by
  entry_read
  pointwise [shapeCast]

/-- What a point stores is the reference's term at the index its block puts it. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  idx_vars y
  pointwise [k0_pay1, REF, Cert.NormSampleReferenceIdeal.Read.val_main_v13, Cert.NormSampleReferenceIdeal.Read.val_main_v12, Cert.NormSampleReferenceIdeal.Read.val_main_v11, Cert.NormSampleReferenceIdeal.Read.val_main_v10, Cert.NormSampleReferenceIdeal.Read.val_main_v9, Cert.NormSampleReferenceIdeal.Read.val_main_v8, Cert.NormSampleReferenceIdeal.Read.val_main_v7, Cert.NormSampleReferenceIdeal.Read.val_main_v6, Cert.NormSampleReferenceIdeal.Read.val_main_cst_1, Cert.NormSampleReferenceIdeal.Read.val_main_v5, Cert.NormSampleReferenceIdeal.Read.val_main_v4, Cert.NormSampleReferenceIdeal.Read.val_main_cst_0, Cert.NormSampleReferenceIdeal.Read.val_main_v3, Cert.NormSampleReferenceIdeal.Read.val_main_v2, Cert.NormSampleReferenceIdeal.Read.val_main_cst, Cert.NormSampleReferenceIdeal.Read.val_main_v1, Cert.NormSampleReferenceIdeal.Read.val_main_v0]
  blk_point [iblk, V, idx t]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormSampleIdeal.ValueProof

end
-- ==== Proof.NormSampleClaim.lean ====
module

public import proofs.«01_k».proof.Defs
public import proofs.«01_k».proof.Proof.Gen.NormSample
public import proofs.«01_k».proof.Proof.Gen.NormSample.Frame
public import proofs.«01_k».proof.Proof.Gen.NormSampleIdeal
public import proofs.«01_k».proof.Proof.Gen.NormSampleIdeal.Frame
public import proofs.«01_k».proof.Proof.Gen.NormSampleReferenceIdeal
public import proofs.«01_k».proof.Proof.Gen.NormSampleReferenceIdeal.Run
public import proofs.«01_k».proof.Proof.NormSampleValue
public import Idealize.ShloMosaic.Lib.Claim
public import Idealize.ShloMosaic.Lib.Quiescent

@[expose] public section

set_option maxRecDepth 16384

noncomputable section

open Idealize.ShloMosaic Idealize.SL.Sem

namespace Cert.Proof.NormSample

theorem frame_kernel : Cert.quiescent_NormSample := fun m ρ _ => Cert.NormSample.Gen.frame m ρ

theorem frame_ideal : Cert.quiescent_NormSampleIdeal := fun m ρ _ => Cert.NormSampleIdeal.Gen.frame m ρ

theorem frame_reference : Cert.quiescent_NormSampleReferenceIdeal := fun m g _ =>
  (θ_run _ _ _).mono (fun r h => ⟨fun c => (h c).2, sem_eq_zero_of_no_sems (by decide) r.2⟩) (Cert.NormSampleReferenceIdeal.Value.run m g)

set_option maxHeartbeats 1600000 in
theorem algebraic : Cert.algebraic_NormSampleIdeal_NormSampleReferenceIdeal := by
  pair_intro
  · run_from Cert.NormSampleIdeal.Gen.run_main m g
  · run_from Cert.NormSampleReferenceIdeal.Value.run m' g'
    exact (Cert.NormSampleIdeal.ValueProof.final m c).symm

end Cert.Proof.NormSample
-- ==== Proof.NormMixersValue.lean ====
module

public import proofs.«01_k».proof.Proof.Gen.NormMixersIdeal.Value
public import proofs.«01_k».proof.Proof.Gen.NormMixersReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormMixersIdeal.ValueProof

open Cert.NormMixersIdeal Cert.NormMixersIdeal.Gen

variable (m : (ℓ : Loc nD τ sig) → Buf (Elt Ideal) ℓ)

/-- The reference's term over the kernel's argument arrays. -/
abbrev REF (x0 : FVec Ideal S24576x4096 .f32) (x1 : FVec Ideal S2x4096 .f32) : FVec Ideal S24576x4096 .bf16 :=
  Cert.NormMixersReferenceIdeal.Read.val_main_v15 (F := Ideal) x0 x1

theorem idx : ∀ t : Fin cfg0.N, win0_0.index t = ![t.val, 0] ∧ win0_1.index t = ![0, 0] ∧ win0_2.index t = ![t.val, 0] :=
  (by decide +kernel : ∀ t : Fin grid0.N, _)

/-- The scales the region reads are the first layer's, as one row. -/
theorem V_main_v2 (c : Dev nD) (j : Fin 4096) : V m c main_v2 (ix2 0 j) = m ((c : Thread nD τ).loc main_arg1) (ix2 0 j) := by
  entry_read
  pointwise [shapeCast, extractStridedSlice]
  exact congrArg (m ((c : Thread nD τ).loc main_arg1)) (by funext a; refine Fin.ext ?_; fin_cases a <;> simp)

/-- What a point stores is the reference's term at the index its block puts it. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  idx_vars y
  pointwise [k0_pay1, REF, Cert.NormMixersReferenceIdeal.Read.val_main_v15, Cert.NormMixersReferenceIdeal.Read.val_main_v14, Cert.NormMixersReferenceIdeal.Read.val_main_v13, Cert.NormMixersReferenceIdeal.Read.val_main_v12, Cert.NormMixersReferenceIdeal.Read.val_main_v11, Cert.NormMixersReferenceIdeal.Read.val_main_v10, Cert.NormMixersReferenceIdeal.Read.val_main_v9, Cert.NormMixersReferenceIdeal.Read.val_main_v8, Cert.NormMixersReferenceIdeal.Read.val_main_v7, Cert.NormMixersReferenceIdeal.Read.val_main_cst_1, Cert.NormMixersReferenceIdeal.Read.val_main_v6, Cert.NormMixersReferenceIdeal.Read.val_main_v5, Cert.NormMixersReferenceIdeal.Read.val_main_cst_0, Cert.NormMixersReferenceIdeal.Read.val_main_v4, Cert.NormMixersReferenceIdeal.Read.val_main_v3, Cert.NormMixersReferenceIdeal.Read.val_main_cst, Cert.NormMixersReferenceIdeal.Read.val_main_v2, Cert.NormMixersReferenceIdeal.Read.val_main_v1, Cert.NormMixersReferenceIdeal.Read.val_main_v0]
  blk_point [iblk, V, idx t]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormMixersIdeal.ValueProof

end
-- ==== Proof.NormMixersClaim.lean ====
module

public import proofs.«01_k».proof.Defs
public import proofs.«01_k».proof.Proof.Gen.NormMixers
public import proofs.«01_k».proof.Proof.Gen.NormMixers.Frame
public import proofs.«01_k».proof.Proof.Gen.NormMixersIdeal
public import proofs.«01_k».proof.Proof.Gen.NormMixersIdeal.Frame
public import proofs.«01_k».proof.Proof.Gen.NormMixersReferenceIdeal
public import proofs.«01_k».proof.Proof.Gen.NormMixersReferenceIdeal.Run
public import proofs.«01_k».proof.Proof.NormMixersValue
public import Idealize.ShloMosaic.Lib.Claim
public import Idealize.ShloMosaic.Lib.Quiescent

@[expose] public section

set_option maxRecDepth 16384

noncomputable section

open Idealize.ShloMosaic Idealize.SL.Sem

namespace Cert.Proof.NormMixers

theorem frame_kernel : Cert.quiescent_NormMixers := fun m ρ _ => Cert.NormMixers.Gen.frame m ρ

theorem frame_ideal : Cert.quiescent_NormMixersIdeal := fun m ρ _ => Cert.NormMixersIdeal.Gen.frame m ρ

theorem frame_reference : Cert.quiescent_NormMixersReferenceIdeal := fun m g _ =>
  (θ_run _ _ _).mono (fun r h => ⟨fun c => (h c).2, sem_eq_zero_of_no_sems (by decide) r.2⟩) (Cert.NormMixersReferenceIdeal.Value.run m g)

set_option maxHeartbeats 1600000 in
theorem algebraic : Cert.algebraic_NormMixersIdeal_NormMixersReferenceIdeal := by
  pair_intro
  · run_from Cert.NormMixersIdeal.Gen.run_main m g
  · run_from Cert.NormMixersReferenceIdeal.Value.run m' g'
    exact (Cert.NormMixersIdeal.ValueProof.final m c).symm

end Cert.Proof.NormMixers
-- ==== Proof.ConvReference.lean ====
module

public import proofs.«01_k».proof.Proof.Gen.ConvReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ConvIdeal.ValueProof

/-- The gated rows, sixteen rows of zeros before the first and after the last. -/
def gated (u : FVec Ideal (⟨2, ![24576, 9216]⟩ : Shape) .bf16) (p : ℕ) (j : Fin 1024) : EReal :=
  if h : 16 ≤ p ∧ p - 16 < 16384 then
    u (ix2 ⟨p - 16, by omega⟩ ⟨4096 + j.val, by omega⟩) * Ideal.logistic (u (ix2 ⟨p - 16, by omega⟩ ⟨5120 + j.val, by omega⟩))
  else 0

/-- The first `n` of the products `f`, added to `s` in order. -/
def taps (s : EReal) (f : ℕ → EReal) : ℕ → EReal
  | 0 => s
  | n + 1 => taps s f n + f n

theorem taps_start (s : EReal) (f : ℕ → EReal) : ∀ n, taps s f n = taps 0 f n + s
  | 0 => (zero_add s).symm
  | n + 1 => by rw [taps, taps, taps_start s f n]; exact add_right_comm _ _ _

/-- A row less its mean, over the root of its variance. -/
def unit (x : Fin 1024 → EReal) (j : Fin 1024) : EReal :=
  (x j - Ideal.div (∑ k : Fin 1024, x k) (Ideal.ofBits .f32 0x44800000#32))
    * Ideal.rsqrt (Ideal.div (∑ k : Fin 1024, (x k - Ideal.div (∑ l : Fin 1024, x l) (Ideal.ofBits .f32 0x44800000#32))
        * (x k - Ideal.div (∑ l : Fin 1024, x l) (Ideal.ofBits .f32 0x44800000#32))) (Ideal.ofBits .f32 0x44800000#32)
      + Ideal.ofBits .f32 0x3727C5AC#32)

/-- That row scaled and shifted, times its logistic. -/
def activated (x g s : Fin 1024 → EReal) (j : Fin 1024) : EReal :=
  (unit x j * g j + s j) * Ideal.logistic (unit x j * g j + s j)

namespace Reference

variable (u : FVec Ideal (⟨2, ![24576, 9216]⟩ : Shape) .bf16) (w : FVec Ideal (⟨3, ![2, 31, 1024]⟩ : Shape) .f32)
  (b g s : FVec Ideal (⟨2, ![2, 1024]⟩ : Shape) .f32)

theorem product_at (i : Fin 16384) (j : Fin 1024) : Cert.ConvReferenceIdeal.Read.val_main_v10 (F := Ideal) u (ix2 i j) = gated u (i.val + 16) j := by
  have h : 16 ≤ i.val + 16 ∧ i.val + 16 - 16 < 16384 := by omega
  rw [gated, dif_pos h]
  simp only [Nat.add_sub_cancel]
  pointwise [Cert.ConvReferenceIdeal.Read.val_main_v10, Cert.ConvReferenceIdeal.Read.val_main_v9, Cert.ConvReferenceIdeal.Read.val_main_v8, Cert.ConvReferenceIdeal.Read.val_main_v7, Cert.ConvReferenceIdeal.Read.val_main_v6, Cert.ConvReferenceIdeal.Read.val_main_cst, Cert.ConvReferenceIdeal.Read.val_main_cst_0, Cert.ConvReferenceIdeal.Read.val_main_v5, Cert.ConvReferenceIdeal.Read.val_main_v4, Cert.ConvReferenceIdeal.Read.val_main_v3, Cert.ConvReferenceIdeal.Read.val_main_v2, Cert.ConvReferenceIdeal.Read.val_main_v1, Cert.ConvReferenceIdeal.Read.val_main_v0, Ideal.logistic]

theorem padded_at (p : Fin 16414) (j : Fin 1024) : Cert.ConvReferenceIdeal.Read.val_main_v11 (F := Ideal) u (ix2 p j) = gated u (p.val + 1) j := by
  unfold Cert.ConvReferenceIdeal.Read.val_main_v11
  rw [pad_apply]
  split
  · rename_i h
    have h0 : 15 ≤ p.val ∧ p.val - 15 < 16384 := by
      have := h 0; simp at this; exact ⟨this.1, this.2.2⟩
    refine (congrArg (Cert.ConvReferenceIdeal.Read.val_main_v10 (F := Ideal) u) (?_ : _ = ix2 ⟨p.val - 15, h0.2⟩ j)).trans ?_
    · funext a; refine Fin.ext ?_; fin_cases a
      · exact Nat.div_one (p.val - 15)
      · exact Nat.div_one j.val
    · rw [product_at]; exact congrArg (fun n => gated u n j) (show p.val - 15 + 16 = p.val + 1 by omega)
  · rename_i h
    rw [gated, dif_neg fun hp => h fun a => ?_]
    · pointwise [Cert.ConvReferenceIdeal.Read.val_main_call0_v0, Cert.ConvReferenceIdeal.Read.val_main_c]
      show (((0 : ℤ) : ℝ) : EReal) = 0
      simp
    · fin_cases a <;> simp <;> omega

set_option maxHeartbeats 4000000 in
theorem row_at (i : Fin 16384) (j : Fin 1024) : Cert.ConvReferenceIdeal.Read.val_main_v234 (F := Ideal) u w b (ix2 i j)
    = taps 0 (fun k => gated u (k + i.val + 1) j * w (ix3 0 (Fin.ofNat 31 k) j)) 31 + b (ix2 0 j) := by
  pointwise [Cert.ConvReferenceIdeal.Read.val_main_v234, Cert.ConvReferenceIdeal.Read.val_main_v233, Cert.ConvReferenceIdeal.Read.val_main_v232, Cert.ConvReferenceIdeal.Read.val_main_v231, Cert.ConvReferenceIdeal.Read.val_main_v230, Cert.ConvReferenceIdeal.Read.val_main_v229, Cert.ConvReferenceIdeal.Read.val_main_v228, Cert.ConvReferenceIdeal.Read.val_main_v227, Cert.ConvReferenceIdeal.Read.val_main_v226, Cert.ConvReferenceIdeal.Read.val_main_v225, Cert.ConvReferenceIdeal.Read.val_main_v224, Cert.ConvReferenceIdeal.Read.val_main_v223, Cert.ConvReferenceIdeal.Read.val_main_v222, Cert.ConvReferenceIdeal.Read.val_main_v221, Cert.ConvReferenceIdeal.Read.val_main_v220, Cert.ConvReferenceIdeal.Read.val_main_v219, Cert.ConvReferenceIdeal.Read.val_main_v218, Cert.ConvReferenceIdeal.Read.val_main_v217, Cert.ConvReferenceIdeal.Read.val_main_v216, Cert.ConvReferenceIdeal.Read.val_main_v215, Cert.ConvReferenceIdeal.Read.val_main_v214, Cert.ConvReferenceIdeal.Read.val_main_v213, Cert.ConvReferenceIdeal.Read.val_main_v212, Cert.ConvReferenceIdeal.Read.val_main_v211, Cert.ConvReferenceIdeal.Read.val_main_v210, Cert.ConvReferenceIdeal.Read.val_main_v209, Cert.ConvReferenceIdeal.Read.val_main_v208, Cert.ConvReferenceIdeal.Read.val_main_v207, Cert.ConvReferenceIdeal.Read.val_main_v206, Cert.ConvReferenceIdeal.Read.val_main_v205, Cert.ConvReferenceIdeal.Read.val_main_v204, Cert.ConvReferenceIdeal.Read.val_main_v203, Cert.ConvReferenceIdeal.Read.val_main_v202, Cert.ConvReferenceIdeal.Read.val_main_v201, Cert.ConvReferenceIdeal.Read.val_main_v200, Cert.ConvReferenceIdeal.Read.val_main_v199, Cert.ConvReferenceIdeal.Read.val_main_v198, Cert.ConvReferenceIdeal.Read.val_main_v197, Cert.ConvReferenceIdeal.Read.val_main_v196, Cert.ConvReferenceIdeal.Read.val_main_v195, Cert.ConvReferenceIdeal.Read.val_main_v194, Cert.ConvReferenceIdeal.Read.val_main_v193, Cert.ConvReferenceIdeal.Read.val_main_v192, Cert.ConvReferenceIdeal.Read.val_main_v191, Cert.ConvReferenceIdeal.Read.val_main_v190, Cert.ConvReferenceIdeal.Read.val_main_v189, Cert.ConvReferenceIdeal.Read.val_main_v188, Cert.ConvReferenceIdeal.Read.val_main_v187, Cert.ConvReferenceIdeal.Read.val_main_v186, Cert.ConvReferenceIdeal.Read.val_main_v185, Cert.ConvReferenceIdeal.Read.val_main_v184, Cert.ConvReferenceIdeal.Read.val_main_v183, Cert.ConvReferenceIdeal.Read.val_main_v182, Cert.ConvReferenceIdeal.Read.val_main_v181, Cert.ConvReferenceIdeal.Read.val_main_v180, Cert.ConvReferenceIdeal.Read.val_main_v179, Cert.ConvReferenceIdeal.Read.val_main_v178, Cert.ConvReferenceIdeal.Read.val_main_v177, Cert.ConvReferenceIdeal.Read.val_main_v176, Cert.ConvReferenceIdeal.Read.val_main_v175, Cert.ConvReferenceIdeal.Read.val_main_v174, Cert.ConvReferenceIdeal.Read.val_main_v173, Cert.ConvReferenceIdeal.Read.val_main_v172, Cert.ConvReferenceIdeal.Read.val_main_v171, Cert.ConvReferenceIdeal.Read.val_main_v170, Cert.ConvReferenceIdeal.Read.val_main_v169, Cert.ConvReferenceIdeal.Read.val_main_v168, Cert.ConvReferenceIdeal.Read.val_main_v167, Cert.ConvReferenceIdeal.Read.val_main_v166, Cert.ConvReferenceIdeal.Read.val_main_v165, Cert.ConvReferenceIdeal.Read.val_main_v164, Cert.ConvReferenceIdeal.Read.val_main_v163, Cert.ConvReferenceIdeal.Read.val_main_v162, Cert.ConvReferenceIdeal.Read.val_main_v161, Cert.ConvReferenceIdeal.Read.val_main_v160, Cert.ConvReferenceIdeal.Read.val_main_v159, Cert.ConvReferenceIdeal.Read.val_main_v158, Cert.ConvReferenceIdeal.Read.val_main_v157, Cert.ConvReferenceIdeal.Read.val_main_v156, Cert.ConvReferenceIdeal.Read.val_main_v155, Cert.ConvReferenceIdeal.Read.val_main_v154, Cert.ConvReferenceIdeal.Read.val_main_v153, Cert.ConvReferenceIdeal.Read.val_main_v152, Cert.ConvReferenceIdeal.Read.val_main_v151, Cert.ConvReferenceIdeal.Read.val_main_v150, Cert.ConvReferenceIdeal.Read.val_main_v149, Cert.ConvReferenceIdeal.Read.val_main_v148, Cert.ConvReferenceIdeal.Read.val_main_v147, Cert.ConvReferenceIdeal.Read.val_main_v146, Cert.ConvReferenceIdeal.Read.val_main_v145, Cert.ConvReferenceIdeal.Read.val_main_v144, Cert.ConvReferenceIdeal.Read.val_main_v143, Cert.ConvReferenceIdeal.Read.val_main_v142, Cert.ConvReferenceIdeal.Read.val_main_v141, Cert.ConvReferenceIdeal.Read.val_main_v140, Cert.ConvReferenceIdeal.Read.val_main_v139, Cert.ConvReferenceIdeal.Read.val_main_v138, Cert.ConvReferenceIdeal.Read.val_main_v137, Cert.ConvReferenceIdeal.Read.val_main_v136, Cert.ConvReferenceIdeal.Read.val_main_v135, Cert.ConvReferenceIdeal.Read.val_main_v134, Cert.ConvReferenceIdeal.Read.val_main_v133, Cert.ConvReferenceIdeal.Read.val_main_v132, Cert.ConvReferenceIdeal.Read.val_main_v131, Cert.ConvReferenceIdeal.Read.val_main_v130, Cert.ConvReferenceIdeal.Read.val_main_v129, Cert.ConvReferenceIdeal.Read.val_main_v128, Cert.ConvReferenceIdeal.Read.val_main_v127, Cert.ConvReferenceIdeal.Read.val_main_v126, Cert.ConvReferenceIdeal.Read.val_main_v125, Cert.ConvReferenceIdeal.Read.val_main_v124, Cert.ConvReferenceIdeal.Read.val_main_v123, Cert.ConvReferenceIdeal.Read.val_main_v122, Cert.ConvReferenceIdeal.Read.val_main_v121, Cert.ConvReferenceIdeal.Read.val_main_v120, Cert.ConvReferenceIdeal.Read.val_main_v119, Cert.ConvReferenceIdeal.Read.val_main_v118, Cert.ConvReferenceIdeal.Read.val_main_v117, Cert.ConvReferenceIdeal.Read.val_main_v116, Cert.ConvReferenceIdeal.Read.val_main_v115, Cert.ConvReferenceIdeal.Read.val_main_v114, Cert.ConvReferenceIdeal.Read.val_main_v113, Cert.ConvReferenceIdeal.Read.val_main_v112, Cert.ConvReferenceIdeal.Read.val_main_v111, Cert.ConvReferenceIdeal.Read.val_main_v110, Cert.ConvReferenceIdeal.Read.val_main_v109, Cert.ConvReferenceIdeal.Read.val_main_v108, Cert.ConvReferenceIdeal.Read.val_main_v107, Cert.ConvReferenceIdeal.Read.val_main_v106, Cert.ConvReferenceIdeal.Read.val_main_v105, Cert.ConvReferenceIdeal.Read.val_main_v104, Cert.ConvReferenceIdeal.Read.val_main_v103, Cert.ConvReferenceIdeal.Read.val_main_v102, Cert.ConvReferenceIdeal.Read.val_main_v101, Cert.ConvReferenceIdeal.Read.val_main_v100, Cert.ConvReferenceIdeal.Read.val_main_v99, Cert.ConvReferenceIdeal.Read.val_main_v98, Cert.ConvReferenceIdeal.Read.val_main_v97, Cert.ConvReferenceIdeal.Read.val_main_v96, Cert.ConvReferenceIdeal.Read.val_main_v95, Cert.ConvReferenceIdeal.Read.val_main_v94, Cert.ConvReferenceIdeal.Read.val_main_v93, Cert.ConvReferenceIdeal.Read.val_main_v92, Cert.ConvReferenceIdeal.Read.val_main_v91, Cert.ConvReferenceIdeal.Read.val_main_v90, Cert.ConvReferenceIdeal.Read.val_main_v89, Cert.ConvReferenceIdeal.Read.val_main_v88, Cert.ConvReferenceIdeal.Read.val_main_v87, Cert.ConvReferenceIdeal.Read.val_main_v86, Cert.ConvReferenceIdeal.Read.val_main_v85, Cert.ConvReferenceIdeal.Read.val_main_v84, Cert.ConvReferenceIdeal.Read.val_main_v83, Cert.ConvReferenceIdeal.Read.val_main_v82, Cert.ConvReferenceIdeal.Read.val_main_v81, Cert.ConvReferenceIdeal.Read.val_main_v80, Cert.ConvReferenceIdeal.Read.val_main_v79, Cert.ConvReferenceIdeal.Read.val_main_v78, Cert.ConvReferenceIdeal.Read.val_main_v77, Cert.ConvReferenceIdeal.Read.val_main_v76, Cert.ConvReferenceIdeal.Read.val_main_v75, Cert.ConvReferenceIdeal.Read.val_main_v74, Cert.ConvReferenceIdeal.Read.val_main_v73, Cert.ConvReferenceIdeal.Read.val_main_v72, Cert.ConvReferenceIdeal.Read.val_main_v71, Cert.ConvReferenceIdeal.Read.val_main_v70, Cert.ConvReferenceIdeal.Read.val_main_v69, Cert.ConvReferenceIdeal.Read.val_main_v68, Cert.ConvReferenceIdeal.Read.val_main_v67, Cert.ConvReferenceIdeal.Read.val_main_v66, Cert.ConvReferenceIdeal.Read.val_main_v65, Cert.ConvReferenceIdeal.Read.val_main_v64, Cert.ConvReferenceIdeal.Read.val_main_v63, Cert.ConvReferenceIdeal.Read.val_main_v62, Cert.ConvReferenceIdeal.Read.val_main_v61, Cert.ConvReferenceIdeal.Read.val_main_v60, Cert.ConvReferenceIdeal.Read.val_main_v59, Cert.ConvReferenceIdeal.Read.val_main_v58, Cert.ConvReferenceIdeal.Read.val_main_v57, Cert.ConvReferenceIdeal.Read.val_main_v56, Cert.ConvReferenceIdeal.Read.val_main_v55, Cert.ConvReferenceIdeal.Read.val_main_v54, Cert.ConvReferenceIdeal.Read.val_main_v53, Cert.ConvReferenceIdeal.Read.val_main_v52, Cert.ConvReferenceIdeal.Read.val_main_v51, Cert.ConvReferenceIdeal.Read.val_main_v50, Cert.ConvReferenceIdeal.Read.val_main_v49, Cert.ConvReferenceIdeal.Read.val_main_v48, Cert.ConvReferenceIdeal.Read.val_main_v47, Cert.ConvReferenceIdeal.Read.val_main_v46, Cert.ConvReferenceIdeal.Read.val_main_v45, Cert.ConvReferenceIdeal.Read.val_main_v44, Cert.ConvReferenceIdeal.Read.val_main_v43, Cert.ConvReferenceIdeal.Read.val_main_v42, Cert.ConvReferenceIdeal.Read.val_main_v41, Cert.ConvReferenceIdeal.Read.val_main_v40, Cert.ConvReferenceIdeal.Read.val_main_v39, Cert.ConvReferenceIdeal.Read.val_main_v38, Cert.ConvReferenceIdeal.Read.val_main_v37, Cert.ConvReferenceIdeal.Read.val_main_v36, Cert.ConvReferenceIdeal.Read.val_main_v35, Cert.ConvReferenceIdeal.Read.val_main_v34, Cert.ConvReferenceIdeal.Read.val_main_v33, Cert.ConvReferenceIdeal.Read.val_main_v32, Cert.ConvReferenceIdeal.Read.val_main_v31, Cert.ConvReferenceIdeal.Read.val_main_v30, Cert.ConvReferenceIdeal.Read.val_main_v29, Cert.ConvReferenceIdeal.Read.val_main_v28, Cert.ConvReferenceIdeal.Read.val_main_v27, Cert.ConvReferenceIdeal.Read.val_main_v26, Cert.ConvReferenceIdeal.Read.val_main_v25, Cert.ConvReferenceIdeal.Read.val_main_v24, Cert.ConvReferenceIdeal.Read.val_main_v23, Cert.ConvReferenceIdeal.Read.val_main_v22, Cert.ConvReferenceIdeal.Read.val_main_v21, Cert.ConvReferenceIdeal.Read.val_main_v20, Cert.ConvReferenceIdeal.Read.val_main_v19, Cert.ConvReferenceIdeal.Read.val_main_v18, Cert.ConvReferenceIdeal.Read.val_main_v17, Cert.ConvReferenceIdeal.Read.val_main_v16, Cert.ConvReferenceIdeal.Read.val_main_v15, Cert.ConvReferenceIdeal.Read.val_main_v14, Cert.ConvReferenceIdeal.Read.val_main_v13, Cert.ConvReferenceIdeal.Read.val_main_v12, Cert.ConvReferenceIdeal.Read.val_main_cst_1]
  simp only [padded_at, taps, zero_add]
  rfl

theorem result_at (i : Fin 16384) (j : Fin 1024) : Cert.ConvReferenceIdeal.Read.val_main_v262 (F := Ideal) u w b g s (ix2 i j)
    = activated (fun k => Cert.ConvReferenceIdeal.Read.val_main_v234 (F := Ideal) u w b (ix2 i k)) (fun k => g (ix2 0 k)) (fun k => s (ix2 0 k)) j := by
  pointwise [Cert.ConvReferenceIdeal.Read.val_main_v262, Cert.ConvReferenceIdeal.Read.val_main_v261, Cert.ConvReferenceIdeal.Read.val_main_call1_v5, Cert.ConvReferenceIdeal.Read.val_main_call1_v4, Cert.ConvReferenceIdeal.Read.val_main_call1_cst_0, Cert.ConvReferenceIdeal.Read.val_main_call1_v3, Cert.ConvReferenceIdeal.Read.val_main_call1_v2, Cert.ConvReferenceIdeal.Read.val_main_call1_cst, Cert.ConvReferenceIdeal.Read.val_main_call1_v1, Cert.ConvReferenceIdeal.Read.val_main_call1_v0, Cert.ConvReferenceIdeal.Read.val_main_v260, Cert.ConvReferenceIdeal.Read.val_main_v259, Cert.ConvReferenceIdeal.Read.val_main_v258, Cert.ConvReferenceIdeal.Read.val_main_v257, Cert.ConvReferenceIdeal.Read.val_main_v256, Cert.ConvReferenceIdeal.Read.val_main_v255, Cert.ConvReferenceIdeal.Read.val_main_v254, Cert.ConvReferenceIdeal.Read.val_main_v253, Cert.ConvReferenceIdeal.Read.val_main_v252, Cert.ConvReferenceIdeal.Read.val_main_v251, Cert.ConvReferenceIdeal.Read.val_main_v250, Cert.ConvReferenceIdeal.Read.val_main_v249, Cert.ConvReferenceIdeal.Read.val_main_v248, Cert.ConvReferenceIdeal.Read.val_main_v247, Cert.ConvReferenceIdeal.Read.val_main_v246, Cert.ConvReferenceIdeal.Read.val_main_v245, Cert.ConvReferenceIdeal.Read.val_main_v244, Cert.ConvReferenceIdeal.Read.val_main_v243, Cert.ConvReferenceIdeal.Read.val_main_v242, Cert.ConvReferenceIdeal.Read.val_main_v241, Cert.ConvReferenceIdeal.Read.val_main_v240, Cert.ConvReferenceIdeal.Read.val_main_v239, Cert.ConvReferenceIdeal.Read.val_main_v238, Cert.ConvReferenceIdeal.Read.val_main_v237, Cert.ConvReferenceIdeal.Read.val_main_v236, Cert.ConvReferenceIdeal.Read.val_main_v235, Cert.ConvReferenceIdeal.Read.val_main_cst_2, Cert.ConvReferenceIdeal.Read.val_main_cst_3, Cert.ConvReferenceIdeal.Read.val_main_cst_4, Cert.ConvReferenceIdeal.Read.val_main_cst_5, Cert.ConvReferenceIdeal.Read.val_main_cst_6, activated, unit, Ideal.logistic]

end Reference

end Cert.ConvIdeal.ValueProof

end
-- ==== Proof.ConvValue.lean ====
module

public import proofs.«01_k».proof.Proof.Gen.ConvIdeal.Value
public import proofs.«01_k».proof.Proof.ConvReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.ValueProof

open Cert.ConvIdeal Cert.ConvIdeal.Gen

variable (m : (ℓ : Loc nD τ sig) → Buf (Elt Ideal) ℓ)

/-- The reference's term over the kernel's argument arrays. -/
abbrev REF (c : Dev nD) : FVec Ideal S16384x1024 .bf16 :=
  Cert.ConvReferenceIdeal.Read.val_main_v262 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The block of the array every window stages at a point: the halos' are clamped to the array. -/
theorem idx : ∀ t : Fin cfg0.N, win0_0.index t = ![t.val * 16 - 1, 4] ∧ win0_1.index t = ![t.val, 4] ∧ win0_2.index t = ![(t.val + 1) * 16, 4]
    ∧ win0_3.index t = ![t.val * 16 - 1, 5] ∧ win0_4.index t = ![t.val, 5] ∧ win0_5.index t = ![(t.val + 1) * 16, 5]
    ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, _)

theorem coords : ∀ t : Fin cfg0.N, ((grid0.coords t) 1).val = t.val :=
  (by decide +kernel : ∀ t : Fin grid0.N, _)

/-- What the region reads: the first layer's taps, and its bias, scale and shift as rows. -/
theorem V_main_v1 (c : Dev nD) (k : Fin 31) (j : Fin 1024) : V m c main_v1 (ix2 k j) = m ((c : Thread nD τ).loc main_arg1) (ix3 0 k j) := by
  entry_read
  pointwise [shapeCast, extractStridedSlice]
  exact congrArg (m ((c : Thread nD τ).loc main_arg1)) (by funext a; refine Fin.ext ?_; fin_cases a <;> simp)

theorem V_main_v8 (c : Dev nD) (j : Fin 1024) : V m c main_v8 (ix2 0 j) = m ((c : Thread nD τ).loc main_arg2) (ix2 0 j) := by
  entry_read
  pointwise [shapeCast, extractStridedSlice]
  exact congrArg (m ((c : Thread nD τ).loc main_arg2)) (by funext a; refine Fin.ext ?_; fin_cases a <;> simp)

theorem V_main_v9 (c : Dev nD) (j : Fin 1024) : V m c main_v9 (ix2 0 j) = m ((c : Thread nD τ).loc main_arg3) (ix2 0 j) := by
  entry_read
  pointwise [shapeCast, extractStridedSlice]
  exact congrArg (m ((c : Thread nD τ).loc main_arg3)) (by funext a; refine Fin.ext ?_; fin_cases a <;> simp)

theorem V_main_v10 (c : Dev nD) (j : Fin 1024) : V m c main_v10 (ix2 0 j) = m ((c : Thread nD τ).loc main_arg4) (ix2 0 j) := by
  entry_read
  pointwise [shapeCast, extractStridedSlice]
  exact congrArg (m ((c : Thread nD τ).loc main_arg4)) (by funext a; refine Fin.ext ?_; fin_cases a <;> simp)

/-- The gated rows a point's scratch holds: the point's own and sixteen on each side. -/
abbrev held (c : Dev nD) (t : Fin cfg0.N) (y : S288x1024.Idx) : EReal :=
  gated (m ((c : Thread nD τ).loc main_arg0)) (t.val * 256 + (y 0).val) (y 1)

/-- Whether a point has rows before its own, and after. -/
theorem has_before : ∀ t : Fin 64, Scalar.cmpi .sgt (BitVec.ofNat 32 t.val) 0#32 = if t.val = 0 then 0#1 else 1#1 := by decide +kernel

theorem has_after : ∀ t : Fin 64, Scalar.cmpi .slt (BitVec.ofNat 32 t.val) 63#32 = if t.val = 63 then 0#1 else 1#1 := by decide +kernel

theorem before_at (c : Dev nD) (t : Fin cfg0.N) (a : Fin 16) (j : Fin 1024) :
    k0_pay2 (grid0.coords t) (iblk m c 0 t) (iblk m c 3 t) (ix2 a j) = gated (m ((c : Thread nD τ).loc main_arg0)) (t.val * 256 + a.val) j := by
  have ht : t.val < 64 := t.isLt
  pointwise [k0_pay2, coords t]
  rw [has_before t]
  split
  · rw [gated, dif_neg (by omega)]
    rfl
  · rw [gated, dif_pos ⟨by omega, by omega⟩]
    show _ * Ideal.logistic _ = _
    blk_point [iblk, V, idx t]

theorem own_at (c : Dev nD) (t : Fin cfg0.N) (a : Fin 256) (j : Fin 1024) :
    k0_pay3 (iblk m c 1 t) (iblk m c 4 t) (ix2 a j) = gated (m ((c : Thread nD τ).loc main_arg0)) (t.val * 256 + (16 + a.val)) j := by
  have ht : t.val < 64 := t.isLt
  rw [gated, dif_pos ⟨by omega, by omega⟩]
  pointwise [k0_pay3, Ideal.logistic]
  blk_point [iblk, V, idx t]

theorem after_at (c : Dev nD) (t : Fin cfg0.N) (a : Fin 16) (j : Fin 1024) :
    k0_pay4 (grid0.coords t) (iblk m c 2 t) (iblk m c 5 t) (ix2 a j) = gated (m ((c : Thread nD τ).loc main_arg0)) (t.val * 256 + (272 + a.val)) j := by
  have ht : t.val < 64 := t.isLt
  pointwise [k0_pay4, coords t]
  rw [has_after t]
  split
  · rw [gated, dif_neg (by omega)]
    rfl
  · rw [gated, dif_pos ⟨by omega, by omega⟩]
    show _ * Ideal.logistic _ = _
    blk_point [iblk, V, idx t]

/-- The stores that fill the first scratch, and those that fill the second with its shifted copies. -/
abbrev rows (c : Dev nD) (t : Fin cfg0.N) : List (View.Piece (Elt Ideal) S288x1024 .f32) :=
  [⟨Rect.unit ![272, 0] ![16, 1024] inb_S288x1024_S16x1024_272_0, k0_pay4 (grid0.coords t) (iblk m c 2 t) (iblk m c 5 t)⟩,
   ⟨Rect.unit ![16, 0] ![256, 1024] inb_S288x1024_S256x1024_16_0, k0_pay3 (iblk m c 1 t) (iblk m c 4 t)⟩,
   ⟨Rect.unit ![0, 0] ![16, 1024] inb_S288x1024_S16x1024_0_0, k0_pay2 (grid0.coords t) (iblk m c 0 t) (iblk m c 3 t)⟩]

theorem rows_at (c : Dev nD) (t : Fin cfg0.N) (y : S288x1024.Idx) : View.canon (rows m c t) y = held m c t y := by
  have cover : ∃ p ∈ rows m c t, y ∈ p.1.set := by
    have hy : (y 0).val < 288 := (y 0).isLt
    rcases Nat.lt_or_ge (y 0).val 16 with h | h
    · refine ⟨_, .tail _ (.tail _ (.head _)), (Rect.mem_set_unit (inb := inb_S288x1024_S16x1024_0_0)).mpr fun a => ?_⟩
      match a with
      | ⟨0, _⟩ => show 0 ≤ (y 0).val ∧ (y 0).val < 0 + 16; omega
      | ⟨1, _⟩ => exact ⟨Nat.zero_le _, Nat.lt_of_lt_of_eq (y 1).isLt (Nat.zero_add 1024).symm⟩
    rcases Nat.lt_or_ge (y 0).val 272 with h' | h'
    · refine ⟨_, .tail _ (.head _), (Rect.mem_set_unit (inb := inb_S288x1024_S256x1024_16_0)).mpr fun a => ?_⟩
      match a with
      | ⟨0, _⟩ => show 16 ≤ (y 0).val ∧ (y 0).val < 16 + 256; omega
      | ⟨1, _⟩ => exact ⟨Nat.zero_le _, Nat.lt_of_lt_of_eq (y 1).isLt (Nat.zero_add 1024).symm⟩
    · refine ⟨_, .head _, (Rect.mem_set_unit (inb := inb_S288x1024_S16x1024_272_0)).mpr fun a => ?_⟩
      match a with
      | ⟨0, _⟩ => show 272 ≤ (y 0).val ∧ (y 0).val < 272 + 16; omega
      | ⟨1, _⟩ => exact ⟨Nat.zero_le _, Nat.lt_of_lt_of_eq (y 1).isLt (Nat.zero_add 1024).symm⟩
  canon_tiles x h using cover
  all_goals
    idx_vars x
    unfold held
    rw [h0, (Fin.ext h1 : y 1 = x1)]
  · exact after_at m c t x0 x1
  · exact own_at m c t x0 x1
  · exact before_at m c t x0 x1

theorem cast_at (X : FVec Ideal S280x1024 .f32) (a : Fin 280) (j : Fin 1024) :
    shapeCast S1x280x1024 X shapeCasts_S280x1024_S1x280x1024 (ix3 0 a j) = X (ix2 a j) := by
  pointwise [shapeCast]

/-- One shifted copy: row `a` of the copy shifted by `s` is row `s + a`. -/
theorem copy_at (c : Dev nD) (t : Fin cfg0.N) (L : List (View.Piece (Elt Ideal) S288x1024 .f32)) (hL : ∀ y, View.canon L y = held m c t y)
    (s : ℕ) (h) (a : Fin 280) (j : Fin 1024) :
    shapeCast S1x280x1024 ((View.whole cc0_scratch0).readCov L (Rect.unit (s := S288x1024) ![s, 0] ![280, 1024] h).toLoadRect : FVec Ideal S280x1024 .f32) shapeCasts_S280x1024_S1x280x1024 (ix3 0 a j)
      = gated (m ((c : Thread nD τ).loc main_arg0)) (t.val * 256 + (s + a.val)) j := by
  rw [cast_at, View.readCov_eq_canon']
  refine (hL _).trans (congrArg₂ (gated _) (congrArg (t.val * 256 + ·) ?_) (Fin.ext ?_))
  · exact Rect.idx_unit_val _ _ _ _ _
  · exact (Rect.idx_unit_val _ _ _ _ _).trans (Nat.zero_add _)

/-- A tap's operand: rows `s + o` on of the held rows. -/
theorem tap_at (c : Dev nD) (t : Fin cfg0.N) (L : List (View.Piece (Elt Ideal) S8x280x1024 .f32))
    (hL : ∀ y, View.canon L y = gated (m ((c : Thread nD τ).loc main_arg0)) (t.val * 256 + ((y 0).val + (y 1).val)) (y 2))
    (s o : ℕ) (h) (hs : 1 ≤ s + o) (r : Fin 256) (j : Fin 1024) :
    ((View.whole cc0_scratch1).readCov L (Rect.unit (s := S8x280x1024) ![s, o, 0] ![1, 256, 1024] h).toLoadRect : FVec Ideal S1x256x1024 .f32) (ix3 0 r j)
      = gated (m ((c : Thread nD τ).loc main_arg0)) (s + o - 1 + (t.val * 256 + r.val) + 1) j := by
  rw [View.readCov_eq_canon', show s + o - 1 + (t.val * 256 + r.val) + 1 = t.val * 256 + (s + (o + r.val)) by omega]
  refine (hL _).trans (congrArg₂ (gated _) (congrArg (t.val * 256 + ·) (congrArg₂ (· + ·) ?_ ?_)) (Fin.ext ?_))
  · exact Rect.idx_unit_val _ _ _ _ _
  · exact Rect.idx_unit_val _ _ _ _ _
  · exact (Rect.idx_unit_val _ _ _ _ _).trans (Nat.zero_add _)

abbrev copies (c : Dev nD) (t : Fin cfg0.N) : List (View.Piece (Elt Ideal) S8x280x1024 .f32) :=
  [⟨Rect.unit ![7, 0, 0] ![1, 280, 1024] inb_S8x280x1024_S1x280x1024_7_0_0, k0_pay12 ((View.whole cc0_scratch0).readCov (rows m c t) (Rect.unit ![7, 0] ![280, 1024] inb_S288x1024_S280x1024_7_0).toLoadRect)⟩,
   ⟨Rect.unit ![6, 0, 0] ![1, 280, 1024] inb_S8x280x1024_S1x280x1024_6_0_0, k0_pay11 ((View.whole cc0_scratch0).readCov (rows m c t) (Rect.unit ![6, 0] ![280, 1024] inb_S288x1024_S280x1024_6_0).toLoadRect)⟩,
   ⟨Rect.unit ![5, 0, 0] ![1, 280, 1024] inb_S8x280x1024_S1x280x1024_5_0_0, k0_pay10 ((View.whole cc0_scratch0).readCov (rows m c t) (Rect.unit ![5, 0] ![280, 1024] inb_S288x1024_S280x1024_5_0).toLoadRect)⟩,
   ⟨Rect.unit ![4, 0, 0] ![1, 280, 1024] inb_S8x280x1024_S1x280x1024_4_0_0, k0_pay9 ((View.whole cc0_scratch0).readCov (rows m c t) (Rect.unit ![4, 0] ![280, 1024] inb_S288x1024_S280x1024_4_0).toLoadRect)⟩,
   ⟨Rect.unit ![3, 0, 0] ![1, 280, 1024] inb_S8x280x1024_S1x280x1024_3_0_0, k0_pay8 ((View.whole cc0_scratch0).readCov (rows m c t) (Rect.unit ![3, 0] ![280, 1024] inb_S288x1024_S280x1024_3_0).toLoadRect)⟩,
   ⟨Rect.unit ![2, 0, 0] ![1, 280, 1024] inb_S8x280x1024_S1x280x1024_2_0_0, k0_pay7 ((View.whole cc0_scratch0).readCov (rows m c t) (Rect.unit ![2, 0] ![280, 1024] inb_S288x1024_S280x1024_2_0).toLoadRect)⟩,
   ⟨Rect.unit ![1, 0, 0] ![1, 280, 1024] inb_S8x280x1024_S1x280x1024_1_0_0, k0_pay6 ((View.whole cc0_scratch0).readCov (rows m c t) (Rect.unit ![1, 0] ![280, 1024] inb_S288x1024_S280x1024_1_0).toLoadRect)⟩,
   ⟨Rect.unit ![0, 0, 0] ![1, 280, 1024] inb_S8x280x1024_S1x280x1024_0_0_0, k0_pay5 ((View.whole cc0_scratch0).readCov (rows m c t) (Rect.unit ![0, 0] ![280, 1024] inb_S288x1024_S280x1024_0_0).toLoadRect)⟩]

theorem copies_at (c : Dev nD) (t : Fin cfg0.N) (y : S8x280x1024.Idx) :
    View.canon (copies m c t) y = gated (m ((c : Thread nD τ).loc main_arg0)) (t.val * 256 + ((y 0).val + (y 1).val)) (y 2) := by
  canon_tiles x h
  all_goals idx_vars x
  all_goals
    rw [h0, h1, (Fin.ext h2 : y 2 = x2)]
    obtain rfl : x0 = 0 := Subsingleton.elim _ _
    exact copy_at m c t _ (rows_at m c t) _ _ x1 x2

/-- A tap's weights: row `k` of the first layer's. -/
theorem weight_at (c : Dev nD) (t : Fin cfg0.N) (k : ℕ) (h) (j : Fin 1024) :
    (View.ld (iblk m c 6 t) (Rect.unit (s := S31x1024) ![k, 0] ![1, 1024] h) : FVec Ideal S1x1024 .f32) (ix2 0 j)
      = m ((c : Thread nD τ).loc main_arg1) (ix3 0 (Fin.ofNat 31 k) j) := by
  have hk : k < 31 := by have := h 0; simp at this; omega
  refine Eq.trans ?_ (V_main_v1 m c (Fin.ofNat 31 k) j)
  rw [View.ld_apply, show (Rect.unit (s := S31x1024) ![k, 0] ![1, 1024] h).toLoadRect.idx (ix2 0 j) = ix2 (Fin.ofNat 31 k) j from ?_]
  · blk_point [iblk, idx t]
  · funext a; refine Fin.ext ?_; fin_cases a
    · exact (Rect.idx_unit_val _ _ _ _ _).trans (Nat.mod_eq_of_lt hk).symm
    · exact (Rect.idx_unit_val _ _ _ _ _).trans (Nat.zero_add _)

/-- The first payload of the sums: the bias and two products; and the later ones, five products each. -/
theorem first_at (b w₁ w₂ : Vec Ideal S1x1024 .f32) (z₁ z₂ : Vec Ideal S1x256x1024 .f32) (r : Fin 256) (j : Fin 1024) :
    k0_pay13 b w₁ z₁ w₂ z₂ (ix2 r j) = b (ix2 0 j) + w₁ (ix2 0 j) * z₁ (ix3 0 r j) + w₂ (ix2 0 j) * z₂ (ix3 0 r j) := by
  pointwise [k0_pay13]

theorem five_at (x z w : FVec Ideal S256x1024 .f32) (w₁ w₂ w₃ w₄ : Vec Ideal S1x1024 .f32) (z₁ z₂ z₃ z₄ : Vec Ideal S1x256x1024 .f32) (r : Fin 256) (j : Fin 1024) :
    k0_pay16 x z w w₁ z₁ w₂ z₂ w₃ z₃ w₄ z₄ (ix2 r j) = x (ix2 r j) + w (ix2 r j) * z (ix2 r j) + w₁ (ix2 0 j) * z₁ (ix3 0 r j)
      + w₂ (ix2 0 j) * z₂ (ix3 0 r j) + w₃ (ix2 0 j) * z₃ (ix3 0 r j) + w₄ (ix2 0 j) * z₄ (ix3 0 r j) := by
  pointwise [k0_pay16]

theorem row_cast_at (z : Vec Ideal S1x256x1024 .f32) (r : Fin 256) (j : Fin 1024) : k0_pay14 z (ix2 r j) = z (ix3 0 r j) := by
  pointwise [k0_pay14]

theorem spread_at (w : Vec Ideal S1x1024 .f32) (r : Fin 256) (j : Fin 1024) : k0_pay15 w (ix2 r j) = w (ix2 0 j) := by
  pointwise [k0_pay15]

/-- The payloads of one form. -/
theorem fives : k0_pay19 (F := Ideal) = k0_pay16 (F := Ideal) ∧ k0_pay22 (F := Ideal) = k0_pay16 (F := Ideal) ∧ k0_pay25 (F := Ideal) = k0_pay16 (F := Ideal) ∧ k0_pay28 (F := Ideal) = k0_pay16 (F := Ideal) :=
  ⟨rfl, rfl, rfl, rfl⟩

theorem row_casts : k0_pay17 (F := Ideal) = k0_pay14 (F := Ideal) ∧ k0_pay20 (F := Ideal) = k0_pay14 (F := Ideal) ∧ k0_pay23 (F := Ideal) = k0_pay14 (F := Ideal)
    ∧ k0_pay26 (F := Ideal) = k0_pay14 (F := Ideal) ∧ k0_pay29 (F := Ideal) = k0_pay14 (F := Ideal) := ⟨rfl, rfl, rfl, rfl, rfl⟩

theorem spreads : k0_pay18 (F := Ideal) = k0_pay15 (F := Ideal) ∧ k0_pay21 (F := Ideal) = k0_pay15 (F := Ideal) ∧ k0_pay24 (F := Ideal) = k0_pay15 (F := Ideal)
    ∧ k0_pay27 (F := Ideal) = k0_pay15 (F := Ideal) ∧ k0_pay30 (F := Ideal) = k0_pay15 (F := Ideal) := ⟨rfl, rfl, rfl, rfl, rfl⟩

/-- The last payloads, of a row of sums. -/
theorem pay_at (v257 v261 v262 : FVec Ideal S256x1024 .f32) (v265 v272 v279 g s : Vec Ideal S1x1024 .f32) (v267 v274 v281 : Vec Ideal S1x256x1024 .f32)
    (r : Fin 256) (j : Fin 1024) :
    k0_pay1 (k0_pay31 v257 v261 v262 v265 v267 v272 v274 v279 v281) g s (ix2 r j)
      = activated (fun k => v257 (ix2 r k) + v262 (ix2 r k) * v261 (ix2 r k) + v265 (ix2 0 k) * v267 (ix3 0 r k)
          + v272 (ix2 0 k) * v274 (ix3 0 r k) + v279 (ix2 0 k) * v281 (ix3 0 r k)) (fun k => g (ix2 0 k)) (fun k => s (ix2 0 k)) j := by
  pointwise [k0_pay1, k0_pay31, activated, unit]

theorem activated_congr {x x' g g' s s' : Fin 1024 → EReal} {j : Fin 1024} (hx : ∀ k, x k = x' k) (hg : ∀ k, g k = g' k) (hs : ∀ k, s k = s' k) :
    activated x g s j = activated x' g' s' j := by
  rw [funext hx, funext hg, funext hs]

set_option maxHeartbeats 1000000 in
theorem final (c : Dev nD) : (dats m 0 c).arrAt 10 (cfgs 0).N = REF m c := by
  refine (dats m 0 c).arrAt_eq_of_covers 10 _ (by decide +kernel) fun t _ y => ?_
  blk_simp
  rw [after0_10]; unfold outsAt0; frame_out
  obtain ⟨C, hC⟩ : ∃ C, C = copies m c t := ⟨_, rfl⟩
  have at_C : ∀ y, View.canon C y = _ := fun y => (congrArg (View.canon · y) hC).trans (copies_at m c t y)
  delta copies rows at hC
  rw [← hC]
  clear hC
  idx_vars y
  rw [pay_at]
  have ht : t.val < 64 := t.isLt
  have e : (((cfg0.win 10).blk t).view.emb (ix2 y0 y1) : S16384x1024.Idx) = ix2 ⟨t.val * 256 + y0.val, by omega⟩ y1 := by
    blk_ext [idx t]
  refine Eq.trans ?_ (congrArg (REF m c) e.symm)
  refine Eq.trans ?_ (Reference.result_at _ _ _ _ _ _ _).symm
  refine activated_congr (fun k => ?_) (fun k => ?_) (fun k => ?_)
  · rw [Reference.row_at, ← taps_start]
    have T := tap_at m c t C at_C
    have B : (iblk m c 7 t : Vec Ideal S1x1024 .f32) (ix2 0 k) = m ((c : Thread nD τ).loc main_arg2) (ix2 0 k) := by
      refine Eq.trans ?_ (V_main_v8 m c k)
      blk_point [iblk, idx t]
    simp only [fives, row_casts, spreads, five_at, first_at, row_cast_at, spread_at, weight_at, T, B, Nat.reduceAdd, Nat.reduceSub, Nat.reduceLeDiff, le_refl]
    simp only [taps, mul_comm (gated _ _ _), Nat.zero_add]
  · refine Eq.trans ?_ (V_main_v9 m c k)
    blk_point [iblk, idx t]
  · refine Eq.trans ?_ (V_main_v10 m c k)
    blk_point [iblk, idx t]

end Cert.ConvIdeal.ValueProof

end
-- ==== Proof.ConvClaim.lean ====
module

public import proofs.«01_k».proof.Defs
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvReferenceIdeal
public import proofs.«01_k».proof.Proof.Gen.ConvReferenceIdeal.Run
public import proofs.«01_k».proof.Proof.ConvValue
public import Idealize.ShloMosaic.Lib.Claim
public import Idealize.ShloMosaic.Lib.Quiescent

@[expose] public section

set_option maxRecDepth 16384

noncomputable section

open Idealize.ShloMosaic Idealize.SL.Sem

namespace Cert.Proof.Conv

theorem frame_kernel : Cert.quiescent_Conv := fun m ρ _ => Cert.Conv.Gen.frame m ρ

theorem frame_ideal : Cert.quiescent_ConvIdeal := fun m ρ _ => Cert.ConvIdeal.Gen.frame m ρ

theorem frame_reference : Cert.quiescent_ConvReferenceIdeal := fun m g _ =>
  (θ_run _ _ _).mono (fun r h => ⟨fun c => (h c).2, sem_eq_zero_of_no_sems (by decide) r.2⟩) (Cert.ConvReferenceIdeal.Value.run m g)

/-- Equal arguments, equal terms. -/
theorem term_congr {u u' : FVec Ideal (⟨2, ![24576, 9216]⟩ : Shape) .bf16} {w w' : FVec Ideal (⟨3, ![2, 31, 1024]⟩ : Shape) .f32}
    {b b' g g' s s' : FVec Ideal (⟨2, ![2, 1024]⟩ : Shape) .f32} (hu : u' = u) (hw : w' = w) (hb : b' = b) (hg : g' = g) (hs : s' = s) :
    Cert.ConvReferenceIdeal.Read.val_main_v262 (F := Ideal) u' w' b' g' s' = Cert.ConvReferenceIdeal.Read.val_main_v262 (F := Ideal) u w b g s := by
  rw [hu, hw, hb, hg, hs]

/-- The reference's run, its result as the term read from its arguments. -/
theorem reference_run (m : (ℓ : Loc Cert.ConvReferenceIdeal.nD Cert.ConvReferenceIdeal.τ Cert.ConvReferenceIdeal.sig) → Buf (Elt Ideal) ℓ) (g : Dev Cert.ConvReferenceIdeal.nD → PrngReg) :
    θ_run (Cert.ConvReferenceIdeal.defs (F := Ideal)) (onTc (τ := Cert.ConvReferenceIdeal.τ) (Cert.ConvReferenceIdeal.main (F := Ideal))) ⟨m, fun _ => 0, g⟩ (fun r => ∀ c : Dev Cert.ConvReferenceIdeal.nD,
      r.2.mem ((c.tc : Thread Cert.ConvReferenceIdeal.nD Cert.ConvReferenceIdeal.τ).loc Cert.ConvReferenceIdeal.main_v262)
        = Cert.ConvReferenceIdeal.Read.val_main_v262 (F := Ideal) (m (c, Proc.devRef .tc Cert.ConvReferenceIdeal.main_arg0)) (m (c, Proc.devRef .tc Cert.ConvReferenceIdeal.main_arg1))
          (m (c, Proc.devRef .tc Cert.ConvReferenceIdeal.main_arg2)) (m (c, Proc.devRef .tc Cert.ConvReferenceIdeal.main_arg3)) (m (c, Proc.devRef .tc Cert.ConvReferenceIdeal.main_arg4))
      ∧ r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)) :=
  (θ_run _ _ _).mono (fun r h c => ⟨(h c).1.trans (Cert.ConvReferenceIdeal.Read.val_main_v262_eq (StableHlo.launchContents m c)), (h c).2⟩)
    (Cert.ConvReferenceIdeal.Value.run m g)

theorem algebraic : Cert.algebraic_ConvIdeal_ConvReferenceIdeal := by
  intro m g m' g' _ hagree
  refine ⟨fun c => (Cert.ConvIdeal.Gen.dats m 0 c).arrAt 10 (Cert.ConvIdeal.cfgs 0).N, ?_, ?_⟩
  · run_from Cert.ConvIdeal.Gen.run_main m g
  · refine (θ_run _ _ _).mono (fun r h c => ⟨(h c).1.trans ?_, (h c).2⟩) (reference_run m' g')
    refine Eq.trans ?_ (Cert.ConvIdeal.ValueProof.final m c).symm
    obtain ⟨h0, h1, h2, h3, h4⟩ := hagree c
    exact term_congr h0 h1 h2 h3 h4

end Cert.Proof.Conv

end
-- ==== Proof.RopeTables.lean ====
module

public import proofs.«01_k».proof.Proof.Gen.RopeIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.RopeIdeal.Tables

open Cert.RopeIdeal Cert.RopeIdeal.Gen

variable (m : (ℓ : Loc nD τ sig) → Buf (Elt Ideal) ℓ)

/-- The angle of row `r` at frequency `k`. -/
def angle (r k : ℕ) : EReal :=
  FloatOps.sitofp (F := Ideal) .f32 (BitVec.ofNat 32 r) * Ideal.div 1 (Ideal.pow (Ideal.ofBits .f32 1223959552#32)
    (Ideal.div (FloatOps.sitofp (F := Ideal) .f32 (BitVec.ofNat 32 k) * Ideal.ofBits .f32 1073741824#32) (Ideal.ofBits .f32 1098907648#32)))

/-- A line of operations is its first ones, then the rest. -/
theorem split_at (n : ℕ) (ops : List (HloOp τ sig (Elt Ideal))) (W : Valuation τ sig (Elt Ideal)) :
    StableHlo.after ops W = StableHlo.after (ops.drop n) (StableHlo.after (ops.take n) W) := by
  induction ops generalizing n W with
  | nil => simp
  | cons o ops ih =>
    cases n with
    | zero => rfl
    | succ n => exact ih n (o.result W)

/-- Two copies side by side. -/
abbrev twice (X : FVec Ideal S16384x64 .f32) : FVec Ideal S16384x128 .f32 :=
  concatenate S16384x128 1 [⟨S16384x64, X⟩, ⟨S16384x64, X⟩] concatenates_S16384x64_S16384x64_S16384x128_d1

theorem twice_at (X : FVec Ideal S16384x64 .f32) (r : Fin 16384) (j : Fin 128) : twice X (ix2 r j) = X (ix2 r ⟨j.val % 64, by omega⟩) := by
  pointwise [twice]
  split
  · exact congrArg X (congrArg (ix2 r) (Fin.ext (by show j.val = j.val % 64; omega)))
  · exact congrArg X (congrArg (ix2 r) (Fin.ext (by show j.val - 64 = j.val % 64; omega)))

/-- Three tables side by side. -/
abbrev three (A B : FVec Ideal S16384x8 .f32) (C : FVec Ideal S16384x48 .f32) : FVec Ideal S16384x64 .f32 :=
  concatenate S16384x64 1 [⟨S16384x8, A⟩, ⟨S16384x8, B⟩, ⟨S16384x48, C⟩] concatenates_S16384x8_S16384x8_S16384x48_S16384x64_d1

theorem three_at (A B : FVec Ideal S16384x8 .f32) (C : FVec Ideal S16384x48 .f32) (r : Fin 16384) (j : Fin 64) :
    three A B C (ix2 r j) = if h : j.val < 8 then A (ix2 r ⟨j.val, h⟩) else if h' : j.val < 16 then B (ix2 r ⟨j.val - 8, by omega⟩)
      else C (ix2 r ⟨j.val - 16, by omega⟩) := by
  pointwise [three]
  by_cases h : j.val < 8
  · rw [dif_pos h, dif_pos h]
  · by_cases h' : j.val < 16
    · rw [dif_neg h, dif_neg h, dif_pos (by omega), dif_pos h']
    · rw [dif_neg h, dif_neg h, dif_neg (by omega), dif_neg h']
      exact congrArg C (congrArg (ix2 r) (Fin.ext (by show j.val - 8 - 8 = j.val - 16; omega)))

theorem last24 (W : Valuation τ sig (Elt Ideal)) : StableHlo.after (hostOps0.drop 31) W main_v24 = twice (W main_v20) := by
  simp only [hostOps0, List.drop_succ_cons, List.drop_zero]
  after_results

theorem last25 (W : Valuation τ sig (Elt Ideal)) : StableHlo.after (hostOps0.drop 31) W main_v25 = twice (W main_v21) := by
  simp only [hostOps0, List.drop_succ_cons, List.drop_zero]
  after_results

theorem last26 (W : Valuation τ sig (Elt Ideal)) : StableHlo.after (hostOps0.drop 31) W main_v26 = twice (W main_v23) := by
  simp only [hostOps0, List.drop_succ_cons, List.drop_zero]
  after_results

/-- An entry of a table. -/
abbrev entry8 (X : FVec Ideal S16384x8 .f32) (r : Fin 16384) (k : Fin 8) : EReal := X (ix2 r k)
abbrev entry48 (X : FVec Ideal S16384x48 .f32) (r : Fin 16384) (k : Fin 48) : EReal := X (ix2 r k)

/-- The tables' halves, from the cosines, sines, ones and zeros. -/
theorem cos_half (W : Valuation τ sig (Elt Ideal)) : StableHlo.after ((hostOps0.take 28).drop 27) W main_v20 = three (W main_v15) (W main_v15) (W main_v17) := by
  simp only [hostOps0, List.take_succ_cons, List.take_zero, List.drop_succ_cons, List.drop_zero]
  after_results
  rfl

theorem cos_half_keeps (W : Valuation τ sig (Elt Ideal)) : StableHlo.after ((hostOps0.take 28).drop 27) W main_v16 = W main_v16 ∧ StableHlo.after ((hostOps0.take 28).drop 27) W main_v18 = W main_v18 ∧ StableHlo.after ((hostOps0.take 28).drop 27) W main_v19 = W main_v19 := by
  simp only [hostOps0, List.take_succ_cons, List.take_zero, List.drop_succ_cons, List.drop_zero]
  refine ⟨?_, ?_, ?_⟩ <;> after_results

theorem left_half (W : Valuation τ sig (Elt Ideal)) : StableHlo.after ((hostOps0.take 30).drop 28) W main_v21 = three (W main_v19) (W main_v16) (W main_v18) := by
  simp only [hostOps0, List.take_succ_cons, List.take_zero, List.drop_succ_cons, List.drop_zero]
  after_results
  rfl

theorem minus_sines (W : Valuation τ sig (Elt Ideal)) : @Eq (FVec Ideal S16384x8 .f32) (StableHlo.after ((hostOps0.take 30).drop 28) W main_v22) (Host.negf (F := Ideal) (s := S16384x8) (φ := .f32) (W main_v16)) := by
  simp only [hostOps0, List.take_succ_cons, List.take_zero, List.drop_succ_cons, List.drop_zero]
  after_results

theorem left_half_keeps (W : Valuation τ sig (Elt Ideal)) : StableHlo.after ((hostOps0.take 30).drop 28) W main_v18 = W main_v18 ∧ StableHlo.after ((hostOps0.take 30).drop 28) W main_v19 = W main_v19 ∧ StableHlo.after ((hostOps0.take 30).drop 28) W main_v20 = W main_v20 := by
  simp only [hostOps0, List.take_succ_cons, List.take_zero, List.drop_succ_cons, List.drop_zero]
  refine ⟨?_, ?_, ?_⟩ <;> after_results

theorem right_half (W : Valuation τ sig (Elt Ideal)) : StableHlo.after ((hostOps0.take 31).drop 30) W main_v23 = three (W main_v22) (W main_v19) (W main_v18) := by
  simp only [hostOps0, List.take_succ_cons, List.take_zero, List.drop_succ_cons, List.drop_zero]
  after_results
  rfl

theorem right_half_keeps (W : Valuation τ sig (Elt Ideal)) : StableHlo.after ((hostOps0.take 31).drop 30) W main_v20 = W main_v20 ∧ StableHlo.after ((hostOps0.take 31).drop 30) W main_v21 = W main_v21 := by
  simp only [hostOps0, List.take_succ_cons, List.take_zero, List.drop_succ_cons, List.drop_zero]
  refine ⟨?_, ?_⟩ <;> after_results

/-- The cosines, sines, ones and zeros. -/
theorem cosines_of (W : Valuation τ sig (Elt Ideal)) : @Eq (FVec Ideal S16384x8 .f32) (StableHlo.after ((hostOps0.take 27).drop 19) W main_v15) (Host.cos (F := Ideal) (s := S16384x8) (φ := .f32) (W main_v14)) := by
  simp only [hostOps0, List.take_succ_cons, List.take_zero, List.drop_succ_cons, List.drop_zero]
  after_results

theorem sines_of (W : Valuation τ sig (Elt Ideal)) : @Eq (FVec Ideal S16384x8 .f32) (StableHlo.after ((hostOps0.take 27).drop 19) W main_v16) (Host.sin (F := Ideal) (s := S16384x8) (φ := .f32) (W main_v14)) := by
  simp only [hostOps0, List.take_succ_cons, List.take_zero, List.drop_succ_cons, List.drop_zero]
  after_results

theorem constants_of (W : Valuation τ sig (Elt Ideal)) :
    @Eq (FVec Ideal S16384x48 .f32) (StableHlo.after ((hostOps0.take 27).drop 19) W main_v17) (broadcastInDim S16384x48 ![] bcast_S_S16384x48 (constant (F := Ideal) S_ .f32 0x3F800000#32))
    ∧ @Eq (FVec Ideal S16384x48 .f32) (StableHlo.after ((hostOps0.take 27).drop 19) W main_v18) (broadcastInDim S16384x48 ![] bcast_S_S16384x48 (constant (F := Ideal) S_ .f32 0x00000000#32))
    ∧ @Eq (FVec Ideal S16384x8 .f32) (StableHlo.after ((hostOps0.take 27).drop 19) W main_v19) (broadcastInDim S16384x8 ![] bcast_S_S16384x8 (constant (F := Ideal) S_ .f32 0x00000000#32)) := by
  simp only [hostOps0, List.take_succ_cons, List.take_zero, List.drop_succ_cons, List.drop_zero]
  refine ⟨?_, ?_, ?_⟩ <;> after_results

theorem ones_at (W : Valuation τ sig (Elt Ideal)) (r : Fin 16384) (k : Fin 48) : entry48 (StableHlo.after ((hostOps0.take 27).drop 19) W main_v17) r k = 1 := by
  refine (congrFun (constants_of W).1 (ix2 r k)).trans ?_
  pointwise []

theorem zeros_at (W : Valuation τ sig (Elt Ideal)) (r : Fin 16384) (k : Fin 48) : entry48 (StableHlo.after ((hostOps0.take 27).drop 19) W main_v18) r k = 0 := by
  refine (congrFun (constants_of W).2.1 (ix2 r k)).trans ?_
  pointwise []

theorem few_zeros_at (W : Valuation τ sig (Elt Ideal)) (r : Fin 16384) (k : Fin 8) : entry8 (StableHlo.after ((hostOps0.take 27).drop 19) W main_v19) r k = 0 := by
  refine (congrFun (constants_of W).2.2 (ix2 r k)).trans ?_
  pointwise []

/-- The angles. -/
abbrev angles : FVec Ideal S16384x8 .f32 :=
  mulf (broadcastInDim S16384x8 ![0, 1] bcast_S16384x1_S16384x8_0_1 (broadcastInDim S16384x1 ![0] bcast_S16384_S16384x1_0 (sitofp (F := Ideal) .f32 (iotaInDim S16384 32 0))))
    (broadcastInDim S16384x8 ![0, 1] bcast_S1x8_S16384x8_0_1 (broadcastInDim S1x8 ![1] bcast_S8_S1x8_1
      (Host.divf (broadcastInDim S8 ![] bcast_S_S8 (constant (F := Ideal) S_ .f32 0x3F800000#32))
        (Host.powf (broadcastInDim S8 ![] bcast_S_S8 (constant (F := Ideal) S_ .f32 0x48F42400#32))
          (Host.divf (mulf (sitofp (F := Ideal) .f32 (iotaInDim S8 32 0)) (broadcastInDim S8 ![] bcast_S_S8 (constant (F := Ideal) S_ .f32 0x40000000#32)))
            (broadcastInDim S8 ![] bcast_S_S8 (constant (F := Ideal) S_ .f32 0x41800000#32)))))))

theorem first14 (W : Valuation τ sig (Elt Ideal)) : StableHlo.after ((hostOps0.take 27).take 19) W main_v14 = angles := by
  simp only [hostOps0, List.take_succ_cons, List.take_zero]
  after_results

theorem angles_at (r : Fin 16384) (k : Fin 8) : angles (ix2 r k) = angle r.val k.val := by
  pointwise [angles, angle]

/-- The host operations in six runs. -/
theorem staged (W : Valuation τ sig (Elt Ideal)) : StableHlo.after hostOps0 W = StableHlo.after (hostOps0.drop 31) (StableHlo.after ((hostOps0.take 31).drop 30)
    (StableHlo.after ((hostOps0.take 30).drop 28) (StableHlo.after ((hostOps0.take 28).drop 27) (StableHlo.after ((hostOps0.take 27).drop 19) (StableHlo.after ((hostOps0.take 27).take 19) W))))) := by
  rw [split_at 31 hostOps0, split_at 30 (hostOps0.take 31), List.take_take, split_at 28 (hostOps0.take (min 30 31)), List.take_take,
    split_at 27 (hostOps0.take _), List.take_take, split_at 19 (hostOps0.take _)]
  rfl

theorem cos_at (X : FVec Ideal S16384x8 .f32) (r : Fin 16384) (k : Fin 8) (h : X = angles) : Host.cos X (ix2 r k) = Ideal.cos (angle r.val k.val) := by
  rw [← angles_at, ← h]
  rfl

theorem sin_at (X : FVec Ideal S16384x8 .f32) (r : Fin 16384) (k : Fin 8) (h : X = angles) : Host.sin X (ix2 r k) = Ideal.sin (angle r.val k.val) := by
  rw [← angles_at, ← h]
  rfl

/-- The three tables the region reads: cosines, and the sines that go with the entry eight to the left and to the right. -/
def cosines (r j : ℕ) : EReal :=
  if j % 64 < 8 then Ideal.cos (angle r (j % 64)) else if j % 64 < 16 then Ideal.cos (angle r (j % 64 - 8)) else 1

def lefts (r j : ℕ) : EReal :=
  if j % 64 < 8 then 0 else if j % 64 < 16 then Ideal.sin (angle r (j % 64 - 8)) else 0

def rights (r j : ℕ) : EReal :=
  if j % 64 < 8 then -Ideal.sin (angle r (j % 64)) else 0

theorem V_main_v24 (c : Dev nD) (r : Fin 16384) (j : Fin 128) : V m c main_v24 (ix2 r j) = cosines r.val j.val := by
  refine (congrFun (congrFun (staged _) _) _).trans ?_
  refine (congrFun (last24 _) _).trans ((twice_at _ r j).trans ?_)
  refine (congrFun ((right_half_keeps _).1.trans ((left_half_keeps _).2.2.trans (cos_half _))) _).trans ((three_at _ _ _ r _).trans ?_)
  unfold cosines
  split
  · exact (congrFun (cosines_of _) _).trans (cos_at _ _ _ (first14 _))
  · split
    · exact (congrFun (cosines_of _) _).trans (cos_at _ _ _ (first14 _))
    · exact ones_at _ _ _

theorem V_main_v25 (c : Dev nD) (r : Fin 16384) (j : Fin 128) : V m c main_v25 (ix2 r j) = lefts r.val j.val := by
  refine (congrFun (congrFun (staged _) _) _).trans ?_
  refine (congrFun (last25 _) _).trans ((twice_at _ r j).trans ?_)
  refine (congrFun ((right_half_keeps _).2.trans (left_half _)) _).trans ((three_at _ _ _ r _).trans ?_)
  unfold lefts
  split
  · exact (congrFun (cos_half_keeps _).2.2 _).trans (few_zeros_at _ _ _)
  · split
    · exact (congrFun ((cos_half_keeps _).1.trans (sines_of _)) _).trans (sin_at _ _ _ (first14 _))
    · exact (congrFun (cos_half_keeps _).2.1 _).trans (zeros_at _ _ _)

theorem V_main_v26 (c : Dev nD) (r : Fin 16384) (j : Fin 128) : V m c main_v26 (ix2 r j) = rights r.val j.val := by
  refine (congrFun (congrFun (staged _) _) _).trans ?_
  refine (congrFun (last26 _) _).trans ((twice_at _ r j).trans ?_)
  refine (congrFun (right_half _) _).trans ((three_at _ _ _ r _).trans ?_)
  unfold rights
  split
  · exact (congrFun (minus_sines _) _).trans (congrArg (fun x : EReal => -x) ((congrFun ((cos_half_keeps _).1.trans (sines_of _)) _).trans (sin_at _ _ _ (first14 _))))
  · split
    · exact (congrFun ((left_half_keeps _).2.1.trans (cos_half_keeps _).2.2) _).trans (few_zeros_at _ _ _)
    · exact (congrFun ((left_half_keeps _).1.trans (cos_half_keeps _).2.1) _).trans (zeros_at _ _ _)

end Cert.RopeIdeal.Tables

end
-- ==== Proof.RopeValue.lean ====
module

public import proofs.«01_k».proof.Proof.RopeTables
public import proofs.«01_k».proof.Proof.Gen.RopeReferenceIdeal.Read

@[expose] public section

set_option maxRecDepth 16384

noncomputable section

open Idealize.ShloMosaic Idealize.ShloMosaic.TcCoe Idealize.SL.Sem
open Idealize.ShloMosaic.Pipeline (Dat)

namespace Cert.RopeIdeal.ValueProof

open Cert.RopeIdeal Cert.RopeIdeal.Gen Cert.RopeIdeal.Tables

variable (m : (ℓ : Loc nD τ sig) → Buf (Elt Ideal) ℓ)

/-- The reference's term over the kernel's argument array. -/
abbrev REF (x0 : FVec Ideal S24576x9216 .bf16) : FVec Ideal S16384x2048 .bf16 :=
  Cert.RopeReferenceIdeal.Read.val_main_v80 (F := Ideal) x0

/-- A row turned: in each head of 64 columns the first eight are paired with the next eight, the rest are left alone. -/
def turned (X : ℕ → EReal) (r j : ℕ) : EReal :=
  if j % 64 < 16 then
    if j % 64 < 8 then X j * Ideal.cos (angle r (j % 64)) - X (j + 8) * Ideal.sin (angle r (j % 64))
    else X j * Ideal.cos (angle r (j % 64 - 8)) + X (j - 8) * Ideal.sin (angle r (j % 64 - 8))
  else X j

/-- The first half of the columns is scaled. -/
def scaled (X : ℕ → EReal) (r j : ℕ) : EReal :=
  if j < 1024 then turned X r j * Ideal.ofBits .f32 1040187392#32 else turned X r j

/-- A row of the array. -/
abbrev row (x0 : FVec Ideal S24576x9216 .bf16) (r : Fin 24576) (k : ℕ) : EReal := x0 (ix2 r (Fin.ofNat 9216 k))

theorem row_eq (x0 : FVec Ideal S24576x9216 .bf16) (r : Fin 24576) {k : ℕ} (h : k < 9216) {j : ℕ} (e : k = j) : x0 (ix2 r ⟨k, h⟩) = row x0 r j :=
  congrArg x0 (congrArg (ix2 r) (Fin.ext (by show k = j % 9216; omega)))

theorem ref_apply (x0 : FVec Ideal S24576x9216 .bf16) (r : Fin 16384) (j : Fin 2048) :
    REF x0 (ix2 r j) = scaled (row x0 ⟨r.val, by omega⟩) r.val j.val := by
  pointwise [REF, Cert.RopeReferenceIdeal.Read.val_main_v80, Cert.RopeReferenceIdeal.Read.val_main_v79, Cert.RopeReferenceIdeal.Read.val_main_v78, Cert.RopeReferenceIdeal.Read.val_main_v77, Cert.RopeReferenceIdeal.Read.val_main_v76, Cert.RopeReferenceIdeal.Read.val_main_v75, Cert.RopeReferenceIdeal.Read.val_main_v74, Cert.RopeReferenceIdeal.Read.val_main_v73, Cert.RopeReferenceIdeal.Read.val_main_v72, Cert.RopeReferenceIdeal.Read.val_main_v71, Cert.RopeReferenceIdeal.Read.val_main_v70, Cert.RopeReferenceIdeal.Read.val_main_v69, Cert.RopeReferenceIdeal.Read.val_main_v68, Cert.RopeReferenceIdeal.Read.val_main_v67, Cert.RopeReferenceIdeal.Read.val_main_v66, Cert.RopeReferenceIdeal.Read.val_main_v65, Cert.RopeReferenceIdeal.Read.val_main_v64, Cert.RopeReferenceIdeal.Read.val_main_v63, Cert.RopeReferenceIdeal.Read.val_main_v62, Cert.RopeReferenceIdeal.Read.val_main_v61, Cert.RopeReferenceIdeal.Read.val_main_v60, Cert.RopeReferenceIdeal.Read.val_main_v59, Cert.RopeReferenceIdeal.Read.val_main_v58, Cert.RopeReferenceIdeal.Read.val_main_v57, Cert.RopeReferenceIdeal.Read.val_main_v56, Cert.RopeReferenceIdeal.Read.val_main_v55, Cert.RopeReferenceIdeal.Read.val_main_v54, Cert.RopeReferenceIdeal.Read.val_main_v53, Cert.RopeReferenceIdeal.Read.val_main_v52, Cert.RopeReferenceIdeal.Read.val_main_v51, Cert.RopeReferenceIdeal.Read.val_main_v50, Cert.RopeReferenceIdeal.Read.val_main_cst_7, Cert.RopeReferenceIdeal.Read.val_main_v49, Cert.RopeReferenceIdeal.Read.val_main_v48, Cert.RopeReferenceIdeal.Read.val_main_cst_6, Cert.RopeReferenceIdeal.Read.val_main_v47, Cert.RopeReferenceIdeal.Read.val_main_v46, Cert.RopeReferenceIdeal.Read.val_main_cst_5, Cert.RopeReferenceIdeal.Read.val_main_v45, Cert.RopeReferenceIdeal.Read.val_main_v44, Cert.RopeReferenceIdeal.Read.val_main_cst_4, Cert.RopeReferenceIdeal.Read.val_main_v43, Cert.RopeReferenceIdeal.Read.val_main_v42, Cert.RopeReferenceIdeal.Read.val_main_v41, Cert.RopeReferenceIdeal.Read.val_main_v40, Cert.RopeReferenceIdeal.Read.val_main_v39, Cert.RopeReferenceIdeal.Read.val_main_v38, Cert.RopeReferenceIdeal.Read.val_main_cst_3, Cert.RopeReferenceIdeal.Read.val_main_v37, Cert.RopeReferenceIdeal.Read.val_main_v36, Cert.RopeReferenceIdeal.Read.val_main_v35, Cert.RopeReferenceIdeal.Read.val_main_v34, Cert.RopeReferenceIdeal.Read.val_main_v33, Cert.RopeReferenceIdeal.Read.val_main_v32, Cert.RopeReferenceIdeal.Read.val_main_v31, Cert.RopeReferenceIdeal.Read.val_main_v30, Cert.RopeReferenceIdeal.Read.val_main_v29, Cert.RopeReferenceIdeal.Read.val_main_v28, Cert.RopeReferenceIdeal.Read.val_main_v27, Cert.RopeReferenceIdeal.Read.val_main_v26, Cert.RopeReferenceIdeal.Read.val_main_v25, Cert.RopeReferenceIdeal.Read.val_main_v24, Cert.RopeReferenceIdeal.Read.val_main_v23, Cert.RopeReferenceIdeal.Read.val_main_v22, Cert.RopeReferenceIdeal.Read.val_main_v21, Cert.RopeReferenceIdeal.Read.val_main_v20, Cert.RopeReferenceIdeal.Read.val_main_v19, Cert.RopeReferenceIdeal.Read.val_main_v18, Cert.RopeReferenceIdeal.Read.val_main_v17, Cert.RopeReferenceIdeal.Read.val_main_v16, Cert.RopeReferenceIdeal.Read.val_main_v15, Cert.RopeReferenceIdeal.Read.val_main_v14, Cert.RopeReferenceIdeal.Read.val_main_v13, Cert.RopeReferenceIdeal.Read.val_main_v12, Cert.RopeReferenceIdeal.Read.val_main_v11, Cert.RopeReferenceIdeal.Read.val_main_cst_2, Cert.RopeReferenceIdeal.Read.val_main_v10, Cert.RopeReferenceIdeal.Read.val_main_v9, Cert.RopeReferenceIdeal.Read.val_main_cst_1, Cert.RopeReferenceIdeal.Read.val_main_v8, Cert.RopeReferenceIdeal.Read.val_main_v7, Cert.RopeReferenceIdeal.Read.val_main_cst_0, Cert.RopeReferenceIdeal.Read.val_main_v6, Cert.RopeReferenceIdeal.Read.val_main_v5, Cert.RopeReferenceIdeal.Read.val_main_cst, Cert.RopeReferenceIdeal.Read.val_main_v4, Cert.RopeReferenceIdeal.Read.val_main_v3, Cert.RopeReferenceIdeal.Read.val_main_v2, Cert.RopeReferenceIdeal.Read.val_main_v1, Cert.RopeReferenceIdeal.Read.val_main_v0]
  unfold scaled
  have e : ¬ j.val < 1024 → (j.val - 1024) % 64 = j.val % 64 := fun h => by omega
  split
  · refine congrArg (· * Ideal.ofBits .f32 1040187392#32) ?_
    unfold turned
    split
    · split
      · exact congrArg₂ (· - ·) (congrArg (· * _) (row_eq x0 _ _ (by omega))) (congrArg (· * _) (row_eq x0 _ _ (by omega)))
      · exact congrArg₂ (· + ·) (congrArg (· * _) (row_eq x0 _ _ (by omega))) (congrArg (· * _) (row_eq x0 _ _ (by omega)))
    · exact row_eq x0 _ _ (by omega)
  · rename_i h
    simp only [e h]
    unfold turned
    split
    · split
      · exact congrArg₂ (· - ·) (congrArg (· * _) (row_eq x0 _ _ (by omega))) (congrArg (· * _) (row_eq x0 _ _ (by omega)))
      · exact congrArg₂ (· + ·) (congrArg (· * _) (row_eq x0 _ _ (by omega))) (congrArg (· * _) (row_eq x0 _ _ (by omega)))
    · exact row_eq x0 _ _ (by omega)

/-- What the kernel computes of a row, from the tables' entries. -/
def spun (X : ℕ → EReal) (C L U : ℕ → EReal) (j : ℕ) : EReal :=
  X j * C (j % 128) + X (j / 128 * 128 + (j % 128 + 128 - 8) % 128) * L (j % 128) + X (j / 128 * 128 + (j % 128 + 128 - 120) % 128) * U (j % 128)

/-- The kernel's row is the reference's. -/
theorem spun_eq (X : ℕ → EReal) (r j : ℕ) : spun X (cosines r) (lefts r) (rights r) j = turned X r j := by
  have e : j % 128 % 64 = j % 64 := by omega
  simp only [spun, turned, cosines, lefts, rights, e]
  by_cases h : j % 64 < 8
  · rw [if_pos h, if_pos h, if_pos h, if_pos (by omega), if_pos h, mul_zero, add_zero, mul_neg, sub_eq_add_neg,
      (by omega : j / 128 * 128 + (j % 128 + 128 - 120) % 128 = j + 8)]
  · by_cases h' : j % 64 < 16
    · rw [if_neg h, if_pos h', if_neg h, if_pos h', if_neg h, if_pos h', if_neg h, mul_zero, add_zero,
        (by omega : j / 128 * 128 + (j % 128 + 128 - 8) % 128 = j - 8)]
    · rw [if_neg h, if_neg h', if_neg h, if_neg h', if_neg h, if_neg h', mul_zero, mul_zero, mul_one, add_zero, add_zero]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

theorem table3 (v : Vec Ideal S512x128 .f32) : k0_pay3 (F := Ideal) v = v := by
  funext i
  idx_vars i
  pointwise [k0_pay3]

/-- The stored blocks have one of two forms, the first scaled. -/
theorem first_at (C L U : FVec Ideal S512x128 .f32) (v : Vec Ideal S512x128 .bf16) (r : Fin 512) (l : Fin 128) :
    k0_pay11 C L U v (ix2 r l) = (v (ix2 r l) * C (ix2 r l) + v (ix2 r ⟨(l.val + 128 - 8) % 128, by omega⟩) * L (ix2 r l)
      + v (ix2 r ⟨(l.val + 128 - 120) % 128, by omega⟩) * U (ix2 r l)) * Ideal.ofBits .f32 1040187392#32 := by
  pointwise [k0_pay11]

theorem second_at (C L U : FVec Ideal S512x128 .f32) (v : Vec Ideal S512x128 .bf16) (r : Fin 512) (l : Fin 128) :
    k0_pay16 C L U v (ix2 r l) = v (ix2 r l) * C (ix2 r l) + v (ix2 r ⟨(l.val + 128 - 8) % 128, by omega⟩) * L (ix2 r l)
      + v (ix2 r ⟨(l.val + 128 - 120) % 128, by omega⟩) * U (ix2 r l) := by
  pointwise [k0_pay16]

/-- Columns of a block. -/
theorem cols_at (X : Vec Ideal S512x2048 .bf16) (s : ℕ) (h) (r : Fin 512) (k : Fin 128) :
    (View.ld X (Rect.unit (s := S512x2048) ![0, s] ![512, 128] h) : Vec Ideal S512x128 .bf16) (ix2 r k) = X (ix2 r (Fin.ofNat 2048 (s + k.val))) := by
  have hs : s + 128 ≤ 2048 := by have := h 1; simpa using this
  rw [View.ld_apply]
  refine congrArg X ?_
  funext a; refine Fin.ext ?_; fin_cases a
  · exact (Rect.idx_unit_val _ _ _ _ _).trans (Nat.zero_add _)
  · exact (Rect.idx_unit_val _ _ _ _ _).trans (Nat.mod_eq_of_lt (by show s + k.val < 2048; omega)).symm

/-- A row of a block, and of a table's. -/
abbrev brow (x : FVec Ideal S512x2048 .bf16) (r : Fin 512) (k : ℕ) : EReal := x (ix2 r (Fin.ofNat 2048 k))
abbrev trow (C : FVec Ideal S512x128 .f32) (r : Fin 512) (k : ℕ) : EReal := C (ix2 r (Fin.ofNat 128 k))

theorem second_cols (x : FVec Ideal S512x2048 .bf16) (C L U : FVec Ideal S512x128 .f32) (s : ℕ) (hs : s % 128 = 0) (h)
    {r r' : Fin 512} {k : Fin 128} {j : Fin 2048} (hr : r'.val = r.val) (hj : j.val = s + k.val) :
    k0_pay16 (F := Ideal) C L U (View.ld x (Rect.unit (s := S512x2048) ![0, s] ![512, 128] h)) (ix2 r k)
      = spun (brow x r') (trow C r') (trow L r') (trow U r') j.val := by
  obtain rfl : r' = r := Fin.ext hr
  have q : j.val / 128 * 128 = s := by omega
  have p : j.val % 128 = k.val := by omega
  have f (D : FVec Ideal S512x128 .f32) : D (ix2 r' k) = trow D r' k.val := congrArg D (congrArg (ix2 r') (Fin.ext (Nat.mod_eq_of_lt k.isLt).symm))
  rw [second_at, spun, q, p, ← f, ← f, ← f, hj]
  exact congrArg₂ (· + ·) (congrArg₂ (· + ·) (congrArg (· * _) (cols_at x s h r' _)) (congrArg (· * _) (cols_at x s h r' _))) (congrArg (· * _) (cols_at x s h r' _))

theorem first_cols (x : FVec Ideal S512x2048 .bf16) (C L U : FVec Ideal S512x128 .f32) (s : ℕ) (hs : s % 128 = 0) (h)
    {r r' : Fin 512} {k : Fin 128} {j : Fin 2048} (hr : r'.val = r.val) (hj : j.val = s + k.val) :
    k0_pay11 (F := Ideal) C L U (View.ld x (Rect.unit (s := S512x2048) ![0, s] ![512, 128] h)) (ix2 r k)
      = spun (brow x r') (trow C r') (trow L r') (trow U r') j.val * Ideal.ofBits .f32 1040187392#32 := by
  rw [← second_cols x C L U s hs h hr hj, first_at, second_at]

/-- An entry of the block a point stores, from the blocks it reads. -/
def blockEntry (x : FVec Ideal S512x2048 .bf16) (C L U : FVec Ideal S512x128 .f32) (r : Fin 512) (j : ℕ) : EReal :=
  if j < 1024 then spun (brow x r) (trow C r) (trow L r) (trow U r) j * Ideal.ofBits .f32 1040187392#32
  else spun (brow x r) (trow C r) (trow L r) (trow U r) j

theorem tables (C L U : Vec Ideal S512x128 .f32) : k0_pay3 (F := Ideal) C = C ∧ k0_pay4 (F := Ideal) L = L ∧ k0_pay5 (F := Ideal) U = U :=
  ⟨table3 C, table3 L, table3 U⟩

theorem first_block (x : FVec Ideal S512x2048 .bf16) (C L U : FVec Ideal S512x128 .f32) (s : ℕ) (hs : s % 128 = 0) (h)
    {r r' : Fin 512} {k : Fin 128} {j : Fin 2048} (hl : s + k.val < 1024) (hr : r'.val = r.val) (hj : j.val = s + k.val) :
    k0_pay11 (F := Ideal) (k0_pay3 C) (k0_pay4 L) (k0_pay5 U) (View.ld x (Rect.unit (s := S512x2048) ![0, s] ![512, 128] h)) (ix2 r k) = blockEntry x C L U r' j.val := by
  rw [(tables C L U).1, (tables C L U).2.1, (tables C L U).2.2, blockEntry, if_pos (hj ▸ hl)]
  exact first_cols x C L U s hs h hr hj

theorem second_block (x : FVec Ideal S512x2048 .bf16) (C L U : FVec Ideal S512x128 .f32) (s : ℕ) (hs : s % 128 = 0) (h)
    {r r' : Fin 512} {k : Fin 128} {j : Fin 2048} (hl : 1024 ≤ s + k.val) (hr : r'.val = r.val) (hj : j.val = s + k.val) :
    k0_pay16 (F := Ideal) (k0_pay3 C) (k0_pay4 L) (k0_pay5 U) (View.ld x (Rect.unit (s := S512x2048) ![0, s] ![512, 128] h)) (ix2 r k) = blockEntry x C L U r' j.val := by
  rw [(tables C L U).1, (tables C L U).2.1, (tables C L U).2.2, blockEntry, if_neg (by omega)]
  exact second_cols x C L U s hs h hr hj

/-- What a point stores, at an index of its block. -/
theorem block_at (c : Dev nD) (t : Fin cfg0.N) (y : S512x2048.Idx) :
    outsAt0 m c t y = blockEntry (X0_0 m c t) (iblk m c 1 t) (iblk m c 2 t) (iblk m c 3 t) (y 0) (y 1).val := by
  unfold outsAt0
  frame_out
  canon_tiles x h
  all_goals idx_vars x
  all_goals first
    | exact first_block _ _ _ _ _ rfl _ (by omega) h0 h1
    | exact first_block _ _ _ _ _ rfl _ (by omega) h0 (h1.trans (Nat.zero_add _).symm)
    | exact second_block _ _ _ _ _ rfl _ (by omega) h0 h1

theorem blk0 (c : Dev nD) (t : Fin cfg0.N) (r : Fin 512) (j : Fin 2048) :
    (X0_0 m c t : FVec Ideal S512x2048 .bf16) (ix2 r j) = m ((c : Thread nD τ).loc main_arg0) (ix2 ⟨t.val * 512 + r.val, by have ht : t.val < 32 := t.isLt; omega⟩ ⟨j.val, by omega⟩) := by
  unfold X0_0 Pipeline.Window.fill
  rw [dif_pos (moved0_0 t _)]
  blk_ext [iblk, V, idx t]

theorem blk1 (c : Dev nD) (t : Fin cfg0.N) (r : Fin 512) (j : Fin 128) :
    (iblk m c 1 t : FVec Ideal S512x128 .f32) (ix2 r j) = cosines (t.val * 512 + r.val) j.val := by
  have ht : t.val < 32 := t.isLt
  refine Eq.trans ?_ (V_main_v24 m c ⟨t.val * 512 + r.val, by omega⟩ j)
  blk_point [iblk, idx t]

theorem blk2 (c : Dev nD) (t : Fin cfg0.N) (r : Fin 512) (j : Fin 128) :
    (iblk m c 2 t : FVec Ideal S512x128 .f32) (ix2 r j) = lefts (t.val * 512 + r.val) j.val := by
  have ht : t.val < 32 := t.isLt
  refine Eq.trans ?_ (V_main_v25 m c ⟨t.val * 512 + r.val, by omega⟩ j)
  blk_point [iblk, idx t]

theorem blk3 (c : Dev nD) (t : Fin cfg0.N) (r : Fin 512) (j : Fin 128) :
    (iblk m c 3 t : FVec Ideal S512x128 .f32) (ix2 r j) = rights (t.val * 512 + r.val) j.val := by
  have ht : t.val < 32 := t.isLt
  refine Eq.trans ?_ (V_main_v26 m c ⟨t.val * 512 + r.val, by omega⟩ j)
  blk_point [iblk, idx t]

/-- The sum at a column depends on the row at three columns of its block. -/
theorem spun_congr {X X' C C' L L' U U' : ℕ → EReal} {j : ℕ} (hj : j < 2048) (hX : ∀ k < 2048, X k = X' k)
    (hC : ∀ k < 128, C k = C' k) (hL : ∀ k < 128, L k = L' k) (hU : ∀ k < 128, U k = U' k) : spun X C L U j = spun X' C' L' U' j := by
  unfold spun
  rw [hX _ hj, hX _ (by omega), hX _ (by omega), hC _ (by omega), hL _ (by omega), hU _ (by omega)]

theorem final (c : Dev nD) : (dats m 0 c).arrAt 4 (cfgs 0).N = REF (m ((c : Thread nD τ).loc main_arg0)) := by
  refine (dats m 0 c).arrAt_eq_of_covers 4 _ (by decide +kernel) fun t _ y => ?_
  blk_simp
  rw [after0_4]
  refine (block_at m c t _).trans ?_
  idx_vars y
  have ht : t.val < 32 := t.isLt
  have e : (((cfg0.win 4).blk t).view.emb (ix2 y0 y1) : S16384x2048.Idx) = ix2 ⟨t.val * 512 + y0.val, by omega⟩ y1 := by
    blk_ext [idx t]
  refine Eq.trans ?_ (congrArg (REF _) e.symm)
  rw [ref_apply]
  have T {k : ℕ} {n : ℕ} [NeZero n] (hk : k < n) : (Fin.ofNat n k).val = k := Nat.mod_eq_of_lt hk
  have f : spun (brow (X0_0 m c t) y0) (trow (iblk m c 1 t) y0) (trow (iblk m c 2 t) y0) (trow (iblk m c 3 t) y0) y1.val
      = turned (row (m ((c : Thread nD τ).loc main_arg0)) ⟨t.val * 512 + y0.val, by omega⟩) (t.val * 512 + y0.val) y1.val := by
    rw [← spun_eq]
    refine spun_congr y1.isLt (fun k hk => ?_) (fun k hk => ?_) (fun k hk => ?_) (fun k hk => ?_)
    · exact (blk0 m c t _ _).trans (row_eq _ _ _ (T hk))
    · exact (blk1 m c t _ _).trans (congrArg _ (T hk))
    · exact (blk2 m c t _ _).trans (congrArg _ (T hk))
    · exact (blk3 m c t _ _).trans (congrArg _ (T hk))
  show (if y1.val < 1024 then _ else _) = _
  rw [f]
  rfl

end Cert.RopeIdeal.ValueProof

end
-- ==== Proof.RopeClaim.lean ====
module

public import proofs.«01_k».proof.Defs
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeReferenceIdeal
public import proofs.«01_k».proof.Proof.Gen.RopeReferenceIdeal.Run
public import proofs.«01_k».proof.Proof.Gen.RopeReferenceIdeal.Read
public import proofs.«01_k».proof.Proof.RopeValue
public import Idealize.ShloMosaic.Lib.Claim
public import Idealize.ShloMosaic.Lib.Quiescent

@[expose] public section

set_option maxRecDepth 16384

noncomputable section

open Idealize.ShloMosaic Idealize.SL.Sem

namespace Cert.Proof.Rope

theorem frame_kernel : Cert.quiescent_Rope := fun m ρ _ => Cert.Rope.Gen.frame m ρ

theorem frame_ideal : Cert.quiescent_RopeIdeal := fun m ρ _ => Cert.RopeIdeal.Gen.frame m ρ

theorem frame_reference : Cert.quiescent_RopeReferenceIdeal := fun m g _ =>
  (θ_run _ _ _).mono (fun r h => ⟨fun c => (h c).2, sem_eq_zero_of_no_sems (by decide) r.2⟩) (Cert.RopeReferenceIdeal.Value.run m g)

set_option maxHeartbeats 1600000 in
theorem algebraic : Cert.algebraic_RopeIdeal_RopeReferenceIdeal := by
  intro m g m' g' _ hagree
  refine ⟨fun c => (Cert.RopeIdeal.Gen.dats m 0 c).arrAt 4 (Cert.RopeIdeal.cfgs 0).N, ?_, ?_⟩
  · run_from Cert.RopeIdeal.Gen.run_main m g
  · refine (θ_run _ _ _).mono (fun r h c => ⟨(h c).1.trans ?_, (h c).2⟩) (Cert.RopeReferenceIdeal.Value.run m' g')
    refine Eq.trans (Cert.RopeReferenceIdeal.Read.val_main_v80_eq m' c) (Eq.trans ?_ (Cert.RopeIdeal.ValueProof.final m c).symm)
    exact congrArg (Cert.RopeReferenceIdeal.Read.val_main_v80 (F := Ideal)) (hagree c)

end Cert.Proof.Rope
-- ==== Proof.GlaGateValue.lean ====
module

public import proofs.«01_k».proof.Proof.Gen.GlaGateIdeal.Value
public import proofs.«01_k».proof.Proof.Gen.GlaGateReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaGateIdeal.ValueProof

open Cert.GlaGateIdeal Cert.GlaGateIdeal.Gen

variable (m : (ℓ : Loc nD τ sig) → Buf (Elt Ideal) ℓ)

/-- The reference's term over the kernel's argument arrays. -/
abbrev REF (x0 : FVec Ideal S24576x4096 .bf16) (x1 : FVec Ideal S2x4096x9248 .f32) : FVec Ideal S24576x128 .bf16 :=
  Cert.GlaGateReferenceIdeal.Read.val_main_v6 (F := Ideal) x0 x1

theorem idx : ∀ t : Fin cfg0.N, win0_0.index t = ![t.val, 0] ∧ win0_1.index t = ![0, 0, 0] ∧ win0_2.index t = ![t.val, 0] :=
  (by decide +kernel : ∀ t : Fin grid0.N, _)

theorem int_zero : (FloatOps.sitofp .f32 (0#32) : Ideal .f32) = (0 : EReal) := by
  show ((((0#32 : BitVec 32).toInt : ℤ) : ℝ) : EReal) = 0
  simp

/-- The gate's weights of the first layer, with their columns continued by zeros. -/
def padded (x : FVec Ideal S2x4096x9248 .f32) (k : Fin 4096) (j : Fin 128) : EReal :=
  if h : j.val < 32 then x (ix3 0 k ⟨9216 + j.val, by omega⟩) else 0

theorem pad_col (x : FVec Ideal S2x4096x9248 .f32) (k : Fin 4096) (j : Fin 128) :
    (pad S2x4096x128 ![0, 0, 0] ![0, 0, 96] ![0, 0, 0] (extractStridedSlice S2x4096x32 ![0, 0, 9216] x slices_S2x4096x9248_S2x4096x32_0_0_9216) (sitofp (F := Ideal) .f32 (constantI S_ 32 0#32)) pads_S2x4096x32_S2x4096x128_000_000_0960 h_S_ : FVec Ideal S2x4096x128 .f32) (ix3 0 k j) = padded x k j := by
  pointwise [padded, int_zero]

theorem V_main_v2 (c : Dev nD) (k : Fin 4096) (j : Fin 128) : V m c main_v2 (ix3 0 k j) = padded (m ((c : Thread nD τ).loc main_arg1)) k j := by
  simp only [V, hostOps0, hostOps0_1, hostOps0_2, List.flatten_cons, List.flatten_nil, List.append_nil, List.cons_append, List.nil_append]
  entry_read
  exact pad_col _ k j

/-- The weight block of a point, read at an index. -/
theorem wblk (c : Dev nD) (t : Fin cfg0.N) (k : Fin 4096) (j : Fin 128) :
    iblk m c 1 t (ix3 0 k j) = padded (m ((c : Thread nD τ).loc main_arg1)) k j := by
  unfold iblk
  refine Eq.trans ?_ (V_main_v2 m c k j)
  blk_ext [idx t]

/-- What a point stores is the reference's term at the index its block puts it. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  idx_vars y
  pointwise [k0_pay1, REF, Cert.GlaGateReferenceIdeal.Read.val_main_v6, Cert.GlaGateReferenceIdeal.Read.val_main_v5, Cert.GlaGateReferenceIdeal.Read.val_main_call0_v0, Cert.GlaGateReferenceIdeal.Read.val_main_c, Cert.GlaGateReferenceIdeal.Read.val_main_v4, Cert.GlaGateReferenceIdeal.Read.val_main_v3, Cert.GlaGateReferenceIdeal.Read.val_main_v2, Cert.GlaGateReferenceIdeal.Read.val_main_v1, Cert.GlaGateReferenceIdeal.Read.val_main_v0]
  simp only [wblk m c t]
  have hc : (((cfg0.win 2).blk t).view.emb (ix2 y0 y1) 1).val = y1.val := by blk_simp [idx t]
  by_cases h : y1.val < 32
  · simp only [padded, dif_pos h, hc]
    blk_point [iblk, V, idx t]
  · simp only [padded, dif_neg h, hc]
    simp [mul_zero, int_zero]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GlaGateIdeal.ValueProof

end
-- ==== Proof.GlaGateClaim.lean ====
module

public import proofs.«01_k».proof.Defs
public import proofs.«01_k».proof.Proof.Gen.GlaGate
public import proofs.«01_k».proof.Proof.Gen.GlaGate.Frame
public import proofs.«01_k».proof.Proof.Gen.GlaGateIdeal
public import proofs.«01_k».proof.Proof.Gen.GlaGateIdeal.Frame
public import proofs.«01_k».proof.Proof.Gen.GlaGateReferenceIdeal
public import proofs.«01_k».proof.Proof.Gen.GlaGateReferenceIdeal.Run
public import proofs.«01_k».proof.Proof.GlaGateValue
public import Idealize.ShloMosaic.Lib.Claim
public import Idealize.ShloMosaic.Lib.Quiescent

@[expose] public section

set_option maxRecDepth 16384

noncomputable section

open Idealize.ShloMosaic Idealize.SL.Sem

namespace Cert.Proof.GlaGate

theorem frame_kernel : Cert.quiescent_GlaGate := fun m ρ _ => Cert.GlaGate.Gen.frame m ρ

theorem frame_ideal : Cert.quiescent_GlaGateIdeal := fun m ρ _ => Cert.GlaGateIdeal.Gen.frame m ρ

theorem frame_reference : Cert.quiescent_GlaGateReferenceIdeal := fun m g _ =>
  (θ_run _ _ _).mono (fun r h => ⟨fun c => (h c).2, sem_eq_zero_of_no_sems (by decide) r.2⟩) (Cert.GlaGateReferenceIdeal.Value.run m g)

set_option maxHeartbeats 1600000 in
theorem algebraic : Cert.algebraic_GlaGateIdeal_GlaGateReferenceIdeal := by
  pair_intro
  · run_from Cert.GlaGateIdeal.Gen.run_main m g
    exact Cert.GlaGateIdeal.Gen.V_main_arg1 m c
  · run_from Cert.GlaGateReferenceIdeal.Value.run m' g'
    exact (Cert.GlaGateIdeal.ValueProof.final m c).symm

end Cert.Proof.GlaGate
-- ==== Proof.GlaPostValue.lean ====
module

public import proofs.«01_k».proof.Proof.Gen.GlaPostIdeal.Value
public import proofs.«01_k».proof.Proof.Gen.GlaPostReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaPostIdeal.ValueProof

open Cert.GlaPostIdeal Cert.GlaPostIdeal.Gen

variable (m : (ℓ : Loc nD τ sig) → Buf (Elt Ideal) ℓ)

/-- The reference's term over the kernel's argument arrays. -/
abbrev REF (x0 x1 : FVec Ideal S16384x1024 .f32) (x2 : FVec Ideal S24576x9216 .bf16) (x3 : FVec Ideal S2x256 .f32) : FVec Ideal S16384x1024 .bf16 :=
  Cert.GlaPostReferenceIdeal.Read.val_main_v23 (F := Ideal) x0 x1 x2 x3

/-- An entry of a head: the row `o`, divided by its root mean square, times the scale `g` and the gate of `r`. -/
def entry (o : Fin 256 → EReal) (x g r : EReal) : EReal :=
  x * Ideal.rsqrt (Ideal.div (∑ k, o k * o k) (Ideal.ofBits .f32 1132462080#32) + Ideal.ofBits .f32 897988541#32) * g * (r * Ideal.logistic r)

theorem ref_apply (x0 x1 : FVec Ideal S16384x1024 .f32) (x2 : FVec Ideal S24576x9216 .bf16) (x3 : FVec Ideal S2x256 .f32) (r : Fin 16384) (j : Fin 1024) :
    REF x0 x1 x2 x3 (ix2 r j) = entry (fun k => x0 (ix2 r ⟨j.val / 256 * 256 + k.val, by omega⟩) + x1 (ix2 r ⟨j.val / 256 * 256 + k.val, by omega⟩))
      (x0 (ix2 r j) + x1 (ix2 r j)) (x3 (ix2 0 ⟨j.val % 256, by omega⟩)) (x2 (ix2 ⟨r.val, by omega⟩ ⟨8192 + j.val, by omega⟩)) := by
  pointwise [REF, Cert.GlaPostReferenceIdeal.Read.val_main_v23, Cert.GlaPostReferenceIdeal.Read.val_main_v22, Cert.GlaPostReferenceIdeal.Read.val_main_v21, Cert.GlaPostReferenceIdeal.Read.val_main_v20, Cert.GlaPostReferenceIdeal.Read.val_main_call0_v5, Cert.GlaPostReferenceIdeal.Read.val_main_call0_v4, Cert.GlaPostReferenceIdeal.Read.val_main_call0_cst_0, Cert.GlaPostReferenceIdeal.Read.val_main_call0_v3, Cert.GlaPostReferenceIdeal.Read.val_main_call0_v2, Cert.GlaPostReferenceIdeal.Read.val_main_call0_cst, Cert.GlaPostReferenceIdeal.Read.val_main_call0_v1, Cert.GlaPostReferenceIdeal.Read.val_main_call0_v0, Cert.GlaPostReferenceIdeal.Read.val_main_v19, Cert.GlaPostReferenceIdeal.Read.val_main_v18, Cert.GlaPostReferenceIdeal.Read.val_main_v17, Cert.GlaPostReferenceIdeal.Read.val_main_v16, Cert.GlaPostReferenceIdeal.Read.val_main_v15, Cert.GlaPostReferenceIdeal.Read.val_main_v14, Cert.GlaPostReferenceIdeal.Read.val_main_v13, Cert.GlaPostReferenceIdeal.Read.val_main_v12, Cert.GlaPostReferenceIdeal.Read.val_main_v11, Cert.GlaPostReferenceIdeal.Read.val_main_v10, Cert.GlaPostReferenceIdeal.Read.val_main_v9, Cert.GlaPostReferenceIdeal.Read.val_main_cst_1, Cert.GlaPostReferenceIdeal.Read.val_main_v8, Cert.GlaPostReferenceIdeal.Read.val_main_v7, Cert.GlaPostReferenceIdeal.Read.val_main_cst_0, Cert.GlaPostReferenceIdeal.Read.val_main_v6, Cert.GlaPostReferenceIdeal.Read.val_main_v5, Cert.GlaPostReferenceIdeal.Read.val_main_cst, Cert.GlaPostReferenceIdeal.Read.val_main_v4, Cert.GlaPostReferenceIdeal.Read.val_main_v3, Cert.GlaPostReferenceIdeal.Read.val_main_v2, Cert.GlaPostReferenceIdeal.Read.val_main_v1, Cert.GlaPostReferenceIdeal.Read.val_main_v0]
  simp only [entry, Ideal.logistic]

/-- The four stored blocks have one form. -/
theorem head_at (g : Vec Ideal S1x256 .f32) (a b : Vec Ideal S256x256 .f32) (u : Vec Ideal S256x256 .bf16) (r j : Fin 256) :
    k0_pay3 g a b u (ix2 r j) = entry (fun k => a (ix2 r k) + b (ix2 r k)) (a (ix2 r j) + b (ix2 r j)) (g (ix2 0 j)) (u (ix2 r j)) := by
  pointwise [k0_pay3, k0_pay2, entry]

theorem head6 (g : Vec Ideal S1x256 .f32) (a b : Vec Ideal S256x256 .f32) (u : Vec Ideal S256x256 .bf16) :
    k0_pay6 (k0_pay4 a b) (k0_pay5 g) u = k0_pay3 (F := Ideal) g a b u := rfl

theorem head7 (g : Vec Ideal S1x256 .f32) (a b : Vec Ideal S256x256 .f32) (u : Vec Ideal S256x256 .bf16) :
    k0_pay7 (k0_pay2 g) a b u = k0_pay3 (F := Ideal) g a b u := rfl

theorem head1 (g : Vec Ideal S1x256 .f32) (a b : Vec Ideal S256x256 .f32) (u : Vec Ideal S256x256 .bf16) :
    k0_pay1 (k0_pay2 g) (k0_pay8 a b) (k0_pay9 a b) (k0_pay10 (F := Ideal)) u = k0_pay3 (F := Ideal) g a b u := rfl

theorem idx : ∀ t : Fin cfg0.N, win0_0.index t = ![t.val, 0] ∧ win0_1.index t = ![t.val, 0] ∧ win0_2.index t = ![t.val, 8] ∧ win0_3.index t = ![0, 0] ∧ win0_4.index t = ![t.val, 0] :=
  (by decide +kernel : ∀ t : Fin grid0.N, _)

/-- The scales the region reads are the first layer's, as one row. -/
theorem V_main_v2 (c : Dev nD) (j : Fin 256) : V m c main_v2 (ix2 0 j) = m ((c : Thread nD τ).loc main_arg3) (ix2 0 j) := by
  entry_read
  pointwise [shapeCast, extractStridedSlice]
  exact congrArg (m ((c : Thread nD τ).loc main_arg3)) (by funext a; refine Fin.ext ?_; fin_cases a <;> simp)

/-- A head's columns of a block. -/
theorem cols_at {e : EltTy} (X : Vec Ideal S256x1024 e) (s : ℕ) (h) (r k : Fin 256) :
    (View.ld X (Rect.unit (s := S256x1024) ![0, s] ![256, 256] h) : Vec Ideal S256x256 e) (ix2 r k) = X (ix2 r (Fin.ofNat 1024 (s + k.val))) := by
  have hs : s + 256 ≤ 1024 := by have := h 1; simpa using this
  rw [View.ld_apply]
  refine congrArg X ?_
  funext a; refine Fin.ext ?_; fin_cases a
  · exact (Rect.idx_unit_val _ _ _ _ _).trans (Nat.zero_add _)
  · exact (Rect.idx_unit_val _ _ _ _ _).trans (Nat.mod_eq_of_lt (by show s + k.val < 1024; omega)).symm

theorem entry_congr {o o' : Fin 256 → EReal} {x x' g g' r r' : EReal} (ho : ∀ k, o k = o' k) (hx : x = x') (hg : g = g') (hr : r = r') :
    entry o x g r = entry o' x' g' r' := by
  rw [funext ho, hx, hg, hr]

/-- An entry of the block a point stores, from the blocks it reads. -/
def blockEntry (a b : FVec Ideal S256x1024 .f32) (u : FVec Ideal S256x1024 .bf16) (g : FVec Ideal S1x256 .f32) (r : Fin 256) (j : Fin 1024) : EReal :=
  entry (fun k => a (ix2 r (Fin.ofNat 1024 (j.val / 256 * 256 + k.val))) + b (ix2 r (Fin.ofNat 1024 (j.val / 256 * 256 + k.val))))
    (a (ix2 r j) + b (ix2 r j)) (g (ix2 0 (Fin.ofNat 256 j.val))) (u (ix2 r j))

theorem head_cols (a b : FVec Ideal S256x1024 .f32) (u : FVec Ideal S256x1024 .bf16) (g : FVec Ideal S1x256 .f32) (s : ℕ) (hs : s % 256 = 0) (h)
    {r r' k : Fin 256} {j : Fin 1024} (hr : r'.val = r.val) (hj : j.val = s + k.val) :
    k0_pay3 (F := Ideal) g (View.ld a (Rect.unit (s := S256x1024) ![0, s] ![256, 256] h)) (View.ld b (Rect.unit (s := S256x1024) ![0, s] ![256, 256] h))
      (View.ld u (Rect.unit (s := S256x1024) ![0, s] ![256, 256] h)) (ix2 r k) = blockEntry a b u g r' j := by
  obtain rfl : r' = r := Fin.ext hr
  have e : Fin.ofNat 1024 (s + k.val) = j := Fin.ext ((Nat.mod_eq_of_lt (by omega)).trans hj.symm)
  have q : j.val / 256 * 256 = s := by omega
  have e' : (Fin.ofNat 256 j.val : Fin 256) = k := Fin.ext (by show j.val % 256 = k.val; omega)
  rw [head_at, blockEntry, e', q]
  refine entry_congr (fun l => congrArg₂ (· + ·) (cols_at (e := .f32) a s h r' l) (cols_at (e := .f32) b s h r' l)) (congrArg₂ (· + ·) ?_ ?_) rfl ?_
  · exact (cols_at (e := .f32) a s h r' k).trans (by rw [e])
  · exact (cols_at (e := .f32) b s h r' k).trans (by rw [e])
  · exact (cols_at (e := .bf16) u s h r' k).trans (by rw [e])

theorem pay11 (a b : FVec Ideal S256x1024 .f32) (u : FVec Ideal S256x1024 .bf16) (g : FVec Ideal S1x256 .f32) : k0_pay11 a b u g = k0_pay2 (F := Ideal) g := by
  unfold k0_pay11
  frame_out

/-- What a point stores, at an index of its block. -/
theorem block_at (a b : FVec Ideal S256x1024 .f32) (u : FVec Ideal S256x1024 .bf16) (g : FVec Ideal S1x256 .f32) (y : S256x1024.Idx) :
    out0_4 (F := Ideal) a b u g y = blockEntry a b u g (y 0) (y 1) := by
  frame_out
  canon_tiles x h
  all_goals idx_vars x
  · refine Eq.trans ?_ (head_cols a b u g 768 rfl inb_S256x1024_S256x256_0_768 h0 h1)
    rw [pay11]
    exact congrFun (head1 g _ _ _) _
  · refine Eq.trans ?_ (head_cols a b u g 512 rfl inb_S256x1024_S256x256_0_512 h0 h1)
    rw [pay11]
    exact congrFun (head7 g _ _ _) _
  · refine Eq.trans ?_ (head_cols a b u g 256 rfl inb_S256x1024_S256x256_0_256 h0 h1)
    exact congrFun (head6 g _ _ _) _
  · exact head_cols a b u g 0 rfl inb_S256x1024_S256x256_0_0 h0 (h1.trans (Nat.zero_add _).symm)

theorem blk0 (c : Dev nD) (t : Fin cfg0.N) (r : Fin 256) (j : Fin 1024) :
    (iblk m c 0 t : FVec Ideal S256x1024 .f32) (ix2 r j) = m ((c : Thread nD τ).loc main_arg0) (ix2 ⟨t.val * 256 + r.val, by have ht : t.val < 64 := t.isLt; omega⟩ j) := by
  blk_ext [iblk, V, idx t]

theorem blk1 (c : Dev nD) (t : Fin cfg0.N) (r : Fin 256) (j : Fin 1024) :
    (iblk m c 1 t : FVec Ideal S256x1024 .f32) (ix2 r j) = m ((c : Thread nD τ).loc main_arg1) (ix2 ⟨t.val * 256 + r.val, by have ht : t.val < 64 := t.isLt; omega⟩ j) := by
  blk_ext [iblk, V, idx t]

theorem blk2 (c : Dev nD) (t : Fin cfg0.N) (r : Fin 256) (j : Fin 1024) :
    (iblk m c 2 t : FVec Ideal S256x1024 .bf16) (ix2 r j) = m ((c : Thread nD τ).loc main_arg2) (ix2 ⟨t.val * 256 + r.val, by have ht : t.val < 64 := t.isLt; omega⟩ ⟨8192 + j.val, by omega⟩) := by
  blk_ext [iblk, V, idx t]

theorem blk3 (c : Dev nD) (t : Fin cfg0.N) (j : Fin 256) :
    (iblk m c 3 t : FVec Ideal S1x256 .f32) (ix2 0 j) = m ((c : Thread nD τ).loc main_arg3) (ix2 0 j) := by
  refine Eq.trans ?_ (V_main_v2 m c j)
  blk_point [iblk, idx t]

theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  refine (block_at _ _ _ _ _).trans ?_
  idx_vars y
  have ht : t.val < 64 := t.isLt
  have e : (((cfg0.win 4).blk t).view.emb (ix2 y0 y1) : S16384x1024.Idx) = ix2 ⟨t.val * 256 + y0.val, by omega⟩ y1 := by
    blk_ext [idx t]
  refine Eq.trans ?_ (congrArg (REF _ _ _ _) e.symm)
  rw [ref_apply]
  have f (k : Fin 256) : Fin.ofNat 1024 (y1.val / 256 * 256 + k.val) = ⟨y1.val / 256 * 256 + k.val, by omega⟩ := Fin.ext (Nat.mod_eq_of_lt (by omega))
  refine entry_congr (fun k => ?_) ?_ ?_ ?_
  · rw [← f k]
    exact congrArg₂ (· + ·) (blk0 m c t _ _) (blk1 m c t _ _)
  · exact congrArg₂ (· + ·) (blk0 m c t _ _) (blk1 m c t _ _)
  · exact blk3 m c t _
  · exact blk2 m c t _ _

end Cert.GlaPostIdeal.ValueProof

end
-- ==== Proof.GlaPostClaim.lean ====
module

public import proofs.«01_k».proof.Defs
public import proofs.«01_k».proof.Proof.Gen.GlaPost
public import proofs.«01_k».proof.Proof.Gen.GlaPost.Frame
public import proofs.«01_k».proof.Proof.Gen.GlaPostIdeal
public import proofs.«01_k».proof.Proof.Gen.GlaPostIdeal.Frame
public import proofs.«01_k».proof.Proof.Gen.GlaPostReferenceIdeal
public import proofs.«01_k».proof.Proof.Gen.GlaPostReferenceIdeal.Run
public import proofs.«01_k».proof.Proof.GlaPostValue
public import Idealize.ShloMosaic.Lib.Claim
public import Idealize.ShloMosaic.Lib.Quiescent

@[expose] public section

set_option maxRecDepth 16384

noncomputable section

open Idealize.ShloMosaic Idealize.SL.Sem

namespace Cert.Proof.GlaPost

theorem frame_kernel : Cert.quiescent_GlaPost := fun m ρ _ => Cert.GlaPost.Gen.frame m ρ

theorem frame_ideal : Cert.quiescent_GlaPostIdeal := fun m ρ _ => Cert.GlaPostIdeal.Gen.frame m ρ

theorem frame_reference : Cert.quiescent_GlaPostReferenceIdeal := fun m g _ =>
  (θ_run _ _ _).mono (fun r h => ⟨fun c => (h c).2, sem_eq_zero_of_no_sems (by decide) r.2⟩) (Cert.GlaPostReferenceIdeal.Value.run m g)

set_option maxHeartbeats 1600000 in
theorem algebraic : Cert.algebraic_GlaPostIdeal_GlaPostReferenceIdeal := by
  pair_intro
  · run_from Cert.GlaPostIdeal.Gen.run_main m g
  · run_from Cert.GlaPostReferenceIdeal.Value.run m' g'
    exact (Cert.GlaPostIdeal.ValueProof.final m c).symm

end Cert.Proof.GlaPost
-- ==== Proof.lean ====
module

public import proofs.«01_k».proof.Defs
public import proofs.«01_k».proof.Proof.AttentionClaim
public import proofs.«01_k».proof.Proof.MergeClaim
public import proofs.«01_k».proof.Proof.MoeUpClaim
public import proofs.«01_k».proof.Proof.FfnUpClaim
public import proofs.«01_k».proof.Proof.InProjClaim
public import proofs.«01_k».proof.Proof.OutProjClaim
public import proofs.«01_k».proof.Proof.MoeDownClaim
public import proofs.«01_k».proof.Proof.FfnDownClaim
public import proofs.«01_k».proof.Proof.NormPromptClaim
public import proofs.«01_k».proof.Proof.NormSampleClaim
public import proofs.«01_k».proof.Proof.NormMixersClaim
public import proofs.«01_k».proof.Proof.ConvClaim
public import proofs.«01_k».proof.Proof.RopeClaim
public import proofs.«01_k».proof.Proof.GlaGateClaim
public import proofs.«01_k».proof.Proof.GlaPostClaim

@[expose] public section

noncomputable section

namespace Cert.Proof

theorem claim : Cert.Claim :=
  ⟨Cert.Kernel.Gen.facts,
    Cert.KernelIdeal.Gen.facts,
    Cert.ReferenceIdeal.Gen.facts,
    Cert.Merge.Gen.facts,
    Cert.MergeIdeal.Gen.facts,
    Cert.MergeReferenceIdeal.Gen.facts,
    Cert.MoeUp.Gen.facts,
    Cert.MoeUpIdeal.Gen.facts,
    Cert.MoeUpReferenceIdeal.Gen.facts,
    Cert.FfnUp.Gen.facts,
    Cert.FfnUpIdeal.Gen.facts,
    Cert.FfnUpReferenceIdeal.Gen.facts,
    Cert.InProj.Gen.facts,
    Cert.InProjIdeal.Gen.facts,
    Cert.InProjReferenceIdeal.Gen.facts,
    Cert.OutProj.Gen.facts,
    Cert.OutProjIdeal.Gen.facts,
    Cert.OutProjReferenceIdeal.Gen.facts,
    Cert.MoeDown.Gen.facts,
    Cert.MoeDownIdeal.Gen.facts,
    Cert.MoeDownReferenceIdeal.Gen.facts,
    Cert.FfnDown.Gen.facts,
    Cert.FfnDownIdeal.Gen.facts,
    Cert.FfnDownReferenceIdeal.Gen.facts,
    Cert.NormPrompt.Gen.facts,
    Cert.NormPromptIdeal.Gen.facts,
    Cert.NormPromptReferenceIdeal.Gen.facts,
    Cert.NormSample.Gen.facts,
    Cert.NormSampleIdeal.Gen.facts,
    Cert.NormSampleReferenceIdeal.Gen.facts,
    Cert.NormMixers.Gen.facts,
    Cert.NormMixersIdeal.Gen.facts,
    Cert.NormMixersReferenceIdeal.Gen.facts,
    Cert.Conv.Gen.facts,
    Cert.ConvIdeal.Gen.facts,
    Cert.ConvReferenceIdeal.Gen.facts,
    Cert.Rope.Gen.facts,
    Cert.RopeIdeal.Gen.facts,
    Cert.RopeReferenceIdeal.Gen.facts,
    Cert.GlaGate.Gen.facts,
    Cert.GlaGateIdeal.Gen.facts,
    Cert.GlaGateReferenceIdeal.Gen.facts,
    Cert.GlaPost.Gen.facts,
    Cert.GlaPostIdeal.Gen.facts,
    Cert.GlaPostReferenceIdeal.Gen.facts,
    Cert.Pre_finite.facts,
    Attention.frame_kernel,
    Attention.frame_ideal,
    Attention.frame_ideal_finite,
    Attention.frame_reference,
    Attention.frame_reference_finite,
    Merge.frame_kernel,
    Merge.frame_ideal,
    Merge.frame_reference,
    MoeUp.frame_kernel,
    MoeUp.frame_ideal,
    MoeUp.frame_reference,
    FfnUp.frame_kernel,
    FfnUp.frame_ideal,
    FfnUp.frame_reference,
    InProj.frame_kernel,
    InProj.frame_ideal,
    InProj.frame_reference,
    OutProj.frame_kernel,
    OutProj.frame_ideal,
    OutProj.frame_reference,
    MoeDown.frame_kernel,
    MoeDown.frame_ideal,
    MoeDown.frame_reference,
    FfnDown.frame_kernel,
    FfnDown.frame_ideal,
    FfnDown.frame_reference,
    NormPrompt.frame_kernel,
    NormPrompt.frame_ideal,
    NormPrompt.frame_reference,
    NormSample.frame_kernel,
    NormSample.frame_ideal,
    NormSample.frame_reference,
    NormMixers.frame_kernel,
    NormMixers.frame_ideal,
    NormMixers.frame_reference,
    Conv.frame_kernel,
    Conv.frame_ideal,
    Conv.frame_reference,
    Rope.frame_kernel,
    Rope.frame_ideal,
    Rope.frame_reference,
    GlaGate.frame_kernel,
    GlaGate.frame_ideal,
    GlaGate.frame_reference,
    GlaPost.frame_kernel,
    GlaPost.frame_ideal,
    GlaPost.frame_reference,
    trivial,
    Attention.algebraic,
    trivial,
    Merge.algebraic,
    trivial,
    MoeUp.algebraic,
    trivial,
    FfnUp.algebraic,
    trivial,
    InProj.algebraic,
    trivial,
    OutProj.algebraic,
    trivial,
    MoeDown.algebraic,
    trivial,
    FfnDown.algebraic,
    trivial,
    NormPrompt.algebraic,
    trivial,
    NormSample.algebraic,
    trivial,
    NormMixers.algebraic,
    trivial,
    Conv.algebraic,
    trivial,
    Rope.algebraic,
    trivial,
    GlaGate.algebraic,
    trivial,
    GlaPost.algebraic⟩

end Cert.Proof

end
